-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_args [hPre_finite_args : Cert.Pre_finite_args.Facts] (m : (ℓ : Loc Cert.MixIdeal.nD Cert.MixIdeal.τ Cert.MixIdeal.sig) → Buf (Elt Ideal) ℓ) : Prop :=
  ∀ c : Dev Cert.MixIdeal.nD,
    (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2.2.1 = (fun _ => 1#1)
    ∧ (Cert.Pre_finite_args.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_args [hPre_finite_args : Cert.Pre_finite_args.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.2.2.1 = (fun _ => 1#1)
    ∧ (Cert.Pre_finite_args.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_finite_logits [hPre_finite_logits : Cert.Pre_finite_logits.Facts] (m : (ℓ : Loc Cert.LbIdeal.nD Cert.LbIdeal.τ Cert.LbIdeal.sig) → Buf (Elt Ideal) ℓ) : Prop :=
  ∀ c : Dev Cert.LbIdeal.nD,
    (Cert.Pre_finite_logits.fn (F := Ideal) (m ((c.tc : Thread Cert.LbIdeal.nD Cert.LbIdeal.τ).loc Cert.LbIdeal.main_arg0))) = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_finite_logits [hPre_finite_logits : Cert.Pre_finite_logits.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_finite_logits.fn (F := Ideal) (m ((c.tc : Thread Cert.LbRefIdeal.nD Cert.LbRefIdeal.τ).loc Cert.LbRefIdeal.main_arg0))) = (fun _ => 1#1)

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_bounds_in_unit [hPre_bounds_in_unit : Cert.Pre_bounds_in_unit.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_bounds_in_unit.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).1 = (fun _ => 1#1)
    ∧ (Cert.Pre_bounds_in_unit.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.1 = (fun _ => 1#1)
    ∧ (Cert.Pre_bounds_in_unit.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.2 = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_bounds_in_unit [hPre_bounds_in_unit : Cert.Pre_bounds_in_unit.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_bounds_in_unit.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).1 = (fun _ => 1#1)
    ∧ (Cert.Pre_bounds_in_unit.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.1 = (fun _ => 1#1)
    ∧ (Cert.Pre_bounds_in_unit.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.2 = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_words_in_range [hPre_words_in_range : Cert.Pre_words_in_range.Facts] (m : (ℓ : Loc Cert.SelectIdeal.nD Cert.SelectIdeal.τ Cert.SelectIdeal.sig) → Buf (Elt Ideal) ℓ) : Prop :=
  ∀ c : Dev Cert.SelectIdeal.nD,
    (Cert.Pre_words_in_range.fn (F := Ideal) (m ((c.tc : Thread Cert.SelectIdeal.nD Cert.SelectIdeal.τ).loc Cert.SelectIdeal.main_arg0))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_words_in_range [hPre_words_in_range : Cert.Pre_words_in_range.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_words_in_range.fn (F := Ideal) (m ((c.tc : Thread Cert.SelectRefIdeal.nD Cert.SelectRefIdeal.τ).loc Cert.SelectRefIdeal.main_arg0))) = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_finite_args [hMixIdeal : Cert.MixIdeal.Facts] [hPre_finite_args : Cert.Pre_finite_args.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_args m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_finite_args [hMixRefIdeal : Cert.MixRefIdeal.Facts] [hPre_finite_args : Cert.Pre_finite_args.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_args m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ r.2.sem = fun _ => 0)

def quiescent_LbIdeal_pre_finite_logits [hLbIdeal : Cert.LbIdeal.Facts] [hPre_finite_logits : Cert.Pre_finite_logits.Facts] : Prop :=
  ∀ (m : (ℓ : Loc Cert.LbIdeal.nD Cert.LbIdeal.τ Cert.LbIdeal.sig) → Buf (Elt Ideal) ℓ) (g : Dev Cert.LbIdeal.nD → PrngReg), Pre_LbIdeal_finite_logits m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0))
      ∧ r.2.sem = fun _ => 0)

def quiescent_LbRefIdeal_pre_finite_logits [hLbRefIdeal : Cert.LbRefIdeal.Facts] [hPre_finite_logits : Cert.Pre_finite_logits.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_finite_logits m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_bounds_in_unit [hHgrnIdeal : Cert.HgrnIdeal.Facts] [hPre_bounds_in_unit : Cert.Pre_bounds_in_unit.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_bounds_in_unit m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_bounds_in_unit [hHgrnRefIdeal : Cert.HgrnRefIdeal.Facts] [hPre_bounds_in_unit : Cert.Pre_bounds_in_unit.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_bounds_in_unit m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_words_in_range [hSelectIdeal : Cert.SelectIdeal.Facts] [hPre_words_in_range : Cert.Pre_words_in_range.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_words_in_range m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def quiescent_SelectRefIdeal_pre_words_in_range [hSelectRefIdeal : Cert.SelectRefIdeal.Facts] [hPre_words_in_range : Cert.Pre_words_in_range.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_words_in_range m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def preserves_Mix_MixIdeal : Prop :=
  True

def algebraic_MixIdeal_MixRefIdeal_pre_finite_args [hMixIdeal : Cert.MixIdeal.Facts] [hMixRefIdeal : Cert.MixRefIdeal.Facts] [hPre_finite_args : Cert.Pre_finite_args.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_args m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)) (v2 : (c : Dev Cert.MixIdeal.nD) → Buf (Elt Ideal) ((c.tc : Thread Cert.MixIdeal.nD Cert.MixIdeal.τ).loc Cert.MixIdeal.main_v7_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_v7_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v21) = v0 c
          ∧ r.2.mem ((c.tc : Thread Cert.MixRefIdeal.nD Cert.MixRefIdeal.τ).loc Cert.MixRefIdeal.main_v49) = v1 c
          ∧ r.2.mem ((c.tc : Thread Cert.MixRefIdeal.nD Cert.MixRefIdeal.τ).loc Cert.MixRefIdeal.main_v50) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v66) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Lb_LbIdeal : Prop :=
  True

def algebraic_LbIdeal_LbRefIdeal_pre_finite_logits [hLbIdeal : Cert.LbIdeal.Facts] [hLbRefIdeal : Cert.LbRefIdeal.Facts] [hPre_finite_logits : Cert.Pre_finite_logits.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_finite_logits m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v14) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0))

def preserves_Hgrn_HgrnIdeal : Prop :=
  True

def algebraic_HgrnIdeal_HgrnRefIdeal_pre_bounds_in_unit [hHgrnIdeal : Cert.HgrnIdeal.Facts] [hHgrnRefIdeal : Cert.HgrnRefIdeal.Facts] [hPre_bounds_in_unit : Cert.Pre_bounds_in_unit.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_bounds_in_unit m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v137) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Select_SelectIdeal : Prop :=
  True

def algebraic_SelectIdeal_SelectRefIdeal_pre_words_in_range [hSelectIdeal : Cert.SelectIdeal.Facts] [hSelectRefIdeal : Cert.SelectRefIdeal.Facts] [hPre_words_in_range : Cert.Pre_words_in_range.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_words_in_range m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v28) = v0 c
          ∧ r.2.mem ((c.tc : Thread Cert.SelectRefIdeal.nD Cert.SelectRefIdeal.τ).loc Cert.SelectRefIdeal.main_v47) = v1 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0))

def Claim : Prop :=
  ∃ (hMix : Cert.Mix.Facts) (hMixIdeal : Cert.MixIdeal.Facts) (hMixRefIdeal : Cert.MixRefIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hLb : Cert.Lb.Facts) (hLbIdeal : Cert.LbIdeal.Facts) (hLbRefIdeal : Cert.LbRefIdeal.Facts) (hHgrn : Cert.Hgrn.Facts) (hHgrnIdeal : Cert.HgrnIdeal.Facts) (hHgrnRefIdeal : Cert.HgrnRefIdeal.Facts) (hSelect : Cert.Select.Facts) (hSelectIdeal : Cert.SelectIdeal.Facts) (hSelectRefIdeal : Cert.SelectRefIdeal.Facts) (hPre_finite_args : Cert.Pre_finite_args.Facts) (hPre_finite_logits : Cert.Pre_finite_logits.Facts) (hPre_bounds_in_unit : Cert.Pre_bounds_in_unit.Facts) (hPre_words_in_range : Cert.Pre_words_in_range.Facts),
    quiescent_Mix (hMix := hMix)
    ∧ quiescent_MixIdeal (hMixIdeal := hMixIdeal)
    ∧ quiescent_MixIdeal_pre_finite_args (hMixIdeal := hMixIdeal) (hPre_finite_args := hPre_finite_args)
    ∧ quiescent_MixRefIdeal (hMixRefIdeal := hMixRefIdeal)
    ∧ quiescent_MixRefIdeal_pre_finite_args (hMixRefIdeal := hMixRefIdeal) (hPre_finite_args := hPre_finite_args)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Lb (hLb := hLb)
    ∧ quiescent_LbIdeal (hLbIdeal := hLbIdeal)
    ∧ quiescent_LbIdeal_pre_finite_logits (hLbIdeal := hLbIdeal) (hPre_finite_logits := hPre_finite_logits)
    ∧ quiescent_LbRefIdeal (hLbRefIdeal := hLbRefIdeal)
    ∧ quiescent_LbRefIdeal_pre_finite_logits (hLbRefIdeal := hLbRefIdeal) (hPre_finite_logits := hPre_finite_logits)
    ∧ quiescent_Hgrn (hHgrn := hHgrn)
    ∧ quiescent_HgrnIdeal (hHgrnIdeal := hHgrnIdeal)
    ∧ quiescent_HgrnIdeal_pre_bounds_in_unit (hHgrnIdeal := hHgrnIdeal) (hPre_bounds_in_unit := hPre_bounds_in_unit)
    ∧ quiescent_HgrnRefIdeal (hHgrnRefIdeal := hHgrnRefIdeal)
    ∧ quiescent_HgrnRefIdeal_pre_bounds_in_unit (hHgrnRefIdeal := hHgrnRefIdeal) (hPre_bounds_in_unit := hPre_bounds_in_unit)
    ∧ quiescent_Select (hSelect := hSelect)
    ∧ quiescent_SelectIdeal (hSelectIdeal := hSelectIdeal)
    ∧ quiescent_SelectIdeal_pre_words_in_range (hSelectIdeal := hSelectIdeal) (hPre_words_in_range := hPre_words_in_range)
    ∧ quiescent_SelectRefIdeal (hSelectRefIdeal := hSelectRefIdeal)
    ∧ quiescent_SelectRefIdeal_pre_words_in_range (hSelectRefIdeal := hSelectRefIdeal) (hPre_words_in_range := hPre_words_in_range)
    ∧ preserves_Mix_MixIdeal
    ∧ algebraic_MixIdeal_MixRefIdeal_pre_finite_args (hMixIdeal := hMixIdeal) (hMixRefIdeal := hMixRefIdeal) (hPre_finite_args := hPre_finite_args)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Lb_LbIdeal
    ∧ algebraic_LbIdeal_LbRefIdeal_pre_finite_logits (hLbIdeal := hLbIdeal) (hLbRefIdeal := hLbRefIdeal) (hPre_finite_logits := hPre_finite_logits)
    ∧ preserves_Hgrn_HgrnIdeal
    ∧ algebraic_HgrnIdeal_HgrnRefIdeal_pre_bounds_in_unit (hHgrnIdeal := hHgrnIdeal) (hHgrnRefIdeal := hHgrnRefIdeal) (hPre_bounds_in_unit := hPre_bounds_in_unit)
    ∧ preserves_Select_SelectIdeal
    ∧ algebraic_SelectIdeal_SelectRefIdeal_pre_words_in_range (hSelectIdeal := hSelectIdeal) (hSelectRefIdeal := hSelectRefIdeal) (hPre_words_in_range := hPre_words_in_range)
-- ==== Pre_bounds_in_unit.lean ====
abbrev S32x2048x9216 : Shape := ⟨3, ![32, 2048, 9216]⟩
abbrev S2x1024 : Shape := ⟨2, ![2, 1024]⟩
abbrev S128 : Shape := ⟨1, ![128]⟩
abbrev S32x2048x4096 : Shape := ⟨3, ![32, 2048, 4096]⟩
abbrev S_ : Shape := ⟨0, ![]⟩

class Facts : Prop where
  slices_S32x2048x9216_S32x2048x4096_0_0_2048 : S32x2048x9216.Slices ![0, 0, 2048] S32x2048x4096
  bcast_S_S32x2048x4096 : S_.BroadcastsInDim S32x2048x4096 (![] : Fin 0 → Fin S32x2048x4096.rank)
  bcast_S_S2x1024 : S_.BroadcastsInDim S2x1024 (![] : Fin 0 → Fin S2x1024.rank)

variable [Facts]

def fn {F : FTy → Type} [FloatOps F] (main_arg0 : FVec F S32x2048x9216 .bf16) (main_arg1 : FVec F S2x1024 .f32) (main_arg2 : FVec F S128 .f32) : IVec S32x2048x4096 1 × IVec S2x1024 1 × IVec S2x1024 1 :=
  let main_v0 : FVec F S32x2048x4096 .bf16 := (extractStridedSlice S32x2048x4096 ![0, 0, 2048] · slices_S32x2048x9216_S32x2048x4096_0_0_2048) main_arg0
  let main_v1 : FVec F S32x2048x4096 .bf16 := Host.absf main_v0
  let main_cst : FVec F S_ .bf16 := constant S_ .bf16 0x7F80#16
  let main_v2 : FVec F S32x2048x4096 .bf16 := broadcastInDim S32x2048x4096 ![] bcast_S_S32x2048x4096 main_cst
  let main_v3 : IVec S32x2048x4096 1 := cmpf .olt main_v1 main_v2
  let main_cst_0 : FVec F S_ .f32 := constant S_ .f32 0x00000000#32
  let main_v4 : FVec F S2x1024 .f32 := broadcastInDim S2x1024 ![] bcast_S_S2x1024 main_cst_0
  let main_v5 : IVec S2x1024 1 := cmpf .oge main_arg1 main_v4
  let main_cst_1 : FVec F S_ .f32 := constant S_ .f32 0x3F800000#32
  let main_v6 : FVec F S2x1024 .f32 := broadcastInDim S2x1024 ![] bcast_S_S2x1024 main_cst_1
  let main_v7 : IVec S2x1024 1 := cmpf .ole main_arg1 main_v6
  (main_v3, main_v5, main_v7)
-- ==== Pre_finite_args.lean ====
abbrev S65536x9216 : Shape := ⟨2, ![65536, 9216]⟩
abbrev S65536x1024 : Shape := ⟨2, ![65536, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S65536x9216 : S_.BroadcastsInDim S65536x9216 (![] : Fin 0 → Fin S65536x9216.rank)
  bcast_S_S65536x1024 : S_.BroadcastsInDim S65536x1024 (![] : Fin 0 → Fin S65536x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn_part1 {F : FTy → Type} [FloatOps F] (main_arg6 : FVec F S1024x1024 .f32) (main_arg7 : FVec F S1024x1024 .f32) (main_arg8 : FVec F S1024 .f32) (main_arg9 : FVec F S1024x16 .f32) (main_v2 : IVec S65536x9216 1) (main_v5 : IVec S65536x1024 1) (main_v8 : IVec S65536x1024 1) (main_v11 : IVec S8x128x128 1) (main_v14 : IVec S8x128 1) (main_v17 : IVec S1024x1024 1) : IVec S65536x9216 1 × IVec S65536x1024 1 × IVec S65536x1024 1 × IVec S8x128x128 1 × IVec S8x128 1 × IVec S1024x1024 1 × IVec S1024x1024 1 × IVec S1024x1024 1 × IVec S1024 1 × IVec S1024x16 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x16 .f32 := Host.absf main_arg9
  let main_cst_8 : FVec F S_ .f32 := constant S_ .f32 0x7F800000#32
  let main_v28 : FVec F S1024x16 .f32 := broadcastInDim S1024x16 ![] bcast_S_S1024x16 main_cst_8
  let main_v29 : IVec S1024x16 1 := cmpf .olt main_v27 main_v28
  (main_v2, main_v5, main_v8, main_v11, main_v14, main_v17, main_v20, main_v23, main_v26, main_v29)

def fn {F : FTy → Type} [FloatOps F] (main_arg0 : FVec F S65536x9216 .bf16) (main_arg1 : FVec F S65536x1024 .bf16) (main_arg2 : FVec F S65536x1024 .f32) (main_arg3 : FVec F S8x128x128 .f32) (main_arg4 : FVec F S8x128 .f32) (main_arg5 : FVec F S1024x1024 .f32) (main_arg6 : FVec F S1024x1024 .f32) (main_arg7 : FVec F S1024x1024 .f32) (main_arg8 : FVec F S1024 .f32) (main_arg9 : FVec F S1024x16 .f32) : IVec S65536x9216 1 × IVec S65536x1024 1 × IVec S65536x1024 1 × IVec S8x128x128 1 × IVec S8x128 1 × IVec S1024x1024 1 × IVec S1024x1024 1 × IVec S1024x1024 1 × IVec S1024 1 × IVec S1024x16 1 :=
  let main_v0 : FVec F S65536x9216 .bf16 := Host.absf main_arg0
  let main_cst : FVec F S_ .bf16 := constant S_ .bf16 0x7F80#16
  let main_v1 : FVec F S65536x9216 .bf16 := broadcastInDim S65536x9216 ![] bcast_S_S65536x9216 main_cst
  let main_v2 : IVec S65536x9216 1 := cmpf .olt main_v0 main_v1
  let main_v3 : FVec F S65536x1024 .bf16 := Host.absf main_arg1
  let main_cst_0 : FVec F S_ .bf16 := constant S_ .bf16 0x7F80#16
  let main_v4 : FVec F S65536x1024 .bf16 := broadcastInDim S65536x1024 ![] bcast_S_S65536x1024 main_cst_0
  let main_v5 : IVec S65536x1024 1 := cmpf .olt main_v3 main_v4
  let main_v6 : FVec F S65536x1024 .f32 := Host.absf main_arg2
  let main_cst_1 : FVec F S_ .f32 := constant S_ .f32 0x7F800000#32
  let main_v7 : FVec F S65536x1024 .f32 := broadcastInDim S65536x1024 ![] bcast_S_S65536x1024 main_cst_1
  let main_v8 : IVec S65536x1024 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_arg9 main_v2 main_v5 main_v8 main_v11 main_v14 main_v17
-- ==== Pre_finite_logits.lean ====
abbrev S2x4x1024 : Shape := ⟨3, ![2, 4, 1024]⟩
abbrev S_ : Shape := ⟨0, ![]⟩

class Facts : Prop where
  bcast_S_S2x4x1024 : S_.BroadcastsInDim S2x4x1024 (![] : Fin 0 → Fin S2x4x1024.rank)

variable [Facts]

def fn {F : FTy → Type} [FloatOps F] (main_arg0 : FVec F S2x4x1024 .f32) : IVec S2x4x1024 1 :=
  let main_v0 : FVec F S2x4x1024 .f32 := Host.absf main_arg0
  let main_cst : FVec F S_ .f32 := constant S_ .f32 0x7F800000#32
  let main_v1 : FVec F S2x4x1024 .f32 := broadcastInDim S2x4x1024 ![] bcast_S_S2x4x1024 main_cst
  let main_v2 : IVec S2x4x1024 1 := cmpf .olt main_v0 main_v1
  main_v2
-- ==== Pre_words_in_range.lean ====
abbrev S16x65536 : Shape := ⟨2, ![16, 65536]⟩
abbrev S_ : Shape := ⟨0, ![]⟩

class Facts : Prop where
  bcast_S_S16x65536 : S_.BroadcastsInDim S16x65536 (![] : Fin 0 → Fin S16x65536.rank)

variable [Facts]

def fn {F : FTy → Type} [FloatOps F] (main_arg0 : IVec S16x65536 32) : IVec S16x65536 1 :=
  let main_c : IVec S_ 32 := constantI S_ 32 0#32
  let main_v0 : IVec S16x65536 32 := broadcastInDim S16x65536 ![] bcast_S_S16x65536 main_c
  let main_v1 : IVec S16x65536 1 := cmpi .sge main_arg0 main_v0
  let main_c_0 : IVec S_ 32 := constantI S_ 32 2147483647#32
  let main_v2 : IVec S16x65536 32 := broadcastInDim S16x65536 ![] bcast_S_S16x65536 main_c_0
  let main_v3 : IVec S16x65536 1 := cmpi .slt main_arg0 main_v2
  let main_v4 : IVec S16x65536 1 := andi main_v1 main_v3
  main_v4
-- ==== Mix.lean ====
abbrev S65536x9216 : Shape := ⟨2, ![65536, 9216]⟩
abbrev S65536x1024 : Shape := ⟨2, ![65536, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x16 : Shape := ⟨2, ![1024, 16]⟩
abbrev S128x8 : Shape := ⟨2, ![128, 8]⟩
abbrev S1x1024 : Shape := ⟨2, ![1, 1024]⟩
abbrev S16x1024 : Shape := ⟨2, ![16, 1024]⟩
abbrev S65536x1152 : Shape := ⟨2, ![65536, 1152]⟩
abbrev S16x65536 : Shape := ⟨2, ![16, 65536]⟩
abbrev S512x1024 : Shape := ⟨2, ![512, 1024]⟩
abbrev S512x1152 : Shape := ⟨2, ![512, 1152]⟩
abbrev S16x512 : Shape := ⟨2, ![16, 512]⟩
abbrev S1x128x128 : Shape := ⟨3, ![1, 128, 128]⟩
abbrev S128x128 : Shape := ⟨2, ![128, 128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S80x512 : Shape := ⟨2, ![80, 512]⟩
abbrev S128x512 : Shape := ⟨2, ![128, 512]⟩
abbrev S512x128 : Shape := ⟨2, ![512, 128]⟩

abbrev nBuf : Space → Nat
  | .hbm => 20
  | .vmem => 26
  | .smem => 0
  | _ => 0

abbrev bufTy : (tb : Table) → Fin (tcTables nBuf tb) → BufTy
  | .hbm, ⟨0, _⟩ => ⟨S65536x9216, .bf16⟩
  | .hbm, ⟨1, _⟩ => ⟨S65536x1024, .bf16⟩
  | .hbm, ⟨2, _⟩ => ⟨S65536x1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x16, .f32⟩
  | .hbm, ⟨10, _⟩ => ⟨S8x128x128, .bf16⟩
  | .hbm, ⟨11, _⟩ => ⟨S128x8, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S16x1024, .f32⟩
  | .hbm, ⟨17, _⟩ => ⟨S65536x1024, .f32⟩
  | .hbm, ⟨18, _⟩ => ⟨S65536x1152, .bf16⟩
  | .hbm, ⟨19, _⟩ => ⟨S16x65536, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128x128, .bf16⟩
  | .local _ .vmem, ⟨13, _⟩ => ⟨S128x8, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S16x1024, .f32⟩
  | .local _ .vmem, ⟨19, _⟩ => ⟨S512x1024, .f32⟩
  | .local _ .vmem, ⟨20, _⟩ => ⟨S512x1024, .f32⟩
  | .local _ .vmem, ⟨21, _⟩ => ⟨S512x1152, .bf16⟩
  | .local _ .vmem, ⟨22, _⟩ => ⟨S512x1152, .bf16⟩
  | .local _ .vmem, ⟨23, _⟩ => ⟨S16x512, .f32⟩
  | .local _ .vmem, ⟨24, _⟩ => ⟨S16x512, .f32⟩
  | .local _ .vmem, ⟨25, _⟩ => ⟨S512x1024, .bf16⟩
  | _, _ => ⟨S65536x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1152 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S65536x9216 : Shape := ⟨2, ![65536, 9216]⟩
abbrev S65536x1024 : Shape := ⟨2, ![65536, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x16 : Shape := ⟨2, ![1024, 16]⟩
abbrev S512x128x8x128 : Shape := ⟨4, ![512, 128, 8, 128]⟩
abbrev S8x512x128x128 : Shape := ⟨4, ![8, 512, 128, 128]⟩
abbrev S128x8 : Shape := ⟨2, ![128, 8]⟩
abbrev S1x128x8x1 : Shape := ⟨4, ![1, 128, 8, 1]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x16 : Shape := ⟨2, ![65536, 16]⟩
abbrev S65536x112 : Shape := ⟨2, ![65536, 112]⟩
abbrev S65536x1152 : Shape := ⟨2, ![65536, 1152]⟩
abbrev S16x65536 : Shape := ⟨2, ![16, 65536]⟩

abbrev nBuf : Space → Nat
  | .hbm => 68
  | .vmem => 0
  | .smem => 0
  | _ => 0

abbrev bufTy : (tb : Table) → Fin (tcTables nBuf tb) → BufTy
  | .hbm, ⟨0, _⟩ => ⟨S65536x9216, .bf16⟩
  | .hbm, ⟨1, _⟩ => ⟨S65536x1024, .bf16⟩
  | .hbm, ⟨2, _⟩ => ⟨S65536x1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x16, .f32⟩
  | .hbm, ⟨10, _⟩ => ⟨S65536x9216, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S512x128x8x128, .f32⟩
  | .hbm, ⟨16, _⟩ => ⟨S8x512x128x128, .f32⟩
  | .hbm, ⟨17, _⟩ => ⟨S512x128x8x128, .f32⟩
  | .hbm, ⟨18, _⟩ => ⟨S128x8, .f32⟩
  | .hbm, ⟨19, _⟩ => ⟨S1x128x8x1, .f32⟩
  | .hbm, ⟨20, _⟩ => ⟨S512x128x8x128, .f32⟩
  | .hbm, ⟨21, _⟩ => ⟨S512x128x8x128, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S65536x16, .f32⟩
  | .hbm, ⟨49, _⟩ => ⟨S_, .f32⟩
  | .hbm, ⟨50, _⟩ => ⟨S65536, .f32⟩
  | .hbm, ⟨51, _⟩ => ⟨S_, .f32⟩
  | .hbm, ⟨52, _⟩ => ⟨S65536, .f32⟩
  | .hbm, ⟨53, _⟩ => ⟨S65536, .f32⟩
  | .hbm, ⟨54, _⟩ => ⟨S65536x1, .f32⟩
  | .hbm, ⟨55, _⟩ => ⟨S65536x16, .f32⟩
  | .hbm, ⟨56, _⟩ => ⟨S65536x16, .f32⟩
  | .hbm, ⟨57, _⟩ => ⟨S65536x16, .f32⟩
  | .hbm, ⟨58, _⟩ => ⟨S_, .f32⟩
  | .hbm, ⟨59, _⟩ => ⟨S65536, .f32⟩
  | .hbm, ⟨60, _⟩ => ⟨S65536x1, .f32⟩
  | .hbm, ⟨61, _⟩ => ⟨S65536x16, .f32⟩
  | .hbm, ⟨62, _⟩ => ⟨S65536x16, .f32⟩
  | .hbm, ⟨63, _⟩ => ⟨S_, .f32⟩
  | .hbm, ⟨64, _⟩ => ⟨S65536x112, .f32⟩
  | .hbm, ⟨65, _⟩ => ⟨S65536x1152, .f32⟩
  | .hbm, ⟨66, _⟩ => ⟨S65536x1152, .bf16⟩
  | .hbm, ⟨67, _⟩ => ⟨S16x65536, .f32⟩
  | _, _ => ⟨S65536x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Inproj.lean ====
abbrev S65536x1024 : Shape := ⟨2, ![65536, 1024]⟩
abbrev S1024 : Shape := ⟨1, ![1024]⟩
abbrev S1024x9216 : Shape := ⟨2, ![1024, 9216]⟩
abbrev S1x1024 : Shape := ⟨2, ![1, 1024]⟩
abbrev S65536x9216 : Shape := ⟨2, ![65536, 9216]⟩
abbrev S1024x1024 : Shape := ⟨2, ![1024, 1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x9216, .f32⟩
  | .hbm, ⟨3, _⟩ => ⟨S1024, .f32⟩
  | .hbm, ⟨4, _⟩ => ⟨S1x1024, .f32⟩
  | .hbm, ⟨5, _⟩ => ⟨S1024x9216, .bf16⟩
  | .hbm, ⟨6, _⟩ => ⟨S1x1024, .f32⟩
  | .hbm, ⟨7, _⟩ => ⟨S65536x9216, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .sge arg1 c2_i32
  let c5_i32 : BitVec 32 := 5#32
  let v10 : BitVec 1 := Scalar.cmpi .sle arg1 c5_i32
  let v11 : BitVec 1 := Scalar.andi v9 v10
  let v12 : BitVec 32 := Scalar.extui v11
  let c0_i32_4 : BitVec 32 := 0#32
  let v13 : BitVec 1 := Scalar.cmpi .ne v12 c0_i32_4
  v13

def k0_cond5 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_5 : BitVec 32 := 0#32
  let v16 : BitVec 1 := Scalar.cmpi .ne v15 c0_i32_5
  v16

def k0_cond6 (i : grid0.Coords) : BitVec 1 :=
  let arg1 : BitVec 32 := BitVec.ofNat 32 (i 1).val
  let c7_i32 : BitVec 32 := 7#32
  let v17 : BitVec 1 := Scalar.cmpi .sge arg1 c7_i32
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S65536x1024 : Shape := ⟨2, ![65536, 1024]⟩
abbrev S1024 : Shape := ⟨1, ![1024]⟩
abbrev S1024x9216 : Shape := ⟨2, ![1024, 9216]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x9216 : Shape := ⟨2, ![65536, 9216]⟩
abbrev S65536x4096 : Shape := ⟨2, ![65536, 4096]⟩
abbrev S65536x2048 : Shape := ⟨2, ![65536, 2048]⟩

abbrev nBuf : Space → Nat
  | .hbm => 95
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x9216, .f32⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x9216, .f32⟩
  | .hbm, ⟨21, _⟩ => ⟨S65536x1024, .f32⟩
  | .hbm, ⟨22, _⟩ => ⟨S65536x1024, .f32⟩
  | .hbm, ⟨23, _⟩ => ⟨S65536x4096, .f32⟩
  | .hbm, ⟨24, _⟩ => ⟨S65536x1024, .f32⟩
  | .hbm, ⟨25, _⟩ => ⟨S65536x2048, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S65536x1024, .f32⟩
  | .hbm, ⟨72, _⟩ => ⟨S65536x1024, .f32⟩
  | .hbm, ⟨73, _⟩ => ⟨S1x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S_, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S65536x2048, .f32⟩
  | .hbm, ⟨86, _⟩ => ⟨S65536x2048, .f32⟩
  | .hbm, ⟨87, _⟩ => ⟨S_, .f32⟩
  | .hbm, ⟨88, _⟩ => ⟨S65536x2048, .f32⟩
  | .hbm, ⟨89, _⟩ => ⟨S65536x2048, .f32⟩
  | .hbm, ⟨90, _⟩ => ⟨S_, .f32⟩
  | .hbm, ⟨91, _⟩ => ⟨S65536x2048, .f32⟩
  | .hbm, ⟨92, _⟩ => ⟨S65536x2048, .f32⟩
  | .hbm, ⟨93, _⟩ => ⟨S65536x9216, .f32⟩
  | .hbm, ⟨94, _⟩ => ⟨S65536x9216, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Ffn.lean ====
abbrev S16x8336x1152 : Shape := ⟨3, ![16, 8336, 1152]⟩
abbrev S16x1024x1024 : Shape := ⟨3, ![16, 1024, 1024]⟩
abbrev S16x8192x1024 : Shape := ⟨3, ![16, 8192, 1024]⟩
abbrev S1x512x1152 : Shape := ⟨3, ![1, 512, 1152]⟩
abbrev S1x1024x1024 : Shape := ⟨3, ![1, 1024, 1024]⟩
abbrev S1x512x1024 : Shape := ⟨3, ![1, 512, 1024]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16x8336x1152, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .bf16⟩
  | .hbm, ⟨5, _⟩ => ⟨S16x1024x1024, .bf16⟩
  | .hbm, ⟨6, _⟩ => ⟨S16x1024x1024, .bf16⟩
  | .hbm, ⟨7, _⟩ => ⟨S16x8192x1024, .bf16⟩
  | .local _ .vmem, ⟨0, _⟩ => ⟨S1x512x1152, .bf16⟩
  | .local _ .vmem, ⟨1, _⟩ => ⟨S1x512x1152, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | _, _ => ⟨S16x8336x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S16x8336x1152 : Shape := ⟨3, ![16, 8336, 1152]⟩
abbrev S16x1024x1024 : Shape := ⟨3, ![16, 1024, 1024]⟩
abbrev S16x8192x1024 : Shape := ⟨3, ![16, 8192, 1024]⟩
abbrev S16x8192x48 : Shape := ⟨3, ![16, 8192, 48]⟩
abbrev S16x8192x3x16 : Shape := ⟨4, ![16, 8192, 3, 16]⟩
abbrev S16 : Shape := ⟨1, ![16]⟩
abbrev S16x1x1 : Shape := ⟨3, ![16, 1, 1]⟩
abbrev S1x1x16 : Shape := ⟨3, ![1, 1, 16]⟩
abbrev S16x1x16 : Shape := ⟨3, ![16, 1, 16]⟩
abbrev S_ : Shape := ⟨0, ![]⟩
abbrev S16x8192x16 : Shape := ⟨3, ![16, 8192, 16]⟩
abbrev S16x8192 : Shape := ⟨2, ![16, 8192]⟩
abbrev S16x8192x1 : Shape := ⟨3, ![16, 8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x8336x1152, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x8192x1024, .bf16⟩
  | .hbm, ⟨5, _⟩ => ⟨S16x8192x1024, .f32⟩
  | .hbm, ⟨6, _⟩ => ⟨S16x8192x48, .bf16⟩
  | .hbm, ⟨7, _⟩ => ⟨S16x8192x48, .f32⟩
  | .hbm, ⟨8, _⟩ => ⟨S16x8192x3x16, .f32⟩
  | .hbm, ⟨9, _⟩ => ⟨S16, .i32⟩
  | .hbm, ⟨10, _⟩ => ⟨S16x1x1, .i32⟩
  | .hbm, ⟨11, _⟩ => ⟨S16, .i32⟩
  | .hbm, ⟨12, _⟩ => ⟨S1x1x16, .i32⟩
  | .hbm, ⟨13, _⟩ => ⟨S16x1x16, .i32⟩
  | .hbm, ⟨14, _⟩ => ⟨S16x1x16, .i32⟩
  | .hbm, ⟨15, _⟩ => ⟨S16x1x16, .i1⟩
  | .hbm, ⟨16, _⟩ => ⟨S_, .f32⟩
  | .hbm, ⟨17, _⟩ => ⟨S16x8192x16, .f32⟩
  | .hbm, ⟨18, _⟩ => ⟨S_, .f32⟩
  | .hbm, ⟨19, _⟩ => ⟨S_, .f32⟩
  | .hbm, ⟨20, _⟩ => ⟨S16x8192x16, .i1⟩
  | .hbm, ⟨21, _⟩ => ⟨S16x8192x16, .f32⟩
  | .hbm, ⟨22, _⟩ => ⟨S16x8192x16, .f32⟩
  | .hbm, ⟨23, _⟩ => ⟨S_, .f32⟩
  | .hbm, ⟨24, _⟩ => ⟨S16x8192, .f32⟩
  | .hbm, ⟨25, _⟩ => ⟨S16x8192x1024, .f32⟩
  | .hbm, ⟨26, _⟩ => ⟨S16x8192x1024, .f32⟩
  | .hbm, ⟨27, _⟩ => ⟨S16x8192x1024, .f32⟩
  | .hbm, ⟨28, _⟩ => ⟨S_, .f32⟩
  | .hbm, ⟨29, _⟩ => ⟨S16x8192x1024, .f32⟩
  | .hbm, ⟨30, _⟩ => ⟨S16x8192x1024, .f32⟩
  | .hbm, ⟨31, _⟩ => ⟨S_, .f32⟩
  | .hbm, ⟨32, _⟩ => ⟨S16x8192x1024, .f32⟩
  | .hbm, ⟨33, _⟩ => ⟨S16x8192x1024, .f32⟩
  | .hbm, ⟨34, _⟩ => ⟨S16x8192x1024, .f32⟩
  | .hbm, ⟨35, _⟩ => ⟨S16x8192x1024, .f32⟩
  | .hbm, ⟨36, _⟩ => ⟨S16x8192x1024, .f32⟩
  | .hbm, ⟨37, _⟩ => ⟨S16x8192x1024, .f32⟩
  | .hbm, ⟨38, _⟩ => ⟨S16x8192x1, .f32⟩
  | .hbm, ⟨39, _⟩ => ⟨S16x8192x1024, .f32⟩
  | .hbm, ⟨40, _⟩ => ⟨S16x8192x1024, .f32⟩
  | .hbm, ⟨41, _⟩ => ⟨S16x8192x1024, .bf16⟩
  | _, _ => ⟨S16x8336x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Lb.lean ====
abbrev S2x4x1024 : Shape := ⟨3, ![2, 4, 1024]⟩
abbrev S2x1024 : Shape := ⟨2, ![2, 1024]⟩
abbrev S2x1x1024 : Shape := ⟨3, ![2, 1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x4x1024, .f32⟩
  | .hbm, ⟨1, _⟩ => ⟨S2x4x1024, .f32⟩
  | .local _ .vmem, ⟨0, _⟩ => ⟨S2x4x1024, .f32⟩
  | .local _ .vmem, ⟨1, _⟩ => ⟨S2x4x1024, .f32⟩
  | _, _ => ⟨S2x4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbRefIdeal.lean ====
abbrev S2x4x1024 : Shape := ⟨3, ![2, 4, 1024]⟩
abbrev S_ : Shape := ⟨0, ![]⟩
abbrev S2x1024 : Shape := ⟨2, ![2, 1024]⟩
abbrev S2x1x1024 : Shape := ⟨3, ![2, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x4x1024, .f32⟩
  | .hbm, ⟨1, _⟩ => ⟨S_, .f32⟩
  | .hbm, ⟨2, _⟩ => ⟨S2x1024, .f32⟩
  | .hbm, ⟨3, _⟩ => ⟨S_, .f32⟩
  | .hbm, ⟨4, _⟩ => ⟨S2x1024, .f32⟩
  | .hbm, ⟨5, _⟩ => ⟨S2x1024, .f32⟩
  | .hbm, ⟨6, _⟩ => ⟨S2x1x1024, .f32⟩
  | .hbm, ⟨7, _⟩ => ⟨S2x4x1024, .f32⟩
  | .hbm, ⟨8, _⟩ => ⟨S2x4x1024, .f32⟩
  | .hbm, ⟨9, _⟩ => ⟨S2x4x1024, .f32⟩
  | .hbm, ⟨10, _⟩ => ⟨S_, .f32⟩
  | .hbm, ⟨11, _⟩ => ⟨S2x1024, .f32⟩
  | .hbm, ⟨12, _⟩ => ⟨S2x1x1024, .f32⟩
  | .hbm, ⟨13, _⟩ => ⟨S2x4x1024, .f32⟩
  | .hbm, ⟨14, _⟩ => ⟨S2x4x1024, .f32⟩
  | .hbm, ⟨15, _⟩ => ⟨S_, .f32⟩
  | .hbm, ⟨16, _⟩ => ⟨S_, .f32⟩
  | .hbm, ⟨17, _⟩ => ⟨S2x4x1024, .f32⟩
  | .hbm, ⟨18, _⟩ => ⟨S2x1x1024, .f32⟩
  | .hbm, ⟨19, _⟩ => ⟨S2x4x1024, .f32⟩
  | .hbm, ⟨20, _⟩ => ⟨S2x4x1024, .f32⟩
  | _, _ => ⟨S2x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Hgrn.lean ====
abbrev S32x2048x9216 : Shape := ⟨3, ![32, 2048, 9216]⟩
abbrev S2x1024 : Shape := ⟨2, ![2, 1024]⟩
abbrev S128 : Shape := ⟨1, ![128]⟩
abbrev S1x128 : Shape := ⟨2, ![1, 128]⟩
abbrev S32x2048x1024 : Shape := ⟨3, ![32, 2048, 1024]⟩
abbrev S1x2048x128 : Shape := ⟨3, ![1, 2048, 128]⟩
abbrev S2x128 : Shape := ⟨2, ![2, 128]⟩
abbrev S2048x128 : Shape := ⟨2, ![2048, 128]⟩
abbrev S128x128 : Shape := ⟨2, ![128, 128]⟩
abbrev S128x1 : Shape := ⟨2, ![128, 1]⟩
abbrev S1x128x128 : Shape := ⟨3, ![1, 128, 128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 5
  | .vmem => 21
  | .smem => 0
  | _ => 0

abbrev bufTy : (tb : Table) → Fin (tcTables nBuf tb) → BufTy
  | .hbm, ⟨0, _⟩ => ⟨S32x2048x9216, .bf16⟩
  | .hbm, ⟨1, _⟩ => ⟨S2x1024, .f32⟩
  | .hbm, ⟨2, _⟩ => ⟨S128, .f32⟩
  | .hbm, ⟨3, _⟩ => ⟨S1x128, .f32⟩
  | .hbm, ⟨4, _⟩ => ⟨S32x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S2x128, .f32⟩
  | .local _ .vmem, ⟨11, _⟩ => ⟨S2x128, .f32⟩
  | .local _ .vmem, ⟨12, _⟩ => ⟨S1x128, .f32⟩
  | .local _ .vmem, ⟨13, _⟩ => ⟨S1x2048x128, .bf16⟩
  | .local _ .vmem, ⟨14, _⟩ => ⟨S1x2048x128, .bf16⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | _, _ => ⟨S32x2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c16_i32 : BitVec 32 := 16#32
  let v28 : BitVec 32 := Scalar.addi c0_i32 c16_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32 : BitVec 32 := 128#32
  let v43 : BitVec 32 := Scalar.muli arg16 c128_i32
  v43
def k0_off1 (k0_t1 : Fin k0_t1_loop.trips) : Fin 3 → Nat :=
  let c0_21 : Index := 0#32
  let c0_i32 : BitVec 32 := 0#32
  let c1_i32 : BitVec 32 := 1#32
  let arg16 : BitVec 32 := Scf.iv c0_i32 c1_i32 k0_t1
  let c128_i32 : BitVec 32 := 128#32
  let v43 : BitVec 32 := Scalar.muli arg16 c128_i32
  let v44 : BitVec 32 := v43
  let v45 : Index := Scalar.indexCast v44
  let c0_22 : Index := 0#32
  ![0, v45.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v43 : BitVec 32 := Scalar.muli arg16 c128_i32
  let v44 : BitVec 32 := v43
  let v80 : Index := Scalar.indexCast v44
  let c0_30 : Index := 0#32
  ![v80.toNat, 0]
@[reducible] def k0_t2_loop : Scf.Loop 32 :=
  let c0_i32_22 : BitVec 32 := 0#32
  let c16_i32_23 : BitVec 32 := 16#32
  let v44 : BitVec 32 := Scalar.addi c0_i32_22 c16_i32_23
  let c1_i32_24 : BitVec 32 := 1#32
  ⟨c0_i32_22, v44, c1_i32_24⟩
def k0_mult2 (k0_t2 : Fin k0_t2_loop.trips) : BitVec 32 :=
  let c0_i32_22 : BitVec 32 := 0#32
  let c1_i32_24 : BitVec 32 := 1#32
  let arg16 : BitVec 32 := Scf.iv c0_i32_22 c1_i32_24 k0_t2
  let c128_i32 : BitVec 32 := 128#32
  let v46 : BitVec 32 := Scalar.muli arg16 c128_i32
  v46
def k0_off3 (k0_t2 : Fin k0_t2_loop.trips) : Fin 3 → Nat :=
  let c0_26 : Index := 0#32
  let c0_i32_22 : BitVec 32 := 0#32
  let c1_i32_24 : BitVec 32 := 1#32
  let arg16 : BitVec 32 := Scf.iv c0_i32_22 c1_i32_24 k0_t2
  let c128_i32 : BitVec 32 := 128#32
  let v46 : BitVec 32 := Scalar.muli arg16 c128_i32
  let v47 : BitVec 32 := v46
  let v48 : Index := Scalar.indexCast v47
  let c0_27 : Index := 0#32
  ![0, v48.toNat, 0]
def k0_off4 (k0_t2 : Fin k0_t2_loop.trips) : Fin 2 → Nat :=
  let c0_i32_22 : BitVec 32 := 0#32
  let c1_i32_24 : BitVec 32 := 1#32
  let arg16 : BitVec 32 := Scf.iv c0_i32_22 c1_i32_24 k0_t2
  let c128_i32 : BitVec 32 := 128#32
  let v46 : BitVec 32 := Scalar.muli arg16 c128_i32
  let v47 : BitVec 32 := v46
  let v59 : Index := Scalar.indexCast v47
  let c0_32 : Index := 0#32
  ![v59.toNat, 0]
@[reducible] def k0_t3_loop : Scf.Loop 32 :=
  let c0_i32_43 : BitVec 32 := 0#32
  let c128_i32_44 : BitVec 32 := 128#32
  let v85 : BitVec 32 := Scalar.addi c0_i32_43 c128_i32_44
  let c1_i32_45 : BitVec 32 := 1#32
  ⟨c0_i32_43, v85, c1_i32_45⟩
def k0_off5 (k0_t3 : Fin k0_t3_loop.trips) : Fin 2 → Nat :=
  let c0_i32_43 : BitVec 32 := 0#32
  let c1_i32_45 : BitVec 32 := 1#32
  let arg19 : BitVec 32 := Scf.iv c0_i32_43 c1_i32_45 k0_t3
  let v171 : Index := Scalar.indexCast arg19
  let c0_75 : Index := 0#32
  ![v171.toNat, 0]
def k0_mult3 (k0_t2 : Fin k0_t2_loop.trips) : BitVec 32 :=
  let c15_i32 : BitVec 32 := 15#32
  let c0_i32_22 : BitVec 32 := 0#32
  let c1_i32_24 : BitVec 32 := 1#32
  let arg16 : BitVec 32 := Scf.iv c0_i32_22 c1_i32_24 k0_t2
  let v108 : BitVec 32 := Scalar.subi c15_i32 arg16
  let c128_i32_50 : BitVec 32 := 128#32
  let v109 : BitVec 32 := Scalar.muli v108 c128_i32_50
  v109
def k0_off6 (k0_t2 : Fin k0_t2_loop.trips) : Fin 3 → Nat :=
  let c0_51 : Index := 0#32
  let c15_i32 : BitVec 32 := 15#32
  let c0_i32_22 : BitVec 32 := 0#32
  let c1_i32_24 : BitVec 32 := 1#32
  let arg16 : BitVec 32 := Scf.iv c0_i32_22 c1_i32_24 k0_t2
  let v108 : BitVec 32 := Scalar.subi c15_i32 arg16
  let c128_i32_50 : BitVec 32 := 128#32
  let v109 : BitVec 32 := Scalar.muli v108 c128_i32_50
  let v110 : BitVec 32 := v109
  let v111 : Index := Scalar.indexCast v110
  let c0_52 : Index := 0#32
  ![0, v111.toNat, 0]
def k0_off7 (k0_t2 : Fin k0_t2_loop.trips) : Fin 2 → Nat :=
  let c15_i32 : BitVec 32 := 15#32
  let c0_i32_22 : BitVec 32 := 0#32
  let c1_i32_24 : BitVec 32 := 1#32
  let arg16 : BitVec 32 := Scf.iv c0_i32_22 c1_i32_24 k0_t2
  let v108 : BitVec 32 := Scalar.subi c15_i32 arg16
  let c128_i32_50 : BitVec 32 := 128#32
  let v109 : BitVec 32 := Scalar.muli v108 c128_i32_50
  let v110 : BitVec 32 := v109
  let v122 : Index := Scalar.indexCast v110
  let c0_57 : Index := 0#32
  ![v122.toNat, 0]
@[reducible] def k0_t4_loop : Scf.Loop 32 :=
  let c0_i32_68 : BitVec 32 := 0#32
  let c128_i32_69 : BitVec 32 := 128#32
  let v148 : BitVec 32 := Scalar.addi c0_i32_68 c128_i32_69
  let c1_i32_70 : BitVec 32 := 1#32
  ⟨c0_i32_68, v148, c1_i32_70⟩
def k0_off8 (k0_t4 : Fin k0_t4_loop.trips) : Fin 2 → Nat :=
  let c0_i32_68 : BitVec 32 := 0#32
  let c1_i32_70 : BitVec 32 := 1#32
  let arg19 : BitVec 32 := Scf.iv c0_i32_68 c1_i32_70 k0_t4
  let v171 : Index := Scalar.indexCast arg19
  let c0_75 : Index := 0#32
  ![v171.toNat, 0]
@[reducible] def k0_t5_loop : Scf.Loop 32 :=
  let c0_i32_22 : BitVec 32 := 0#32
  let c16_i32_23 : BitVec 32 := 16#32
  let v44 : BitVec 32 := Scalar.addi c0_i32_22 c16_i32_23
  let c1_i32_24 : BitVec 32 := 1#32
  ⟨c0_i32_22, v44, c1_i32_24⟩
def k0_mult4 (k0_t5 : Fin k0_t5_loop.trips) : BitVec 32 :=
  let c0_i32_22 : BitVec 32 := 0#32
  let c1_i32_24 : BitVec 32 := 1#32
  let arg16 : BitVec 32 := Scf.iv c0_i32_22 c1_i32_24 k0_t5
  let c128_i32 : BitVec 32 := 128#32
  let v46 : BitVec 32 := Scalar.muli arg16 c128_i32
  v46
def k0_off9 (k0_t5 : Fin k0_t5_loop.trips) : Fin 3 → Nat :=
  let c0_26 : Index := 0#32
  let c0_i32_22 : BitVec 32 := 0#32
  let c1_i32_24 : BitVec 32 := 1#32
  let arg16 : BitVec 32 := Scf.iv c0_i32_22 c1_i32_24 k0_t5
  let c128_i32 : BitVec 32 := 128#32
  let v46 : BitVec 32 := Scalar.muli arg16 c128_i32
  let v47 : BitVec 32 := v46
  let v48 : Index := Scalar.indexCast v47
  let c0_27 : Index := 0#32
  ![0, v48.toNat, 0]
def k0_off10 (k0_t5 : Fin k0_t5_loop.trips) : Fin 2 → Nat :=
  let c0_i32_22 : BitVec 32 := 0#32
  let c1_i32_24 : BitVec 32 := 1#32
  let arg16 : BitVec 32 := Scf.iv c0_i32_22 c1_i32_24 k0_t5
  let c128_i32 : BitVec 32 := 128#32
  let v46 : BitVec 32 := Scalar.muli arg16 c128_i32
  let v47 : BitVec 32 := v46
  let v59 : Index := Scalar.indexCast v47
  let c0_32 : Index := 0#32
  ![v59.toNat, 0]
def k0_mult5 (k0_t5 : Fin k0_t5_loop.trips) : BitVec 32 :=
  let c15_i32 : BitVec 32 := 15#32
  let c0_i32_22 : BitVec 32 := 0#32
  let c1_i32_24 : BitVec 32 := 1#32
  let arg16 : BitVec 32 := Scf.iv c0_i32_22 c1_i32_24 k0_t5
  let v112 : BitVec 32 := Scalar.subi c15_i32 arg16
  let c128_i32_43 : BitVec 32 := 128#32
  let v113 : BitVec 32 := Scalar.muli v112 c128_i32_43
  v113
def k0_off11 (k0_t5 : Fin k0_t5_loop.trips) : Fin 3 → Nat :=
  let c0_44 : Index := 0#32
  let c15_i32 : BitVec 32 := 15#32
  let c0_i32_22 : BitVec 32 := 0#32
  let c1_i32_24 : BitVec 32 := 1#32
  let arg16 : BitVec 32 := Scf.iv c0_i32_22 c1_i32_24 k0_t5
  let v112 : BitVec 32 := Scalar.subi c15_i32 arg16
  let c128_i32_43 : BitVec 32 := 128#32
  let v113 : BitVec 32 := Scalar.muli v112 c128_i32_43
  let v114 : BitVec 32 := v113
  let v115 : Index := Scalar.indexCast v114
  let c0_45 : Index := 0#32
  ![0, v115.toNat, 0]
def k0_off12 (k0_t5 : Fin k0_t5_loop.trips) : Fin 2 → Nat :=
  let c15_i32 : BitVec 32 := 15#32
  let c0_i32_22 : BitVec 32 := 0#32
  let c1_i32_24 : BitVec 32 := 1#32
  let arg16 : BitVec 32 := Scf.iv c0_i32_22 c1_i32_24 k0_t5
  let v112 : BitVec 32 := Scalar.subi c15_i32 arg16
  let c128_i32_43 : BitVec 32 := 128#32
  let v113 : BitVec 32 := Scalar.muli v112 c128_i32_43
  let v114 : BitVec 32 := v113
  let v126 : Index := Scalar.indexCast v114
  let c0_50 : Index := 0#32
  ![v126.toNat, 0]
@[reducible] def k0_t6_loop : Scf.Loop 32 :=
  let c0_i32_17 : BitVec 32 := 0#32
  let c16_i32_18 : BitVec 32 := 16#32
  let v42 : BitVec 32 := Scalar.addi c0_i32_17 c16_i32_18
  let c1_i32_19 : BitVec 32 := 1#32
  ⟨c0_i32_17, v42, c1_i32_19⟩
def k0_mult6 (k0_t6 : Fin k0_t6_loop.trips) : BitVec 32 :=
  let c0_i32_17 : BitVec 32 := 0#32
  let c1_i32_19 : BitVec 32 := 1#32
  let arg16 : BitVec 32 := Scf.iv c0_i32_17 c1_i32_19 k0_t6
  let c128_i32 : BitVec 32 := 128#32
  let v43 : BitVec 32 := Scalar.muli arg16 c128_i32
  v43
def k0_off13 (k0_t6 : Fin k0_t6_loop.trips) : Fin 2 → Nat :=
  let c0_i32_17 : BitVec 32 := 0#32
  let c1_i32_19 : BitVec 32 := 1#32
  let arg16 : BitVec 32 := Scf.iv c0_i32_17 c1_i32_19 k0_t6
  let c128_i32 : BitVec 32 := 128#32
  let v43 : BitVec 32 := Scalar.muli arg16 c128_i32
  let v44 : BitVec 32 := v43
  let v45 : Index := Scalar.indexCast v44
  let c0_21 : Index := 0#32
  ![v45.toNat, 0]
def k0_off14 (k0_t6 : Fin k0_t6_loop.trips) : Fin 3 → Nat :=
  let c0_25 : Index := 0#32
  let c0_i32_17 : BitVec 32 := 0#32
  let c1_i32_19 : BitVec 32 := 1#32
  let arg16 : BitVec 32 := Scf.iv c0_i32_17 c1_i32_19 k0_t6
  let c128_i32 : BitVec 32 := 128#32
  let v43 : BitVec 32 := Scalar.muli arg16 c128_i32
  let v44 : BitVec 32 := v43
  let v59 : Index := Scalar.indexCast v44
  let c0_26 : Index := 0#32
  ![0, v59.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HgrnRefIdeal.lean ====
abbrev S32x2048x9216 : Shape := ⟨3, ![32, 2048, 9216]⟩
abbrev S2x1024 : Shape := ⟨2, ![2, 1024]⟩
abbrev S128 : Shape := ⟨1, ![128]⟩
abbrev S32x2048x1024 : Shape := ⟨3, ![32, 2048, 1024]⟩
abbrev S32x2048x8x128 : Shape := ⟨4, ![32, 2048, 8, 128]⟩
abbrev S32x8x2048x128 : Shape := ⟨4, ![32, 8, 2048, 128]⟩
abbrev S1x1024 : Shape := ⟨2, ![1, 1024]⟩
abbrev S1024 : Shape := ⟨1, ![1024]⟩
abbrev S1x8x1x128 : Shape := ⟨4, ![1, 8, 1, 128]⟩
abbrev S_ : Shape := ⟨0, ![]⟩
abbrev S2048x2048 : Shape := ⟨2, ![2048, 2048]⟩
abbrev S2048x2048x1 : Shape := ⟨3, ![2048, 2048, 1]⟩
abbrev S32x8x2048x1x128 : Shape := ⟨5, ![32, 8, 2048, 1, 128]⟩
abbrev S32x8x1x2048x128 : Shape := ⟨5, ![32, 8, 1, 2048, 128]⟩
abbrev S32x8x2048x2048x128 : Shape := ⟨5, ![32, 8, 2048, 2048, 128]⟩
abbrev S32x8x2048x2048 : Shape := ⟨4, ![32, 8, 2048, 2048]⟩
abbrev S32x8x2048 : Shape := ⟨3, ![32, 8, 2048]⟩
abbrev S32x8x2048x1 : Shape := ⟨4, ![32, 8, 2048, 1]⟩
abbrev S1x1x1x128 : Shape := ⟨4, ![1, 1, 1, 128]⟩

abbrev nBuf : Space → Nat
  | .hbm => 210
  | .vmem => 0
  | .smem => 0
  | _ => 0

abbrev hbmTy0_0 (i : Nat) : BufTy := match i % 128 with
  | 0 => ⟨S32x2048x9216, .bf16⟩
  | 1 => ⟨S2x1024, .f32⟩
  | 2 => ⟨S128, .f32⟩
  | 3 => ⟨S32x2048x1024, .bf16⟩
  | 4 => ⟨S32x2048x1024, .f32⟩
  | 5 => ⟨S32x2048x8x128, .f32⟩
  | 6 => ⟨S32x8x2048x128, .f32⟩
  | 7 => ⟨S32x2048x1024, .bf16⟩
  | 8 => ⟨S32x2048x1024, .f32⟩
  | 9 => ⟨S32x2048x8x128, .f32⟩
  | 10 => ⟨S32x8x2048x128, .f32⟩
  | 11 => ⟨S32x2048x1024, .bf16⟩
  | 12 => ⟨S32x2048x1024, .f32⟩
  | 13 => ⟨S32x2048x8x128, .f32⟩
  | 14 => ⟨S32x8x2048x128, .f32⟩
  | 15 => ⟨S1x1024, .f32⟩
  | 16 => ⟨S1024, .f32⟩
  | 17 => ⟨S1x8x1x128, .f32⟩
  | 18 => ⟨S1x8x1x128, .f32⟩
  | 19 => ⟨S1x8x1x128, .f32⟩
  | 20 => ⟨S1x8x1x128, .f32⟩
  | 21 => ⟨S32x8x2048x128, .f32⟩
  | 22 => ⟨S_, .f32⟩
  | 23 => ⟨S32x8x2048x128, .f32⟩
  | 24 => ⟨S32x8x2048x128, .f32⟩
  | 25 => ⟨S32x8x2048x128, .f32⟩
  | 26 => ⟨S32x8x2048x128, .f32⟩
  | 27 => ⟨S32x8x2048x128, .i1⟩
  | 28 => ⟨S32x8x2048x128, .f32⟩
  | 29 => ⟨S32x8x2048x128, .f32⟩
  | 30 => ⟨S32x8x2048x128, .f32⟩
  | 31 => ⟨S32x8x2048x128, .f32⟩
  | 32 => ⟨S32x8x2048x128, .f32⟩
  | 33 => ⟨S32x8x2048x128, .f32⟩
  | 34 => ⟨S32x8x2048x128, .f32⟩
  | 35 => ⟨S32x8x2048x128, .f32⟩
  | 36 => ⟨S32x8x2048x128, .f32⟩
  | 37 => ⟨S32x8x2048x128, .f32⟩
  | 38 => ⟨S32x8x2048x128, .f32⟩
  | 39 => ⟨S32x8x2048x128, .f32⟩
  | 40 => ⟨S32x8x2048x128, .f32⟩
  | 41 => ⟨S32x8x2048x128, .f32⟩
  | 42 => ⟨S32x8x2048x128, .f32⟩
  | 43 => ⟨S32x8x2048x128, .i1⟩
  | 44 => ⟨S32x8x2048x128, .f32⟩
  | 45 => ⟨S32x8x2048x128, .f32⟩
  | 46 => ⟨S32x8x2048x128, .f32⟩
  | 47 => ⟨S32x8x2048x128, .f32⟩
  | 48 => ⟨S32x8x2048x128, .f32⟩
  | 49 => ⟨S32x8x2048x128, .f32⟩
  | 50 => ⟨S32x8x2048x128, .f32⟩
  | 51 => ⟨S32x8x2048x128, .f32⟩
  | 52 => ⟨S_, .f32⟩
  | 53 => ⟨S1x8x1x128, .f32⟩
  | 54 => ⟨S1x8x1x128, .f32⟩
  | 55 => ⟨S32x8x2048x128, .f32⟩
  | 56 => ⟨S32x8x2048x128, .f32⟩
  | 57 => ⟨S32x8x2048x128, .f32⟩
  | 58 => ⟨S_, .f32⟩
  | 59 => ⟨S32x8x2048x128, .f32⟩
  | 60 => ⟨S32x8x2048x128, .f32⟩
  | 61 => ⟨S_, .f32⟩
  | 62 => ⟨S32x8x2048x128, .f32⟩
  | 63 => ⟨S32x8x2048x128, .f32⟩
  | 64 => ⟨S32x8x2048x128, .f32⟩
  | 65 => ⟨S32x8x2048x128, .f32⟩
  | 66 => ⟨S32x2048x1024, .bf16⟩
  | 67 => ⟨S32x2048x1024, .f32⟩
  | 68 => ⟨S32x2048x8x128, .f32⟩
  | 69 => ⟨S32x8x2048x128, .f32⟩
  | 70 => ⟨S1x1024, .f32⟩
  | 71 => ⟨S1024, .f32⟩
  | 72 => ⟨S1x8x1x128, .f32⟩
  | 73 => ⟨S1x8x1x128, .f32⟩
  | 74 => ⟨S1x8x1x128, .f32⟩
  | 75 => ⟨S1x8x1x128, .f32⟩
  | 76 => ⟨S32x8x2048x128, .f32⟩
  | 77 => ⟨S_, .f32⟩
  | 78 => ⟨S32x8x2048x128, .f32⟩
  | 79 => ⟨S32x8x2048x128, .f32⟩
  | 80 => ⟨S32x8x2048x128, .f32⟩
  | 81 => ⟨S32x8x2048x128, .f32⟩
  | 82 => ⟨S32x8x2048x128, .i1⟩
  | 83 => ⟨S32x8x2048x128, .f32⟩
  | 84 => ⟨S32x8x2048x128, .f32⟩
  | 85 => ⟨S32x8x2048x128, .f32⟩
  | 86 => ⟨S32x8x2048x128, .f32⟩
  | 87 => ⟨S32x8x2048x128, .f32⟩
  | 88 => ⟨S32x8x2048x128, .f32⟩
  | 89 => ⟨S32x8x2048x128, .f32⟩
  | 90 => ⟨S32x8x2048x128, .f32⟩
  | 91 => ⟨S32x8x2048x128, .f32⟩
  | 92 => ⟨S32x8x2048x128, .f32⟩
  | 93 => ⟨S32x8x2048x128, .f32⟩
  | 94 => ⟨S32x8x2048x128, .f32⟩
  | 95 => ⟨S32x8x2048x128, .f32⟩
  | 96 => ⟨S32x8x2048x128, .f32⟩
  | 97 => ⟨S32x8x2048x128, .f32⟩
  | 98 => ⟨S32x8x2048x128, .i1⟩
  | 99 => ⟨S32x8x2048x128, .f32⟩
  | 100 => ⟨S32x8x2048x128, .f32⟩
  | 101 => ⟨S32x8x2048x128, .f32⟩
  | 102 => ⟨S32x8x2048x128, .f32⟩
  | 103 => ⟨S32x8x2048x128, .f32⟩
  | 104 => ⟨S32x8x2048x128, .f32⟩
  | 105 => ⟨S32x8x2048x128, .f32⟩
  | 106 => ⟨S32x8x2048x128, .f32⟩
  | 107 => ⟨S_, .f32⟩
  | 108 => ⟨S1x8x1x128, .f32⟩
  | 109 => ⟨S1x8x1x128, .f32⟩
  | 110 => ⟨S32x8x2048x128, .f32⟩
  | 111 => ⟨S32x8x2048x128, .f32⟩
  | 112 => ⟨S32x8x2048x128, .f32⟩
  | 113 => ⟨S_, .f32⟩
  | 114 => ⟨S32x8x2048x128, .f32⟩
  | 115 => ⟨S32x8x2048x128, .f32⟩
  | 116 => ⟨S_, .f32⟩
  | 117 => ⟨S32x8x2048x128, .f32⟩
  | 118 => ⟨S32x8x2048x128, .f32⟩
  | 119 => ⟨S32x8x2048x128, .f32⟩
  | 120 => ⟨S32x8x2048x128, .f32⟩
  | 121 => ⟨S_, .f32⟩
  | 122 => ⟨S_, .f32⟩
  | 123 => ⟨S32x8x2048x128, .f32⟩
  | 124 => ⟨S_, .i1⟩
  | 125 => ⟨S2048x2048, .i1⟩
  | 126 => ⟨S2048x2048, .i32⟩
  | 127 => ⟨S_, .i32⟩
  | _ => ⟨S32x2048x9216, .bf16⟩

abbrev hbmTy0_1 (i : Nat) : BufTy := match i % 128 with
  | 0 => ⟨S2048x2048, .i32⟩
  | 1 => ⟨S2048x2048, .i32⟩
  | 2 => ⟨S2048x2048, .i32⟩
  | 3 => ⟨S2048x2048, .i1⟩
  | 4 => ⟨S_, .i1⟩
  | 5 => ⟨S2048x2048, .i1⟩
  | 6 => ⟨S2048x2048, .i1⟩
  | 7 => ⟨S2048x2048x1, .i1⟩
  | 8 => ⟨S32x8x2048x1x128, .f32⟩
  | 9 => ⟨S32x8x1x2048x128, .f32⟩
  | 10 => ⟨S32x8x2048x2048x128, .f32⟩
  | 11 => ⟨S32x8x2048x2048x128, .f32⟩
  | 12 => ⟨S32x8x2048x2048x128, .f32⟩
  | 13 => ⟨S_, .f32⟩
  | 14 => ⟨S_, .f32⟩
  | 15 => ⟨S32x8x2048x2048x128, .i1⟩
  | 16 => ⟨S32x8x2048x2048x128, .f32⟩
  | 17 => ⟨S32x8x2048x2048x128, .f32⟩
  | 18 => ⟨S32x8x2048x2048x128, .f32⟩
  | 19 => ⟨S32x8x1x2048x128, .f32⟩
  | 20 => ⟨S32x8x2048x2048x128, .f32⟩
  | 21 => ⟨S32x8x2048x2048x128, .f32⟩
  | 22 => ⟨S32x8x2048x2048, .f32⟩
  | 23 => ⟨S32x8x2048x128, .f32⟩
  | 24 => ⟨S32x8x2048x128, .f32⟩
  | 25 => ⟨S32x8x2048x128, .f32⟩
  | 26 => ⟨S32x8x2048x128, .f32⟩
  | 27 => ⟨S32x8x2048x128, .f32⟩
  | 28 => ⟨S_, .f32⟩
  | 29 => ⟨S_, .f32⟩
  | 30 => ⟨S32x8x2048x128, .f32⟩
  | 31 => ⟨S_, .i1⟩
  | 32 => ⟨S2048x2048, .i1⟩
  | 33 => ⟨S2048x2048, .i32⟩
  | 34 => ⟨S_, .i32⟩
  | 35 => ⟨S2048x2048, .i32⟩
  | 36 => ⟨S2048x2048, .i32⟩
  | 37 => ⟨S2048x2048, .i32⟩
  | 38 => ⟨S2048x2048, .i1⟩
  | 39 => ⟨S_, .i1⟩
  | 40 => ⟨S2048x2048, .i1⟩
  | 41 => ⟨S2048x2048, .i1⟩
  | 42 => ⟨S2048x2048x1, .i1⟩
  | 43 => ⟨S32x8x2048x1x128, .f32⟩
  | 44 => ⟨S32x8x1x2048x128, .f32⟩
  | 45 => ⟨S32x8x2048x2048x128, .f32⟩
  | 46 => ⟨S32x8x2048x2048x128, .f32⟩
  | 47 => ⟨S32x8x2048x2048x128, .f32⟩
  | 48 => ⟨S_, .f32⟩
  | 49 => ⟨S_, .f32⟩
  | 50 => ⟨S32x8x2048x2048x128, .i1⟩
  | 51 => ⟨S32x8x2048x2048x128, .f32⟩
  | 52 => ⟨S32x8x2048x2048x128, .f32⟩
  | 53 => ⟨S32x8x2048x2048x128, .f32⟩
  | 54 => ⟨S32x8x1x2048x128, .f32⟩
  | 55 => ⟨S32x8x2048x2048x128, .f32⟩
  | 56 => ⟨S32x8x2048x2048x128, .f32⟩
  | 57 => ⟨S32x8x2048x2048, .f32⟩
  | 58 => ⟨S32x8x2048x128, .f32⟩
  | 59 => ⟨S32x8x2048x128, .f32⟩
  | 60 => ⟨S32x8x2048x128, .f32⟩
  | 61 => ⟨S32x8x2048x128, .f32⟩
  | 62 => ⟨S_, .f32⟩
  | 63 => ⟨S32x8x2048, .f32⟩
  | 64 => ⟨S32x8x2048x1, .f32⟩
  | 65 => ⟨S_, .f32⟩
  | 66 => ⟨S32x8x2048x1, .f32⟩
  | 67 => ⟨S32x8x2048x1, .f32⟩
  | 68 => ⟨S_, .f32⟩
  | 69 => ⟨S32x8x2048x1, .f32⟩
  | 70 => ⟨S32x8x2048x1, .f32⟩
  | 71 => ⟨S32x8x2048x1, .f32⟩
  | 72 => ⟨S32x8x2048x128, .f32⟩
  | 73 => ⟨S32x8x2048x128, .f32⟩
  | 74 => ⟨S1x1x1x128, .f32⟩
  | 75 => ⟨S32x8x2048x128, .f32⟩
  | 76 => ⟨S32x8x2048x128, .f32⟩
  | 77 => ⟨S32x2048x8x128, .f32⟩
  | 78 => ⟨S32x2048x1024, .f32⟩
  | 79 => ⟨S32x2048x1024, .bf16⟩
  | 80 => ⟨S32x2048x1024, .bf16⟩
  | 81 => ⟨S32x2048x1024, .bf16⟩
  | _ => ⟨S32x2048x9216, .bf16⟩

abbrev hbmTy (i : Nat) : BufTy := match i / 128 with
  | 0 => hbmTy0_0 i
  | 1 => hbmTy0_1 i
  | _ => ⟨S32x2048x9216, .bf16⟩

abbrev bufTy : (tb : Table) → Fin (tcTables nBuf tb) → BufTy
  | .hbm, ⟨i, _⟩ => hbmTy i
  | _, _ => ⟨S32x2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_0 : Ref sig .tc := ⟨.hbm, 58, rfl⟩
abbrev main_v39 : Ref sig .tc := ⟨.hbm, 59, rfl⟩
abbrev main_v40 : Ref sig .tc := ⟨.hbm, 60, rfl⟩
abbrev main_cst_1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_3 : Ref sig .tc := ⟨.hbm, 113, rfl⟩
abbrev main_v76 : Ref sig .tc := ⟨.hbm, 114, rfl⟩
abbrev main_v77 : Ref sig .tc := ⟨.hbm, 115, rfl⟩
abbrev main_cst_4 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call2_call0_cst : Ref sig .tc := ⟨.hbm, 121, rfl⟩
abbrev main_call2_call0_v0 : Ref sig .tc := ⟨.hbm, 122, rfl⟩
abbrev main_v82 : Ref sig .tc := ⟨.hbm, 123, rfl⟩
abbrev main_c : Ref sig .tc := ⟨.hbm, 124, rfl⟩
abbrev main_v83 : Ref sig .tc := ⟨.hbm, 125, rfl⟩
abbrev main_call3_v0 : Ref sig .tc := ⟨.hbm, 126, rfl⟩
abbrev main_call3_c : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_c_0 : Ref sig .tc := ⟨.hbm, 132, rfl⟩
abbrev main_call3_v5 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_5 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_call9_call0_cst : Ref sig .tc := ⟨.hbm, 156, rfl⟩
abbrev main_call9_call0_v0 : Ref sig .tc := ⟨.hbm, 157, rfl⟩
abbrev main_v102 : Ref sig .tc := ⟨.hbm, 158, rfl⟩
abbrev main_c_6 : Ref sig .tc := ⟨.hbm, 159, rfl⟩
abbrev main_v103 : Ref sig .tc := ⟨.hbm, 160, rfl⟩
abbrev main_call10_v0 : Ref sig .tc := ⟨.hbm, 161, rfl⟩
abbrev main_call10_c : Ref sig .tc := ⟨.hbm, 162, rfl⟩
abbrev main_call10_v1 : Ref sig .tc := ⟨.hbm, 163, rfl⟩
abbrev main_call10_v2 : Ref sig .tc := ⟨.hbm, 164, rfl⟩
abbrev main_call10_v3 : Ref sig .tc := ⟨.hbm, 165, rfl⟩
abbrev main_call10_v4 : Ref sig .tc := ⟨.hbm, 166, rfl⟩
abbrev main_call10_c_0 : Ref sig .tc := ⟨.hbm, 167, rfl⟩
abbrev main_call10_v5 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_7 : Ref sig .tc := ⟨.hbm, 176, rfl⟩
abbrev main_call11_v0 : Ref sig .tc := ⟨.hbm, 177, rfl⟩
abbrev main_call11_v1 : Ref sig .tc := ⟨.hbm, 178, rfl⟩
abbrev main_call11_v2 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_8 : Ref sig .tc := ⟨.hbm, 190, rfl⟩
abbrev main_v121 : Ref sig .tc := ⟨.hbm, 191, rfl⟩
abbrev main_v122 : Ref sig .tc := ⟨.hbm, 192, rfl⟩
abbrev main_cst_9 : Ref sig .tc := ⟨.hbm, 193, rfl⟩
abbrev main_v123 : Ref sig .tc := ⟨.hbm, 194, rfl⟩
abbrev main_v124 : Ref sig .tc := ⟨.hbm, 195, rfl⟩
abbrev main_cst_10 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩

abbrev nD : Nat := 1
abbrev τ : Topo := Topo.v7x

variable {F : FTy → Type} [FloatOps F]
-- ==== Select.lean ====
abbrev S16x65536 : Shape := ⟨2, ![16, 65536]⟩
abbrev S16x640 : Shape := ⟨2, ![16, 640]⟩
abbrev S2x16x128 : Shape := ⟨3, ![2, 16, 128]⟩
abbrev S16x1 : Shape := ⟨2, ![16, 1]⟩
abbrev S16x2048 : Shape := ⟨2, ![16, 2048]⟩
abbrev S16 : Shape := ⟨1, ![16]⟩
abbrev S128x128 : Shape := ⟨2, ![128, 128]⟩
abbrev S1x16x128 : Shape := ⟨3, ![1, 16, 128]⟩
abbrev S16x128 : Shape := ⟨2, ![16, 128]⟩

abbrev nBuf : Space → Nat
  | .hbm => 3
  | .vmem => 4
  | .smem => 0
  | _ => 0

abbrev bufTy : (tb : Table) → Fin (tcTables nBuf tb) → BufTy
  | .hbm, ⟨0, _⟩ => ⟨S16x65536, .i32⟩
  | .hbm, ⟨1, _⟩ => ⟨S16x65536, .i32⟩
  | .hbm, ⟨2, _⟩ => ⟨S16x640, .i32⟩
  | .local _ .vmem, ⟨0, _⟩ => ⟨S16x65536, .i32⟩
  | .local _ .vmem, ⟨1, _⟩ => ⟨S16x65536, .i32⟩
  | .local _ .vmem, ⟨2, _⟩ => ⟨S16x640, .i32⟩
  | .local _ .vmem, ⟨3, _⟩ => ⟨S2x16x128, .f32⟩
  | _, _ => ⟨S16x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c31_i32 : BitVec 32 := 31#32
  let v1 : BitVec 32 := Scalar.addi c0_i32_0 c31_i32
  let c1_i32 : BitVec 32 := 1#32
  ⟨c0_i32_0, v1, c1_i32⟩
@[reducible] def k0_t2_loop : Scf.Loop 32 :=
  let c0_i32_27 : BitVec 32 := 0#32
  let c32_i32_28 : BitVec 32 := 32#32
  let v45 : BitVec 32 := Scalar.addi c0_i32_27 c32_i32_28
  let c1_i32_29 : BitVec 32 := 1#32
  ⟨c0_i32_27, v45, c1_i32_29⟩
def k0_mult1 (k0_t2 : Fin k0_t2_loop.trips) : BitVec 32 :=
  let c0_i32_27 : BitVec 32 := 0#32
  let c1_i32_29 : BitVec 32 := 1#32
  let arg6 : BitVec 32 := Scf.iv c0_i32_27 c1_i32_29 k0_t2
  let c2048_i32 : BitVec 32 := 2048#32
  let v52 : BitVec 32 := Scalar.muli arg6 c2048_i32
  v52
def k0_off1 (k0_t2 : Fin k0_t2_loop.trips) : Fin 2 → Nat :=
  let c0_33 : Index := 0#32
  let c0_i32_27 : BitVec 32 := 0#32
  let c1_i32_29 : BitVec 32 := 1#32
  let arg6 : BitVec 32 := Scf.iv c0_i32_27 c1_i32_29 k0_t2
  let c2048_i32 : BitVec 32 := 2048#32
  let v52 : BitVec 32 := Scalar.muli arg6 c2048_i32
  let v53 : BitVec 32 := v52
  let v54 : Index := Scalar.indexCast v53
  ![0, v54.toNat]
@[reducible] def k0_t3_loop : Scf.Loop 32 :=
  let c0_i32_4 : BitVec 32 := 0#32
  let c32_i32 : BitVec 32 := 32#32
  let v6 : BitVec 32 := Scalar.addi c0_i32_4 c32_i32
  let c1_i32_5 : BitVec 32 := 1#32
  ⟨c0_i32_4, v6, c1_i32_5⟩
def k0_mult2 (k0_t3 : Fin k0_t3_loop.trips) : BitVec 32 :=
  let c0_i32_4 : BitVec 32 := 0#32
  let c1_i32_5 : BitVec 32 := 1#32
  let arg4 : BitVec 32 := Scf.iv c0_i32_4 c1_i32_5 k0_t3
  let c2048_i32 : BitVec 32 := 2048#32
  let v40 : BitVec 32 := Scalar.muli arg4 c2048_i32
  v40
def k0_off2 (k0_t3 : Fin k0_t3_loop.trips) : Fin 2 → Nat :=
  let c0_25 : Index := 0#32
  let c0_i32_4 : BitVec 32 := 0#32
  let c1_i32_5 : BitVec 32 := 1#32
  let arg4 : BitVec 32 := Scf.iv c0_i32_4 c1_i32_5 k0_t3
  let c2048_i32 : BitVec 32 := 2048#32
  let v40 : BitVec 32 := Scalar.muli arg4 c2048_i32
  let v41 : BitVec 32 := v40
  let v42 : Index := Scalar.indexCast v41
  ![0, v42.toNat]
@[reducible] def k0_t4_loop : Scf.Loop 32 :=
  let c0_i32_15 : BitVec 32 := 0#32
  let c512_i32 : BitVec 32 := 512#32
  let v27 : BitVec 32 := Scalar.addi c0_i32_15 c512_i32
  let c1_i32_16 : BitVec 32 := 1#32
  ⟨c0_i32_15, v27, c1_i32_16⟩
def k0_mult3 (k0_t4 : Fin k0_t4_loop.trips) : BitVec 32 :=
  let c0_i32_15 : BitVec 32 := 0#32
  let c1_i32_16 : BitVec 32 := 1#32
  let arg4 : BitVec 32 := Scf.iv c0_i32_15 c1_i32_16 k0_t4
  let c128_i32 : BitVec 32 := 128#32
  let v46 : BitVec 32 := Scalar.muli arg4 c128_i32
  v46
def k0_off3 (k0_t4 : Fin k0_t4_loop.trips) : Fin 2 → Nat :=
  let c0_31 : Index := 0#32
  let c0_i32_15 : BitVec 32 := 0#32
  let c1_i32_16 : BitVec 32 := 1#32
  let arg4 : BitVec 32 := Scf.iv c0_i32_15 c1_i32_16 k0_t4
  let c128_i32 : BitVec 32 := 128#32
  let v46 : BitVec 32 := Scalar.muli arg4 c128_i32
  let v47 : BitVec 32 := v46
  let v48 : Index := Scalar.indexCast v47
  ![0, v48.toNat]
abbrev stage0_0 : Fin 1 → Memref sig .tc .vmem S16x65536 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x65536 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x640 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SelectRefIdeal.lean ====
abbrev S16x65536 : Shape := ⟨2, ![16, 65536]⟩
abbrev S65536 : Shape := ⟨1, ![65536]⟩
abbrev S16x65536x1 : Shape := ⟨3, ![16, 65536, 1]⟩
abbrev S16x1x65536 : Shape := ⟨3, ![16, 1, 65536]⟩
abbrev S1x65536 : Shape := ⟨2, ![1, 65536]⟩
abbrev S65536x1 : Shape := ⟨2, ![65536, 1]⟩
abbrev S65536x65536 : Shape := ⟨2, ![65536, 65536]⟩
abbrev S1x65536x65536 : Shape := ⟨3, ![1, 65536, 65536]⟩
abbrev S16x65536x65536 : Shape := ⟨3, ![16, 65536, 65536]⟩
abbrev S_ : Shape := ⟨0, ![]⟩
abbrev S640 : Shape := ⟨1, ![640]⟩
abbrev S640x1 : Shape := ⟨2, ![640, 1]⟩
abbrev S640x65536 : Shape := ⟨2, ![640, 65536]⟩
abbrev S1x640x65536 : Shape := ⟨3, ![1, 640, 65536]⟩
abbrev S16x640x65536 : Shape := ⟨3, ![16, 640, 65536]⟩
abbrev S16x640 : Shape := ⟨2, ![16, 640]⟩
abbrev S1x640 : Shape := ⟨2, ![1, 640]⟩

abbrev nBuf : Space → Nat
  | .hbm => 62
  | .vmem => 0
  | .smem => 0
  | _ => 0

abbrev bufTy : (tb : Table) → Fin (tcTables nBuf tb) → BufTy
  | .hbm, ⟨0, _⟩ => ⟨S16x65536, .i32⟩
  | .hbm, ⟨1, _⟩ => ⟨S65536, .i32⟩
  | .hbm, ⟨2, _⟩ => ⟨S16x65536x1, .i32⟩
  | .hbm, ⟨3, _⟩ => ⟨S16x1x65536, .i32⟩
  | .hbm, ⟨4, _⟩ => ⟨S1x65536, .i32⟩
  | .hbm, ⟨5, _⟩ => ⟨S65536x1, .i32⟩
  | .hbm, ⟨6, _⟩ => ⟨S65536x65536, .i32⟩
  | .hbm, ⟨7, _⟩ => ⟨S65536x65536, .i32⟩
  | .hbm, ⟨8, _⟩ => ⟨S65536x65536, .i1⟩
  | .hbm, ⟨9, _⟩ => ⟨S1x65536x65536, .i1⟩
  | .hbm, ⟨10, _⟩ => ⟨S16x65536x65536, .i32⟩
  | .hbm, ⟨11, _⟩ => ⟨S16x65536x65536, .i32⟩
  | .hbm, ⟨12, _⟩ => ⟨S16x65536x65536, .i1⟩
  | .hbm, ⟨13, _⟩ => ⟨S16x65536x65536, .i32⟩
  | .hbm, ⟨14, _⟩ => ⟨S16x65536x65536, .i32⟩
  | .hbm, ⟨15, _⟩ => ⟨S16x65536x65536, .i1⟩
  | .hbm, ⟨16, _⟩ => ⟨S16x65536x65536, .i1⟩
  | .hbm, ⟨17, _⟩ => ⟨S16x65536x65536, .i1⟩
  | .hbm, ⟨18, _⟩ => ⟨S16x65536x65536, .i1⟩
  | .hbm, ⟨19, _⟩ => ⟨S16x65536x65536, .i32⟩
  | .hbm, ⟨20, _⟩ => ⟨S_, .i32⟩
  | .hbm, ⟨21, _⟩ => ⟨S16x65536, .i32⟩
  | .hbm, ⟨22, _⟩ => ⟨S_, .i32⟩
  | .hbm, ⟨23, _⟩ => ⟨S16x65536, .i32⟩
  | .hbm, ⟨24, _⟩ => ⟨S16x65536, .i1⟩
  | .hbm, ⟨25, _⟩ => ⟨S16x1x65536, .i1⟩
  | .hbm, ⟨26, _⟩ => ⟨S16x65536x65536, .i1⟩
  | .hbm, ⟨27, _⟩ => ⟨S16x65536x65536, .i1⟩
  | .hbm, ⟨28, _⟩ => ⟨S16x65536x65536, .i1⟩
  | .hbm, ⟨29, _⟩ => ⟨S16x65536x65536, .i32⟩
  | .hbm, ⟨30, _⟩ => ⟨S_, .i32⟩
  | .hbm, ⟨31, _⟩ => ⟨S16x65536, .i32⟩
  | .hbm, ⟨32, _⟩ => ⟨S_, .i32⟩
  | .hbm, ⟨33, _⟩ => ⟨S_, .i32⟩
  | .hbm, ⟨34, _⟩ => ⟨S16x65536, .i32⟩
  | .hbm, ⟨35, _⟩ => ⟨S16x65536, .i32⟩
  | .hbm, ⟨36, _⟩ => ⟨S640, .i32⟩
  | .hbm, ⟨37, _⟩ => ⟨S16x1x65536, .i1⟩
  | .hbm, ⟨38, _⟩ => ⟨S1x65536, .i32⟩
  | .hbm, ⟨39, _⟩ => ⟨S640x1, .i32⟩
  | .hbm, ⟨40, _⟩ => ⟨S_, .i32⟩
  | .hbm, ⟨41, _⟩ => ⟨S640x1, .i32⟩
  | .hbm, ⟨42, _⟩ => ⟨S640x1, .i32⟩
  | .hbm, ⟨43, _⟩ => ⟨S640x65536, .i32⟩
  | .hbm, ⟨44, _⟩ => ⟨S640x65536, .i32⟩
  | .hbm, ⟨45, _⟩ => ⟨S640x65536, .i1⟩
  | .hbm, ⟨46, _⟩ => ⟨S1x640x65536, .i1⟩
  | .hbm, ⟨47, _⟩ => ⟨S16x640x65536, .i1⟩
  | .hbm, ⟨48, _⟩ => ⟨S16x640x65536, .i1⟩
  | .hbm, ⟨49, _⟩ => ⟨S16x640x65536, .i1⟩
  | .hbm, ⟨50, _⟩ => ⟨S16x640x65536, .i32⟩
  | .hbm, ⟨51, _⟩ => ⟨S_, .i32⟩
  | .hbm, ⟨52, _⟩ => ⟨S16x640, .i32⟩
  | .hbm, ⟨53, _⟩ => ⟨S1x640, .i32⟩
  | .hbm, ⟨54, _⟩ => ⟨S_, .i32⟩
  | .hbm, ⟨55, _⟩ => ⟨S1x640, .i32⟩
  | .hbm, ⟨56, _⟩ => ⟨S1x640, .i1⟩
  | .hbm, ⟨57, _⟩ => ⟨S_, .i32⟩
  | .hbm, ⟨58, _⟩ => ⟨S_, .i32⟩
  | .hbm, ⟨59, _⟩ => ⟨S16x640, .i1⟩
  | .hbm, ⟨60, _⟩ => ⟨S16x640, .i32⟩
  | .hbm, ⟨61, _⟩ => ⟨S16x640, .i32⟩
  | _, _ => ⟨S16x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_c : Ref sig .tc := ⟨.hbm, 20, rfl⟩
abbrev main_v19 : Ref sig .tc := ⟨.hbm, 21, rfl⟩
abbrev main_c_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c_1 : Ref sig .tc := ⟨.hbm, 30, rfl⟩
abbrev main_v27 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_4 : Ref sig .tc := ⟨.hbm, 51, rfl⟩
abbrev main_v43 : Ref sig .tc := ⟨.hbm, 52, rfl⟩
abbrev main_v44 : Ref sig .tc := ⟨.hbm, 53, rfl⟩
abbrev main_c_5 : Ref sig .tc := ⟨.hbm, 54, rfl⟩
abbrev main_v45 : Ref sig .tc := ⟨.hbm, 55, rfl⟩
abbrev main_v46 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.SafeRun.lean ====
/- What a program may do with the buffers a core owns at SOME contents: a small calculus. A program that only loads and
   stores within memrefs owned so, in loops and branches of whatever kind, gives back what it was handed. The recurrence's
   body (HgrnFrame.lean, HgrnIdealFrame.lean) is run by it, part by part, no value followed. -/
module

public import Idealize.ShloMosaic.Rules
public import Idealize.ShloMosaic.Lib.Writes
public import Idealize.ShloMosaic.Lib.Scf
public import Idealize.ShloMosaic.Lib.Memref

@[expose] public section

noncomputable section

namespace Cert.SafeRun

open Idealize.ShloMosaic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {R : sProp (MT nD τ sig Ix Val Name U Lvl)} {α β : Type}

variable (defs 𝒱 c bd E R) in
/-- From the resource `R` the program runs without fault and ends with `R` again, whatever it returns. -/
def Safe (p : Prog (TpuEff nD τ sig Val Λ c.2) α) : Prop :=
  R ⊢ wp Idealize.ShloMosaic.frame (wpE defs 𝒱 c bd) E p (fun _ => R)

/-- Returning a value keeps the resource. -/
theorem Safe.pure (a : α) : Safe defs 𝒱 c bd E R (Pure.pure a : Prog (TpuEff nD τ sig Val Λ c.2) α) := by
  unfold Safe; rw [Prog.pure_eq_ret]; exact le_wp_ret _ _ _ _ (fun _ => R)

/-- Two programs in a row. -/
theorem Safe.bind {p : Prog (TpuEff nD τ sig Val Λ c.2) α} {k : α → Prog (TpuEff nD τ sig Val Λ c.2) β}
    (hp : Safe defs 𝒱 c bd E R p) (hk : ∀ a, Safe defs 𝒱 c bd E R (k a)) : Safe defs 𝒱 c bd E R (p >>= k) := by
  unfold Safe at *; rw [wp_bind]; exact hp.trans (wp_mono _ _ _ fun a => hk a)

/-- A branch, on any condition. -/
theorem Safe.ite {b : Prop} [Decidable b] {p q : Prog (TpuEff nD τ sig Val Λ c.2) α}
    (hp : Safe defs 𝒱 c bd E R p) (hq : Safe defs 𝒱 c bd E R q) : Safe defs 𝒱 c bd E R (if b then p else q) := by
  split <;> assumption

/-- A counted loop, whatever it carries. -/
theorem Safe.for {w : Nat} {lb ub st : BitVec w} {hok : Scf.OK lb ub st} {init : α}
    {body : Fin (Scf.trips lb ub st) → α → Prog (TpuEff nD τ sig Val Λ c.2) α}
    (h : ∀ k a, Safe defs 𝒱 c bd E R (body k a)) : Safe defs 𝒱 c bd E R (Scf.for lb ub st hok init body) := by
  have := Scf.wp_for frame (wpE defs 𝒱 c bd) E lb ub st hok init body (fun _ _ => R) h (Q := fun _ => R)
  unfold Safe
  refine Entails.trans ?_ this
  iintro H
  isplitl [H]
  · iexact H
  iintro %acc H
  iexact H

variable (c R) in
/-- The resource holds the memref's elements, at some share and contents, and is had again from them. -/
def Reads {sp : Space} {s : Shape} {e : EltTy} (m : Memref sig c.2.kind sp s e) : Prop :=
  R ⊢ iprop(∃ q, ∃ f, (m.view.loc c ↦[m.view.set]{q} f) ∗ ((m.view.loc c ↦[m.view.set]{q} f) -∗ R))

variable (c R) in
/-- The resource holds the memref's elements in full, at some contents, and is had again from them at any contents. -/
def Writes {sp : Space} {s : Shape} {e : EltTy} (m : Memref sig c.2.kind sp s e) : Prop :=
  R ⊢ iprop(∃ f, (m.view.loc c ↦[m.view.set]{fullShare} f) ∗ (∀ g, (m.view.loc c ↦[m.view.set]{fullShare} g) -∗ R))

/-- What may be written may be read. -/
theorem Writes.reads {sp : Space} {s : Shape} {e : EltTy} {m : Memref sig c.2.kind sp s e} (h : Writes c R m) : Reads c R m := by
  refine Entails.trans h ?_
  iintro ⟨%f, H, K⟩
  iexists fullShare
  iexists f
  isplitl [H]
  · iexact H
  iintro H
  iapply K
  iexact H

/-- A load through a rectangle of a memref the resource reads. -/
theorem Safe.load {cs : CoreSpace} {s : Shape} {e : EltTy} {m : Memref sig c.2.kind cs s e} {r : Rect s}
    {hl : m.view.LoadsAt r.toLoadRect} (h : Reads c R m) :
    Safe defs 𝒱 c bd E R (Prog.lift (.load m r.toLoadRect hl) : Prog (TpuEff nD τ sig Val Λ c.2) (r.toLoadRect.shape.Idx → Val e)) := by
  unfold Safe Reads at *
  refine Entails.trans h ?_
  iintro ⟨%q, %f, H, K⟩
  have hw := wp_load_rect (Ix := Ix) (Name := Name) (U := U) (Lvl := Lvl) (defs := defs) 𝒱 c bd (Γ := .empty) E (m := m) (r := r) (hl := hl) (k := Prog.ret) (Q := fun _ => R)
    (S := m.view.set) (q := q) (f := f) (m.view.set_slice_subset r)
  iapply hw $$ H
  iintro H
  rw [wp_ret]
  imodintro
  iapply K
  iexact H

/-- An unmasked store through a rectangle of a memref the resource writes. -/
theorem Safe.store {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1} (h : Writes c R m) :
    Safe defs 𝒱 c bd E R (Prog.lift (.store m r w Finset.univ hx hm) : Prog (TpuEff nD τ sig Val Λ c.2) PUnit) := by
  unfold Safe Writes at *
  refine Entails.trans h ?_
  iintro ⟨%f, H, K⟩
  have hw := wp_store (Ix := Ix) (Name := Name) (U := U) (Lvl := Lvl) (defs := defs) 𝒱 c bd (Γ := .empty) E (m := m) (r := r) (w := w) (Mk := Finset.univ) (hx := hx) (hm := hm) (k := Prog.ret)
    (Q := fun _ => R) (S := m.view.set) (f := f) (m.setOn_access_subset r Finset.univ)
  iapply hw $$ H
  iintro H
  rw [wp_ret]
  imodintro
  iapply K
  iexact H

/-- A memref owned at known contents may be read. -/
theorem Reads.owns {sp : Space} {s : Shape} {e : EltTy} {m : Memref sig c.2.kind sp s e} {q : PosShare TreeShare} {X : s.Idx → Val e} :
    Reads c (owns c m q X : sProp (MT nD τ sig Ix Val Name U Lvl)) m := by
  unfold Reads Idealize.ShloMosaic.owns
  iintro ⟨%f, %hf, H⟩
  iexists q
  iexists f
  isplitl [H]
  · iexact H
  iintro H
  iexists f
  isplitr
  · ipureintro; exact hf
  iexact H

/-- A memref owned in full at some contents may be written. -/
theorem Writes.owns {sp : Space} {s : Shape} {e : EltTy} {m : Memref sig c.2.kind sp s e} :
    Writes c (iprop(∃ X, Idealize.ShloMosaic.owns c m fullShare X) : sProp (MT nD τ sig Ix Val Name U Lvl)) m := by
  unfold Writes Idealize.ShloMosaic.owns
  iintro ⟨%X, %f, %hf, H⟩
  iexists f
  isplitl [H]
  · iexact H
  iintro %g H
  iexists (m.view.read Val g)
  iexists g
  isplitr
  · ipureintro; rfl
  iexact H

/-- What the left of two resources reads, both read; -/
theorem Reads.left {A B : sProp (MT nD τ sig Ix Val Name U Lvl)} {sp : Space} {s : Shape} {e : EltTy} {m : Memref sig c.2.kind sp s e}
    (h : Reads c A m) : Reads c iprop(A ∗ B) m := by
  unfold Reads at *
  iintro ⟨HA, HB⟩
  ihave H := h $$ HA
  icases H with ⟨%q, %f, H, K⟩
  iexists q
  iexists f
  isplitl [H]
  · iexact H
  iintro H
  isplitl [H K]
  · iapply K; iexact H
  iexact HB

/-- what the right reads, both read; -/
theorem Reads.right {A B : sProp (MT nD τ sig Ix Val Name U Lvl)} {sp : Space} {s : Shape} {e : EltTy} {m : Memref sig c.2.kind sp s e}
    (h : Reads c B m) : Reads c iprop(A ∗ B) m := by
  unfold Reads at *
  iintro ⟨HA, HB⟩
  ihave H := h $$ HB
  icases H with ⟨%q, %f, H, K⟩
  iexists q
  iexists f
  isplitl [H]
  · iexact H
  iintro H
  isplitl [HA]
  · iexact HA
  iapply K; iexact H

/-- what the left writes, both write; -/
theorem Writes.left {A B : sProp (MT nD τ sig Ix Val Name U Lvl)} {sp : Space} {s : Shape} {e : EltTy} {m : Memref sig c.2.kind sp s e}
    (h : Writes c A m) : Writes c iprop(A ∗ B) m := by
  unfold Writes at *
  iintro ⟨HA, HB⟩
  ihave H := h $$ HA
  icases H with ⟨%f, H, K⟩
  iexists f
  isplitl [H]
  · iexact H
  iintro %g H
  isplitl [H K]
  · iapply K; iexact H
  iexact HB

/-- and what the right writes. -/
theorem Writes.right {A B : sProp (MT nD τ sig Ix Val Name U Lvl)} {sp : Space} {s : Shape} {e : EltTy} {m : Memref sig c.2.kind sp s e}
    (h : Writes c B m) : Writes c iprop(A ∗ B) m := by
  unfold Writes at *
  iintro ⟨HA, HB⟩
  ihave H := h $$ HB
  icases H with ⟨%f, H, K⟩
  iexists f
  isplitl [H]
  · iexact H
  iintro %g H
  isplitl [HA]
  · iexact HA
  iapply K; iexact H

end Cert.SafeRun

end
-- ==== Proof.HgrnIdealFrame.lean ====
/- The recurrence's body, run for its footprint alone: what it loads lies within the memrefs it is handed, what it stores
   within its output and its scratch, whatever the values, the branches taken and the trips' carried values. From it the
   frame of the whole program: it ends, and its argument arrays end unchanged. -/
module

public import proofs.«01_k».proof.Proof.Gen.HgrnIdeal.Frame
public import proofs.«01_k».proof.Proof.SafeRun

@[expose] public section

noncomputable section

namespace Cert.HgrnIdeal.Foot

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg Window BodyObligation cellOf)
open Cert.HgrnIdeal.Gen Cert.SafeRun

variable {F : FTy → Type} [FloatOps F]

/-- The resources of one core, at the pipeline's user algebra. -/
abbrev Res (F : FTy → Type) := MT nD τ sig Unit (Elt F) ℕ (UR sig nD τ) ℕ

variable {c : Dev nD} {R : sProp (Res F)}

/-- The body's safety from the resource `R`, on core `c`. -/
abbrev Ok (c : Dev nD) (R : sProp (Res F)) {α : Type} (p : Prog (TpuEff nD τ sig (Elt F) Λ₀ .tc) α) : Prop :=
  Safe (defs₀ (F := F)) Variants.none (c : Thread nD τ) none Set.univ R p

set_option maxHeartbeats 4000000 in
set_option maxRecDepth 16384 in
/-- The first half of a trip of the gates' loop. -/
theorem k0_part1_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (v4 : FVec F S1x128 .f32) (v7 : FVec F S1x128 .f32) (v14 : FVec F S128x128 .bf16) (c0_i32 : BitVec 32) (c1_i32 : BitVec 32) (k0_t1 : Fin k0_t1_loop.trips) (arg17 : FVec F S1x128 .f32) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part1 i arg2 harg2 arg3 harg3 arg4 harg4 arg5 harg5 arg6 harg6 arg7 harg7 arg8 harg8 arg9 harg9 arg10 harg10 arg11 harg11 arg12 harg12 arg13 harg13 arg14 harg14 arg15 harg15 v4 v7 v14 c0_i32 c1_i32 k0_t1 arg17 : Prog (TpuEff nD τ sig (Elt F) Λ₀ .tc) _) := by
  unfold k0_part1
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15

set_option maxHeartbeats 4000000 in
set_option maxRecDepth 16384 in
/-- The first third of a trip of the exact recurrence. -/
theorem k0_part2_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (v9 : FVec F S1x128 .f32) (c0_i32_22 : BitVec 32) (c1_i32_24 : BitVec 32) (k0_t2 : Fin k0_t2_loop.trips) (arg17 : FVec F S128x128 .f32) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part2 i arg2 harg2 arg3 harg3 arg4 harg4 arg5 harg5 arg6 harg6 arg7 harg7 arg8 harg8 arg9 harg9 arg10 harg10 arg11 harg11 arg12 harg12 arg13 harg13 arg14 harg14 arg15 harg15 v9 c0_i32_22 c1_i32_24 k0_t2 arg17 : Prog (TpuEff nD τ sig (Elt F) Λ₀ .tc) _) := by
  unfold k0_part2
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)

set_option maxHeartbeats 4000000 in
set_option maxRecDepth 16384 in
/-- The second third of a trip of the exact recurrence. -/
theorem k0_part3_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (v2 : IVec S128x1 32) (k0_t2 : Fin k0_t2_loop.trips) (arg17 : FVec F S128x128 .f32) (arg16 : BitVec 32) (v47 : BitVec 32) (v55 : FVec F S128x128 .f32) (v58 : FVec F S128x128 .bf16) (v60 : Vec F S128x128 .f32) (v61 : FVec F S1x128 .f32) (v68 : FVec F S128x128 .f32) (v73 : FVec F S128x128 .f32) (cst_42 : F .f32) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part3 i arg2 harg2 arg3 harg3 arg4 harg4 arg5 harg5 arg6 harg6 arg7 harg7 arg8 harg8 arg9 harg9 arg10 harg10 arg11 harg11 arg12 harg12 arg13 harg13 arg14 harg14 arg15 harg15 v2 k0_t2 arg17 arg16 v47 v55 v58 v60 v61 v68 v73 cst_42 : Prog (TpuEff nD τ sig (Elt F) Λ₀ .tc) _) := by
  unfold k0_part3
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)
    | (apply k0_part2_ok <;> assumption)

set_option maxHeartbeats 4000000 in
set_option maxRecDepth 16384 in
/-- The last third of a trip of the exact recurrence. -/
theorem k0_part4_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (v2 : IVec S128x1 32) (v21 : FVec F S1x128 .f32) (k0_t2 : Fin k0_t2_loop.trips) (arg18 : FVec F S128x128 .f32) (v110 : BitVec 32) (v118 : FVec F S128x128 .f32) (v121 : FVec F S128x128 .bf16) (v123 : Vec F S128x128 .f32) (v124 : FVec F S1x128 .f32) (v125 : FVec F S128x128 .f32) (cst_58 : F .f32) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part4 i arg2 harg2 arg3 harg3 arg4 harg4 arg5 harg5 arg6 harg6 arg7 harg7 arg8 harg8 arg9 harg9 arg10 harg10 arg11 harg11 arg12 harg12 arg13 harg13 arg14 harg14 arg15 harg15 v2 v21 k0_t2 arg18 v110 v118 v121 v123 v124 v125 cst_58 : Prog (TpuEff nD τ sig (Elt F) Λ₀ .tc) _) := by
  unfold k0_part4
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)
    | (apply k0_part2_ok <;> assumption)
    | (apply k0_part3_ok <;> assumption)

set_option maxHeartbeats 4000000 in
set_option maxRecDepth 16384 in
/-- The first half of a trip of the quick recurrence. -/
theorem k0_part5_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (v9 : FVec F S1x128 .f32) (v10 : IVec S128x128 1) (c0_i32_22 : BitVec 32) (c1_i32_24 : BitVec 32) (k0_t5 : Fin k0_t5_loop.trips) (arg17 : FVec F S128x128 .f32) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part5 i arg2 harg2 arg3 harg3 arg4 harg4 arg5 harg5 arg6 harg6 arg7 harg7 arg8 harg8 arg9 harg9 arg10 harg10 arg11 harg11 arg12 harg12 arg13 harg13 arg14 harg14 arg15 harg15 v9 v10 c0_i32_22 c1_i32_24 k0_t5 arg17 : Prog (TpuEff nD τ sig (Elt F) Λ₀ .tc) _) := by
  unfold k0_part5
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)
    | (apply k0_part2_ok <;> assumption)
    | (apply k0_part3_ok <;> assumption)
    | (apply k0_part4_ok <;> assumption)

set_option maxHeartbeats 4000000 in
set_option maxRecDepth 16384 in
/-- The second half of a trip of the quick recurrence. -/
theorem k0_part6_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (v21 : FVec F S1x128 .f32) (k0_t5 : Fin k0_t5_loop.trips) (arg17 : FVec F S128x128 .f32) (arg16 : BitVec 32) (v47 : BitVec 32) (v58 : FVec F S128x128 .bf16) (v60 : Vec F S128x128 .f32) (v61 : FVec F S1x128 .f32) (v68 : FVec F S128x128 .f32) (v73 : FVec F S128x128 .f32) (v89 : FVec F S128x128 .bf16) (cst_39 : FVec F S128x128 .f32) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part6 i arg2 harg2 arg3 harg3 arg4 harg4 arg5 harg5 arg6 harg6 arg7 harg7 arg8 harg8 arg9 harg9 arg10 harg10 arg11 harg11 arg12 harg12 arg13 harg13 arg14 harg14 arg15 harg15 v21 k0_t5 arg17 arg16 v47 v58 v60 v61 v68 v73 v89 cst_39 : Prog (TpuEff nD τ sig (Elt F) Λ₀ .tc) _) := by
  unfold k0_part6
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)
    | (apply k0_part2_ok <;> assumption)
    | (apply k0_part3_ok <;> assumption)
    | (apply k0_part4_ok <;> assumption)
    | (apply k0_part5_ok <;> assumption)

set_option maxHeartbeats 4000000 in
set_option maxRecDepth 16384 in
/-- The gates' loop and the exact recurrence behind its branch. -/
theorem k0_part7_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (k0_part7 i arg2 harg2 arg3 harg3 arg4 harg4 arg5 harg5 arg6 harg6 arg7 harg7 arg8 harg8 arg9 harg9 arg10 harg10 arg11 harg11 arg12 harg12 arg13 harg13 arg14 harg14 arg15 harg15 : Prog (TpuEff nD τ sig (Elt F) Λ₀ .tc) _) := by
  unfold k0_part7
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)
    | (apply k0_part2_ok <;> assumption)
    | (apply k0_part3_ok <;> assumption)
    | (apply k0_part4_ok <;> assumption)
    | (apply k0_part5_ok <;> assumption)
    | (apply k0_part6_ok <;> assumption)

set_option maxHeartbeats 4000000 in
set_option maxRecDepth 16384 in
/-- The whole body. -/
theorem cc0_hgrn_ok (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (h2 : Reads (c : Thread nD τ) R arg2) (h3 : Reads (c : Thread nD τ) R arg3) (h4 : Reads (c : Thread nD τ) R arg4) (h5 : Reads (c : Thread nD τ) R arg5) (h6 : Reads (c : Thread nD τ) R arg6) (h7 : Reads (c : Thread nD τ) R arg7) (h8 : Reads (c : Thread nD τ) R arg8) (h9 : Writes (c : Thread nD τ) R arg9) (h10 : Writes (c : Thread nD τ) R arg10) (h11 : Writes (c : Thread nD τ) R arg11) (h12 : Writes (c : Thread nD τ) R arg12) (h13 : Writes (c : Thread nD τ) R arg13) (h14 : Writes (c : Thread nD τ) R arg14) (h15 : Writes (c : Thread nD τ) R arg15) :
    Ok c R (cc0_hgrn i arg2 harg2 arg3 harg3 arg4 harg4 arg5 harg5 arg6 harg6 arg7 harg7 arg8 harg8 arg9 harg9 arg10 harg10 arg11 harg11 arg12 harg12 arg13 harg13 arg14 harg14 arg15 harg15 : Prog (TpuEff nD τ sig (Elt F) Λ₀ .tc) _) := by
  unfold cc0_hgrn
  repeat' with_reducible first
    | exact Safe.pure _
    | refine Safe.bind ?_ (fun _ => ?_)
    | refine Safe.for (fun _ _ => ?_)
    | refine Safe.ite ?_ ?_
    | exact Safe.load h2
    | exact Safe.load h3
    | exact Safe.load h4
    | exact Safe.load h5
    | exact Safe.load h6
    | exact Safe.load h7
    | exact Safe.load h8
    | exact Safe.load h9.reads
    | exact Safe.store h9
    | exact Safe.load h10.reads
    | exact Safe.store h10
    | exact Safe.load h11.reads
    | exact Safe.store h11
    | exact Safe.load h12.reads
    | exact Safe.store h12
    | exact Safe.load h13.reads
    | exact Safe.store h13
    | exact Safe.load h14.reads
    | exact Safe.store h14
    | exact Safe.load h15.reads
    | exact Safe.store h15
    | (apply k0_part1_ok <;> assumption)
    | (apply k0_part2_ok <;> assumption)
    | (apply k0_part3_ok <;> assumption)
    | (apply k0_part4_ok <;> assumption)
    | (apply k0_part5_ok <;> assumption)
    | (apply k0_part6_ok <;> assumption)
    | (apply k0_part7_ok <;> assumption)

/-! ## The pipeline's proof data: the inputs at their blocks, the output's contents not named -/

variable (m : (ℓ : Loc nD τ sig) → Buf (Elt F) ℓ) (ρ : Dev nD → PrngReg)

/-- The windows nothing is said of: the output. -/
def fgt : Fin cfg0.W → Bool := fun w => w.val == 7

/-- The proof data of the pipeline on core `c`: the arrays as the region finds them, each input's buffer at its block after
    every point, the output's unnamed, the scoped rest and the generator register between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed 7 t
    | ⟨_ + 8, h⟩ => absurd h (Nat.not_lt.2 (Nat.le_add_left _ _))
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- Input 0's buffer holds its block after the body, -/
theorem after0 (c : Dev nD) (t : Fin cfg0.N) : (dats m 0 c).after 0 t = iblk m c 0 t := by dsimp only [dats]
/-- and before it. -/
theorem before0 (c : Dev nD) (t : Fin cfg0.N) (d) : (dats m 0 c).before 0 t d = iblk m c 0 t :=
  before0_0_of m (dats m 0 c) (A_eq m c 0) (after0 m c) t d
/-- Input 1's buffer holds its block after the body, -/
theorem after1 (c : Dev nD) (t : Fin cfg0.N) : (dats m 0 c).after 1 t = iblk m c 1 t := by dsimp only [dats]
/-- and before it. -/
theorem before1 (c : Dev nD) (t : Fin cfg0.N) (d) : (dats m 0 c).before 1 t d = iblk m c 1 t :=
  before0_1_of m (dats m 0 c) (A_eq m c 1) (after1 m c) t d
/-- Input 2's buffer holds its block after the body, -/
theorem after2 (c : Dev nD) (t : Fin cfg0.N) : (dats m 0 c).after 2 t = iblk m c 2 t := by dsimp only [dats]
/-- and before it. -/
theorem before2 (c : Dev nD) (t : Fin cfg0.N) (d) : (dats m 0 c).before 2 t d = iblk m c 2 t :=
  before0_2_of m (dats m 0 c) (A_eq m c 2) (after2 m c) t d
/-- Input 3's buffer holds its block after the body, -/
theorem after3 (c : Dev nD) (t : Fin cfg0.N) : (dats m 0 c).after 3 t = iblk m c 3 t := by dsimp only [dats]
/-- and before it. -/
theorem before3 (c : Dev nD) (t : Fin cfg0.N) (d) : (dats m 0 c).before 3 t d = iblk m c 3 t :=
  before0_3_of m (dats m 0 c) (A_eq m c 3) (after3 m c) t d
/-- Input 4's buffer holds its block after the body, -/
theorem after4 (c : Dev nD) (t : Fin cfg0.N) : (dats m 0 c).after 4 t = iblk m c 4 t := by dsimp only [dats]
/-- and before it. -/
theorem before4 (c : Dev nD) (t : Fin cfg0.N) (d) : (dats m 0 c).before 4 t d = iblk m c 4 t :=
  before0_4_of m (dats m 0 c) (A_eq m c 4) (after4 m c) t d
/-- Input 5's buffer holds its block after the body, -/
theorem after5 (c : Dev nD) (t : Fin cfg0.N) : (dats m 0 c).after 5 t = iblk m c 5 t := by dsimp only [dats]
/-- and before it. -/
theorem before5 (c : Dev nD) (t : Fin cfg0.N) (d) : (dats m 0 c).before 5 t d = iblk m c 5 t :=
  before0_5_of m (dats m 0 c) (A_eq m c 5) (after5 m c) t d
/-- Input 6's buffer holds its block after the body, -/
theorem after6 (c : Dev nD) (t : Fin cfg0.N) : (dats m 0 c).after 6 t = iblk m c 6 t := by dsimp only [dats]
/-- and before it. -/
theorem before6 (c : Dev nD) (t : Fin cfg0.N) (d) : (dats m 0 c).before 6 t d = iblk m c 6 t :=
  before0_6_of m (dats m 0 c) (A_eq m c 6) (after6 m c) t d

/-- Between the points the six scratch buffers are owned at some contents, and the generator register at some state. -/
theorem PhiA_eq (c : Dev nD) : (Pipeline.ΦA spec0 c : sProp (Res F))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d))
      ∗ (∃ r, prngReg c r)) := by
  unfold Pipeline.ΦA; rw [scopedRest0_eq]; simp only [owns_whole]; try rfl

/-- What the body works in at point `t`: scratch, the generator register, what the core owes, each input's buffer at its
    block, the output's at some contents. -/
def room (c : Dev nD) (t : Fin cfg0.N) : sProp (Res F) :=
  iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d))
      ∗ (∃ r, prngReg c r)) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ (∃ X, owns (c : Thread nD τ) (win0_7.stage (cfg0.slots t 7)) fullShare X))

/-- The body keeps its room. -/
theorem body_ok (c : Dev nD) (t : Fin cfg0.N) : Ok c (room m c t) (bodyAt0 t) := by
  unfold room
  exact cc0_hgrn_ok _ _ _ _ _ _ _ _ _ _ _ _ _ _ _ _ _ _ _ _ _ _ _ _ _ _ _ _ _
    (.right (.right (.left Reads.owns)))
    (.right (.right (.right (.left Reads.owns))))
    (.right (.right (.right (.right (.left Reads.owns)))))
    (.right (.right (.right (.right (.right (.left Reads.owns))))))
    (.right (.right (.right (.right (.right (.right (.left Reads.owns)))))))
    (.right (.right (.right (.right (.right (.right (.right (.left Reads.owns))))))))
    (.right (.right (.right (.right (.right (.right (.right (.right (.left Reads.owns)))))))))
    (.right (.right (.right (.right (.right (.right (.right (.right (.right (Writes.owns))))))))))
    (.left (.left (.left Writes.owns)))
    (.left (.left (.right (.left Writes.owns))))
    (.left (.left (.right (.right (.left Writes.owns)))))
    (.left (.left (.right (.right (.right (.left Writes.owns))))))
    (.left (.left (.right (.right (.right (.right (.left Writes.owns)))))))
    (.left (.left (.right (.right (.right (.right (.right (Writes.owns))))))))

/-- The body table's row at point `t` is the body. -/
theorem row_eq (t : Fin cfg0.N) : defs₀ (F := F) .tc cfg0.body (cfg0.bodyArgs t (cfg0.slots t)) = bodyAt0 t := by
  unfold defs₀; rw [Defs.onTc_tc]

/-- The pipeline's demand on the body, at every point: handed the inputs at their blocks and the output's buffer at
    anything, it gives them back so. -/
theorem body_obligation (c : Dev nD) :
    BodyObligation (dats (F := F) m 0 c) (defs₀ (F := F)) Variants.none () Set.univ fgt := fun t => by
  rw [bigSep_W0, bigSep_W0, row_eq]
  refine triple_restated (P := room m c t) (Q := fun _ => room m c t) (body_ok m c t) rfl ?_ fun _ => ?_
  · show iprop(Pipeline.ΦA spec0 c ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ X, owns (c : Thread nD τ) (win0_7.stage (cfg0.slots t 7)) fullShare X)) ⊢ room m c t
    simp only [before0, before1, before2, before3, before4, before5, before6]
    rw [PhiA_eq]; unfold room
    iintro ⟨Hs, Ho, ⟨%d0, H0⟩, ⟨%d1, H1⟩, ⟨%d2, H2⟩, ⟨%d3, H3⟩, ⟨%d4, H4⟩, ⟨%d5, H5⟩, ⟨%d6, H6⟩, H7⟩
    isplitl [Hs]; · iexact Hs
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · show room m c t ⊢ iprop(Pipeline.ΦA spec0 c ∗ (dats m 0 c).owesAt () t.castSucc
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ (∃ X, owns (c : Thread nD τ) (win0_7.stage (cfg0.slots t 7)) fullShare X))
    rw [after0, after1, after2, after3, after4, after5, after6, PhiA_eq]; unfold room
    exact .rfl

/-! ## The run and the frame -/

set_option backward.isDefEq.respectTransparency.types false in
/-- The program runs to the end: each input array as the region found it, every other array of the program too, and every
    semaphore counter at zero. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The program ends, its three argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 4 rfl).trans ((A_eq m c 4).trans (V_main_arg0 m c)),
      (h.1.arr_in c 5 rfl).trans ((A_eq m c 5).trans (V_main_arg1 m c)),
      ((h.1 c).2 main_arg2 (Pipeline.mem_restRefs_of main_arg2 (by decide) (by decide))).trans (V_main_arg2 m c)⟩, h.2⟩)
    (run m ρ)

end Cert.HgrnIdeal.Foot

end
-- ==== Proof.SelIdealFrame.lean ====
/- The selection's body, run for its footprint alone: what it loads lies within the memrefs it is handed, what it stores within
   its outputs and its scratch, whatever the values and the trips' carried values. From it the frame of the whole program: it
   ends, and its argument array ends unchanged. -/
module

public import proofs.«01_k».proof.Proof.Gen.SelectIdeal.Frame.Runs
public import proofs.«01_k».proof.Proof.SafeRun

@[expose] public section

noncomputable section

namespace Cert.SelectIdeal.Foot

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg Window BodyObligation cellOf)
open Cert.SelectIdeal.Gen Cert.SafeRun

variable {F : FTy → Type} [FloatOps F]

/-- The resources of one core, at the pipeline's user algebra. -/
abbrev Res (F : FTy → Type) := MT nD τ sig Unit (Elt F) ℕ (UR sig nD τ) ℕ

variable {c : Dev nD} {R : sProp (Res F)}

/-- The body's safety from the resource `R`, on core `c`. -/
abbrev Ok (c : Dev nD) (R : sProp (Res F)) {α : Type} (p : Prog (TpuEff nD τ sig (Elt F) Λ₀ .tc) α) : Prop :=
  Safe (defs₀ (F := F)) Variants.none (c : Thread nD τ) none Set.univ R p

set_option maxHeartbeats 4000000 in
set_option maxRecDepth 16384 in
/-- The first part of a trip of the last loop. -/
theorem k0_part1_ok (arg0 : Memref sig .tc .vmem S16x65536 .i32) (harg0 : arg0.IsWhole) (arg1 : Memref sig .tc .vmem S16x65536 .i32) (harg1 : arg1.IsWhole) (arg2 : Memref sig .tc .vmem S16x640 .i32) (harg2 : arg2.IsWhole) (arg3 : Memref sig .tc .vmem S2x16x128 .f32) (harg3 : arg3.IsWhole) (v2 : IVec S16x1 32) (v12 : FVec F S16x1 .f32) (v19 : FVec F S128x128 .bf16) (v20 : IVec S16x640 32) (c0_i32_15 : BitVec 32) (c1_i32_16 : BitVec 32) (k0_t4 : Fin k0_t4_loop.trips)
    (h0 : Reads (c : Thread nD τ) R arg0) (h1 : Writes (c : Thread nD τ) R arg1) (h2 : Writes (c : Thread nD τ) R arg2) (h3 : Writes (c : Thread nD τ) R arg3) :
    Ok c R (k0_part1 arg0 harg0 arg1 harg1 arg2 harg2 arg3 harg3 v2 v12 v19 v20 c0_i32_15 c1_i32_16 k0_t4 : Prog (TpuEff nD τ sig (Elt F) Λ₀ .tc) _) := by
  unfold k0_part1
  repeat' with_reducible first
    | exact Safe.pure _
    | refine Safe.bind ?_ (fun _ => ?_)
    | refine Safe.for (fun _ _ => ?_)
    | exact Safe.load h0
    | exact Safe.load h1.reads
    | exact Safe.store h1
    | exact Safe.load h2.reads
    | exact Safe.store h2
    | exact Safe.load h3.reads
    | exact Safe.store h3

set_option maxHeartbeats 4000000 in
set_option maxRecDepth 16384 in
/-- The four loops. -/
theorem k0_part2_ok (arg0 : Memref sig .tc .vmem S16x65536 .i32) (harg0 : arg0.IsWhole) (arg1 : Memref sig .tc .vmem S16x65536 .i32) (harg1 : arg1.IsWhole) (arg2 : Memref sig .tc .vmem S16x640 .i32) (harg2 : arg2.IsWhole) (arg3 : Memref sig .tc .vmem S2x16x128 .f32) (harg3 : arg3.IsWhole)
    (h0 : Reads (c : Thread nD τ) R arg0) (h1 : Writes (c : Thread nD τ) R arg1) (h2 : Writes (c : Thread nD τ) R arg2) (h3 : Writes (c : Thread nD τ) R arg3) :
    Ok c R (k0_part2 arg0 harg0 arg1 harg1 arg2 harg2 arg3 harg3 : Prog (TpuEff nD τ sig (Elt F) Λ₀ .tc) _) := by
  unfold k0_part2
  repeat' with_reducible first
    | exact Safe.pure _
    | refine Safe.bind ?_ (fun _ => ?_)
    | refine Safe.for (fun _ _ => ?_)
    | exact Safe.load h0
    | exact Safe.load h1.reads
    | exact Safe.store h1
    | exact Safe.load h2.reads
    | exact Safe.store h2
    | exact Safe.load h3.reads
    | exact Safe.store h3
    | (apply k0_part1_ok <;> assumption)

set_option maxHeartbeats 4000000 in
set_option maxRecDepth 16384 in
/-- The whole body. -/
theorem cc0_select_ok (arg0 : Memref sig .tc .vmem S16x65536 .i32) (harg0 : arg0.IsWhole) (arg1 : Memref sig .tc .vmem S16x65536 .i32) (harg1 : arg1.IsWhole) (arg2 : Memref sig .tc .vmem S16x640 .i32) (harg2 : arg2.IsWhole) (arg3 : Memref sig .tc .vmem S2x16x128 .f32) (harg3 : arg3.IsWhole)
    (h0 : Reads (c : Thread nD τ) R arg0) (h1 : Writes (c : Thread nD τ) R arg1) (h2 : Writes (c : Thread nD τ) R arg2) (h3 : Writes (c : Thread nD τ) R arg3) :
    Ok c R (cc0_select arg0 harg0 arg1 harg1 arg2 harg2 arg3 harg3 : Prog (TpuEff nD τ sig (Elt F) Λ₀ .tc) _) := by
  unfold cc0_select
  repeat' with_reducible first
    | exact Safe.pure _
    | refine Safe.bind ?_ (fun _ => ?_)
    | refine Safe.for (fun _ _ => ?_)
    | exact Safe.load h0
    | exact Safe.load h1.reads
    | exact Safe.store h1
    | exact Safe.load h2.reads
    | exact Safe.store h2
    | exact Safe.load h3.reads
    | exact Safe.store h3
    | (apply k0_part2_ok <;> assumption)

/-! ## The pipeline's proof data: the input at its block, the outputs' contents not named -/

variable (m : (ℓ : Loc nD τ sig) → Buf (Elt F) ℓ) (ρ : Dev nD → PrngReg)

/-- The windows nothing is said of: the outputs. -/
def fgt : Fin cfg0.W → Bool := fun w => w.val != 0

/-- The proof data of the pipeline on core `c`: the arrays as the region finds them, the input's buffer at its block after
    the point, the outputs' unnamed, the scoped rest and the generator register between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed 1 t
    | ⟨2, _⟩ => Dat.unnamed 2 t
    | ⟨_ + 3, h⟩ => absurd h (Nat.not_lt.2 (Nat.le_add_left _ _))
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- The input's buffer holds its block after the body, -/
theorem after0 (c : Dev nD) (t : Fin cfg0.N) : (dats m 0 c).after 0 t = iblk m c 0 t := by dsimp only [dats]
/-- and before it. -/
theorem before0 (c : Dev nD) (t : Fin cfg0.N) (d) : (dats m 0 c).before 0 t d = iblk m c 0 t :=
  before0_0_of m (dats m 0 c) (A_eq m c 0) (after0 m c) t d

/-- Between the points the scratch buffer is owned at some contents, and the generator register at some state. -/
theorem PhiA_eq (c : Dev nD) : (Pipeline.ΦA spec0 c : sProp (Res F))
    = iprop((∃ d, owns (c : Thread nD τ) (Memref.whole cc0_scratch0) fullShare d) ∗ (∃ r, prngReg c r)) := by
  unfold Pipeline.ΦA; rw [scopedRest0_eq]; simp only [owns_whole]; try rfl

/-- What the body works in: scratch, the generator register, what the core owes, the input's buffer at its block, the
    outputs' at some contents. -/
def room (c : Dev nD) (t : Fin cfg0.N) : sProp (Res F) :=
  iprop(((∃ d, owns (c : Thread nD τ) (Memref.whole cc0_scratch0) fullShare d) ∗ (∃ r, prngReg c r)) ∗ (dats m 0 c).owesAt () t.castSucc
    ∗ owns (c : Thread nD τ) (win0_0.stage (cfg0.slots t 0)) fullShare (iblk m c 0 t)
    ∗ (∃ X, owns (c : Thread nD τ) (win0_1.stage (cfg0.slots t 1)) fullShare X)
    ∗ (∃ X, owns (c : Thread nD τ) (win0_2.stage (cfg0.slots t 2)) fullShare X))

/-- The body keeps its room. -/
theorem body_ok (c : Dev nD) (t : Fin cfg0.N) : Ok c (room m c t) (bodyAt0 t) := by
  unfold room
  exact cc0_select_ok _ _ _ _ _ _ _ _
    (.right (.right (.left Reads.owns)))
    (.right (.right (.right (.left Writes.owns))))
    (.right (.right (.right (.right Writes.owns))))
    (.left (.left Writes.owns))

/-- The body table's row at point `t` is the body. -/
theorem row_eq (t : Fin cfg0.N) : defs₀ (F := F) .tc cfg0.body (cfg0.bodyArgs t (cfg0.slots t)) = bodyAt0 t := by
  unfold defs₀; rw [Defs.onTc_tc]

/-- The pipeline's demand on the body: handed the input at its block and the outputs' buffers at anything, it gives them
    back so. -/
theorem body_obligation (c : Dev nD) :
    BodyObligation (dats (F := F) m 0 c) (defs₀ (F := F)) Variants.none () Set.univ fgt := fun t => by
  rw [bigSep_W0, bigSep_W0, row_eq]
  refine triple_restated (P := room m c t) (Q := fun _ => room m c t) (body_ok m c t) rfl ?_ fun _ => ?_
  · show iprop(Pipeline.ΦA spec0 c ∗ (dats m 0 c).owesAt () t.castSucc
      ∗ (∃ d, owns (c : Thread nD τ) (win0_0.stage (cfg0.slots t 0)) fullShare ((dats m 0 c).before 0 t d))
      ∗ (∃ X, owns (c : Thread nD τ) (win0_1.stage (cfg0.slots t 1)) fullShare X)
      ∗ (∃ X, owns (c : Thread nD τ) (win0_2.stage (cfg0.slots t 2)) fullShare X)) ⊢ room m c t
    simp only [before0]
    rw [PhiA_eq]; unfold room
    iintro ⟨Hs, Ho, ⟨%d0, H0⟩, H1, H2⟩
    isplitl [Hs]; · iexact Hs
    isplitl [Ho]; · iexact Ho
    isplitl [H0]; · iexact H0
    isplitl [H1]; · iexact H1
    iexact H2
  · show room m c t ⊢ iprop(Pipeline.ΦA spec0 c ∗ (dats m 0 c).owesAt () t.castSucc
      ∗ owns (c : Thread nD τ) (win0_0.stage (cfg0.slots t 0)) fullShare ((dats m 0 c).after 0 t)
      ∗ (∃ X, owns (c : Thread nD τ) (win0_1.stage (cfg0.slots t 1)) fullShare X)
      ∗ (∃ X, owns (c : Thread nD τ) (win0_2.stage (cfg0.slots t 2)) fullShare X))
    rw [after0, PhiA_eq]; unfold room
    exact .rfl

/-! ## The run and the frame -/

set_option backward.isDefEq.respectTransparency.types false in
/-- The program runs to the end: the input array as the region found it, every other array of the program too, and every
    semaphore counter at zero. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) (Pipeline.LaunchFacts.to₀ launch0) defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The program ends, its argument array unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    (h.1.arr_in c 0 rfl).trans ((A_eq m c 0).trans (V_main_arg0 m c)), h.2⟩)
    (run m ρ)

end Cert.SelectIdeal.Foot

end
-- ==== Proof.SelMath.lean ====
/- The mathematics of choosing the `cap` largest of `N` words, ties going to the earlier place: the search for the `cap`-th
   largest word bit by bit, and that "above it, or equal to it with few equals before" is "fewer than `cap` go before me". -/
module

public import Idealize.ShloMosaic.PureOps.Reduce
public import Idealize.ShloMosaic.Lib.IndicatorCount
public import Idealize.ShloMosaic.PureOps.Ideal
public import Mathlib.Data.Nat.Count
public import Mathlib.Algebra.BigOperators.Intervals

@[expose] public section

noncomputable section

namespace Cert.SelMath

open Idealize.ShloMosaic

/-! ## The search -/

/-- After `k` bits: the prefix `P` is a multiple of the unseen bits' range, at least `cap` words reach it, and fewer than
    `cap` reach the end of the range it leaves open. -/
structure Search (b : ℕ → ℕ) (N cap k P : ℕ) : Prop where
  dvd : 2 ^ (31 - k) ∣ P
  top : P + 2 ^ (31 - k) ≤ 2 ^ 31
  lo : cap ≤ Nat.count (fun i => P ≤ b i) N
  hi : Nat.count (fun i => P + 2 ^ (31 - k) ≤ b i) N < cap

/-- No place counts where nothing holds. -/
theorem count_none {p : ℕ → Prop} [DecidablePred p] {N : ℕ} (h : ∀ i < N, ¬ p i) : Nat.count p N = 0 := by
  rw [Nat.count_eq_card_filter_range, Finset.card_eq_zero, Finset.filter_eq_empty_iff]
  intro i hi
  exact h i (Finset.mem_range.1 hi)

/-- Every place counts where all hold. -/
theorem count_all {p : ℕ → Prop} [DecidablePred p] {N : ℕ} (h : ∀ i < N, p i) : Nat.count p N = N := by
  rw [Nat.count_eq_card_filter_range, Finset.filter_true_of_mem (fun i hi => h i (Finset.mem_range.1 hi)), Finset.card_range]

/-- The search begins with nothing known. -/
theorem Search.zero {b : ℕ → ℕ} {N cap : ℕ} (hb : ∀ i < N, b i < 2 ^ 31) (h0 : 0 < cap) (hN : cap ≤ N) : Search b N cap 0 0 where
  dvd := dvd_zero _
  top := by simp
  lo := by rw [count_all (fun _ _ => Nat.zero_le _)]; exact hN
  hi := by
    rw [count_none (fun i hi => by have := hb i hi; simpa using this)]; exact h0

/-- The next bit is free in the prefix. -/
theorem Search.or {b : ℕ → ℕ} {N cap k P : ℕ} (h : Search b N cap k P) (hk : k < 31) : P ||| 2 ^ (30 - k) = P + 2 ^ (30 - k) := by
  obtain ⟨a, rfl⟩ := h.dvd
  exact (Nat.two_pow_add_eq_or_of_lt (Nat.pow_lt_pow_right (by omega) (by omega)) a).symm

/-- One bit of the search: the prefix with the next bit is kept if `cap` words reach it. -/
theorem Search.step {b : ℕ → ℕ} {N cap k P : ℕ} (h : Search b N cap k P) (hk : k < 31) :
    Search b N cap (k + 1) (if cap ≤ Nat.count (fun i => P + 2 ^ (30 - k) ≤ b i) N then P + 2 ^ (30 - k) else P) := by
  have e : 2 ^ (31 - k) = 2 ^ (30 - k) + 2 ^ (30 - k) := by
    rw [show 31 - k = (30 - k) + 1 by omega, pow_succ]; omega
  have e' : 31 - (k + 1) = 30 - k := by omega
  have hd := h.dvd
  have ht := h.top
  have hh := h.hi
  have hp : 2 ^ (30 - k) ∣ P := (Dvd.intro_left 2 (by rw [e]; ring)).trans hd
  split
  · rename_i hc
    exact ⟨by rw [e']; exact (Nat.dvd_add_right hp).2 dvd_rfl, by rw [e']; omega, hc, by
      rw [e']; simpa only [e, add_assoc] using hh⟩
  · rename_i hc
    exact ⟨by rw [e']; exact hp, by rw [e']; omega, h.lo, by rw [e']; omega⟩

/-- The bit's word stays below the sign. -/
theorem Search.bit_lt {b : ℕ → ℕ} {N cap k P : ℕ} (h : Search b N cap k P) (hk : k < 31) : P + 2 ^ (30 - k) < 2 ^ 31 := by
  have e : 2 ^ (31 - k) = 2 ^ (30 - k) + 2 ^ (30 - k) := by
    rw [show 31 - k = (30 - k) + 1 by omega, pow_succ]; omega
  have ht := h.top
  have : 0 < 2 ^ (30 - k) := by positivity
  omega

/-! ## The choice -/

/-- A place is chosen: its word is above the threshold, or equal to it with fewer than `need` equals before it. -/
def Sel (b : ℕ → ℕ) (t need i : ℕ) : Prop := t < b i ∨ (b i = t ∧ Nat.count (fun j => b j = t) i < need)

instance (b : ℕ → ℕ) (t need : ℕ) : DecidablePred (Sel b t need) := fun i => by unfold Sel; infer_instance

/-- What goes before place `i`: a larger word, or an equal one at an earlier place. -/
def Before (b : ℕ → ℕ) (i j : ℕ) : Prop := b i < b j ∨ (b j = b i ∧ j < i)

instance (b : ℕ → ℕ) (i : ℕ) : DecidablePred (Before b i) := fun j => by unfold Before; infer_instance

/-- Counting either of two things that exclude each other. -/
theorem count_or {p q : ℕ → Prop} [DecidablePred p] [DecidablePred q] (h : ∀ i, p i → ¬ q i) (N : ℕ) :
    Nat.count (fun i => p i ∨ q i) N = Nat.count p N + Nat.count q N := by
  induction N with
  | zero => rfl
  | succ n ih =>
    rw [Nat.count_succ, Nat.count_succ, Nat.count_succ, ih]
    have := h n
    by_cases hp : p n <;> by_cases hq : q n <;> simp [hp, hq] <;> first | omega | (exact absurd hq (this hp))

/-- Counting up to `i` among the first `N` places is counting the first `i`. -/
theorem count_and_lt {p : ℕ → Prop} [DecidablePred p] {i N : ℕ} (h : i ≤ N) : Nat.count (fun j => p j ∧ j < i) N = Nat.count p i := by
  rw [Nat.count_eq_card_filter_range, Nat.count_eq_card_filter_range]
  congr 1
  ext j
  simp only [Finset.mem_filter, Finset.mem_range]
  constructor
  · rintro ⟨_, hp, hl⟩; exact ⟨hl, hp⟩
  · rintro ⟨hl, hp⟩; exact ⟨by omega, hp, hl⟩

/-- Chosen is: fewer than `cap` go before. -/
theorem sel_iff {b : ℕ → ℕ} {N cap t : ℕ} (lo : cap ≤ Nat.count (fun i => t ≤ b i) N) (hi : Nat.count (fun i => t + 1 ≤ b i) N < cap)
    {i : ℕ} (hN : i < N) :
    Sel b t (cap - Nat.count (fun i => t + 1 ≤ b i) N) i ↔ Nat.count (Before b i) N < cap := by
  rcases lt_trichotomy (b i) t with h | h | h
  · refine iff_of_false (by rintro (h' | ⟨h', _⟩) <;> omega) (not_lt.2 (lo.trans (Nat.count_mono_left fun j _ hj => Or.inl (lt_of_lt_of_le h hj))))
  · subst h
    have e : Nat.count (Before b i) N = Nat.count (fun j => b i + 1 ≤ b j) N + Nat.count (fun j => b j = b i) i := by
      rw [← count_and_lt (p := fun j => b j = b i) hN.le, ← count_or (fun j h1 h2 => by omega)]
      rfl
    rw [e]
    constructor
    · rintro (h' | ⟨_, h'⟩) <;> omega
    · intro h'; right; exact ⟨rfl, by omega⟩
  · refine iff_of_true (Or.inl h) (lt_of_le_of_lt (Nat.count_mono_left fun j _ hj => ?_) hi)
    have hj : b i < b j ∨ (b j = b i ∧ j < i) := hj
    omega

/-! ## Counting by blocks -/

/-- A count over `T` blocks of `L` is the sum over the places in a block of the counts over the blocks. -/
theorem count_blocks (p : ℕ → Prop) [DecidablePred p] (L T : ℕ) :
    ∑ d ∈ Finset.range L, Nat.count (fun t => p (L * t + d)) T = Nat.count p (L * T) := by
  induction T with
  | zero => simp
  | succ T ih =>
    have e : L * (T + 1) = L * T + L := by ring
    rw [e, Nat.count_add, ← ih]
    simp only [Nat.count_succ, Finset.sum_add_distrib]
    congr 1
    rw [Nat.count_eq_card_filter_range, Finset.card_filter]

/-- A count over the places of a finite type is a count of numbers. -/
theorem card_fin (p : ℕ → Prop) [DecidablePred p] (N : ℕ) : ((Finset.univ : Finset (Fin N)).filter fun k => p k.val).card = Nat.count p N := by
  rw [Nat.count_eq_card_filter_range, ← Finset.card_map Fin.valEmbedding]
  congr 1
  ext j
  simp only [Finset.mem_map, Finset.mem_filter, Finset.mem_univ, true_and, Finset.mem_range, Fin.valEmbedding_apply]
  constructor
  · rintro ⟨k, hk, rfl⟩; exact ⟨k.isLt, hk⟩
  · rintro ⟨hl, hp⟩; exact ⟨⟨j, hl⟩, hp, rfl⟩

/-- A sum of words of numbers is the word of the numbers' sum. -/
theorem fold_ofNat {ι : Type} (S : Finset ι) (f : ι → ℕ) : S.fold IntOp.addi (0#32) (fun k => BitVec.ofNat 32 (f k)) = BitVec.ofNat 32 (∑ k ∈ S, f k) := by
  classical
  induction S using Finset.induction_on with
  | empty => rfl
  | insert a S ha ih =>
    rw [Finset.fold_insert ha, ih, Finset.sum_insert ha, BitVec.ofNat_add]
    rfl

/-! ## Words -/

/-- A signed comparison of words below the sign is a comparison of numbers. -/
theorem sge_iff (x y : BitVec 32) (hx : x.toNat < 2 ^ 31) (hy : y.toNat < 2 ^ 31) : IntOp.cmpi .sge x y = 1#1 ↔ y.toNat ≤ x.toNat := by
  have h1 : x.toInt = x.toNat := BitVec.toInt_eq_toNat_of_lt (by omega)
  have h2 : y.toInt = y.toNat := BitVec.toInt_eq_toNat_of_lt (by omega)
  simp only [IntOp.cmpi, BitVec.ofBool_eq_iff_eq, BitVec.sle_eq_decide, h1, h2]
  by_cases h : y.toNat ≤ x.toNat <;> simp [h]

/-- The strict signed comparison, the same. -/
theorem sgt_iff (x y : BitVec 32) (hx : x.toNat < 2 ^ 31) (hy : y.toNat < 2 ^ 31) : IntOp.cmpi .sgt x y = 1#1 ↔ y.toNat < x.toNat := by
  have h1 : x.toInt = x.toNat := BitVec.toInt_eq_toNat_of_lt (by omega)
  have h2 : y.toInt = y.toNat := BitVec.toInt_eq_toNat_of_lt (by omega)
  simp only [IntOp.cmpi, BitVec.slt_eq_decide, h1, h2]
  by_cases h : y.toNat < x.toNat <;> simp [h]

/-- The strict signed comparison the other way, the same. -/
theorem slt_iff (x y : BitVec 32) (hx : x.toNat < 2 ^ 31) (hy : y.toNat < 2 ^ 31) : IntOp.cmpi .slt x y = 1#1 ↔ x.toNat < y.toNat := by
  have h1 : x.toInt = x.toNat := BitVec.toInt_eq_toNat_of_lt (by omega)
  have h2 : y.toInt = y.toNat := BitVec.toInt_eq_toNat_of_lt (by omega)
  simp only [IntOp.cmpi, BitVec.slt_eq_decide, h1, h2]
  by_cases h : x.toNat < y.toNat <;> simp [h]

/-- The weak signed comparison the other way, the same. -/
theorem sle_iff (x y : BitVec 32) (hx : x.toNat < 2 ^ 31) (hy : y.toNat < 2 ^ 31) : IntOp.cmpi .sle x y = 1#1 ↔ x.toNat ≤ y.toNat := by
  have h1 : x.toInt = x.toNat := BitVec.toInt_eq_toNat_of_lt (by omega)
  have h2 : y.toInt = y.toNat := BitVec.toInt_eq_toNat_of_lt (by omega)
  simp only [IntOp.cmpi, BitVec.sle_eq_decide, h1, h2]
  by_cases h : x.toNat ≤ y.toNat <;> simp [h]

/-- Equality of words is equality of numbers. -/
theorem eq_iff (x y : BitVec 32) : IntOp.cmpi .eq x y = 1#1 ↔ x.toNat = y.toNat := by
  simp only [IntOp.cmpi]
  by_cases h : x = y
  · subst h; simp
  · have : x.toNat ≠ y.toNat := fun e => h (BitVec.eq_of_toNat_eq e)
    have hb : (x == y) = false := by simp [h]
    simp [hb, this]

/-- A bit that is not one is zero. -/
theorem bit_zero : ∀ v : BitVec 1, v ≠ 1#1 → v = 0#1 := by decide

/-- A bit is one or zero. -/
theorem bit_of {v : BitVec 1} {p : Prop} [Decidable p] (h : v = 1#1 ↔ p) : v = if p then 1#1 else 0#1 := by
  by_cases hp : p
  · rw [if_pos hp]; exact h.2 hp
  · rw [if_neg hp]
    have : v ≠ 1#1 := fun e => hp (h.1 e)
    exact bit_zero v this

/-- Choosing by a bit is choosing by what it says. -/
theorem select_of {α : Type} {v : BitVec 1} {p : Prop} [Decidable p] (h : v = 1#1 ↔ p) (a b : α) : Scalar.select v a b = if p then a else b := by
  unfold Scalar.select
  by_cases hp : p
  · rw [if_pos hp, h.2 hp]; rfl
  · rw [if_neg hp, bit_of h, if_neg hp]; rfl

/-! ## Numbers as ideal floats -/

/-- The difference of two numbers. -/
theorem nat_sub {a b : ℕ} (h : b ≤ a) : ((a : ℕ) : EReal) - (b : ℕ) = ((a - b : ℕ) : EReal) := by
  rw [← EReal.coe_natCast, ← EReal.coe_natCast, ← EReal.coe_natCast, ← EReal.coe_sub, Nat.cast_sub h]

/-- The order of two numbers. -/
theorem nat_lt {a b : ℕ} : ((a : ℕ) : EReal) < (b : ℕ) ↔ a < b := by
  rw [← EReal.coe_natCast, ← EReal.coe_natCast, EReal.coe_lt_coe_iff, Nat.cast_lt]

/-- A number turned into a word. -/
theorem fptosi_nat {n : ℕ} (h : n < 2 ^ 31) : Ideal.fptosi 32 ((n : ℕ) : EReal) = BitVec.ofNat 32 n := by
  rw [← EReal.coe_natCast]
  have hn : (n : ℤ) < 2 ^ 31 := by exact_mod_cast h
  show BitVec.ofInt 32 (max (-(2 ^ (32 - 1) : ℕ) : ℤ) (min (((2 ^ (32 - 1) : ℕ) : ℤ) - 1) (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast 32 n

/-- Minus one turned into a word. -/
theorem fptosi_neg : Ideal.fptosi 32 ((-1 : ℝ) : EReal) = 4294967295#32 := by
  show BitVec.ofInt 32 (max (-(2 ^ (32 - 1) : ℕ) : ℤ) (min (((2 ^ (32 - 1) : ℕ) : ℤ) - 1) (if (0 : ℝ) ≤ (-1 : ℝ) then ⌊(-1 : ℝ)⌋ else ⌈(-1 : ℝ)⌉))) = _
  rw [if_neg (by norm_num), show ⌈(-1 : ℝ)⌉ = -1 by rw [Int.ceil_eq_iff]; norm_num]
  decide

/-- The running count within a block, as a product with the triangle of ones. -/
theorem tri_sum (p : ℕ → Prop) [DecidablePred p] (d : Fin 128) :
    ∑ k : Fin 128, (if p k.val then (1 : EReal) else 0) * (if k.val ≤ d.val then (1 : EReal) else 0) = ((Nat.count p (d.val + 1) : ℕ) : EReal) := by
  have h : ∀ k : Fin 128, (if p k.val then (1 : EReal) else 0) * (if k.val ≤ d.val then (1 : EReal) else 0) = if (p k.val ∧ k.val < d.val + 1) then 1 else 0 := fun k => by
    by_cases h1 : p k.val <;> by_cases h2 : k.val ≤ d.val <;> simp [h1, h2, Nat.lt_succ_iff]
  rw [Finset.sum_congr rfl fun k _ => h k, Finset.sum_boole, card_fin (fun j => p j ∧ j < d.val + 1), count_and_lt (by omega)]

end Cert.SelMath

end
-- ==== Proof.MixFinite.lean ====
module

public import proofs.«01_k».proof.Proof.Gen.MixRefIdeal.Read
public import proofs.«01_k».proof.Pre_finite_args
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.MixRefIdeal.Finite

open Cert.MixRefIdeal Cert.MixRefIdeal.Gen
open Cert.MixRefIdeal.Read

/-- A value that is a real number, so neither of the infinities. -/
def IsReal (x : EReal) : Prop := ∃ r : ℝ, x = (r : EReal)

/-- A real number that is not negative. -/
def NotNeg (x : EReal) : Prop := ∃ r : ℝ, 0 ≤ r ∧ x = (r : EReal)

/-- A real number that is positive. -/
def IsPos (x : EReal) : Prop := ∃ r : ℝ, 0 < r ∧ x = (r : EReal)

/-- Sums of two, differences and products of two real numbers are real. -/
theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

/-- A sum of real numbers is real. -/
theorem IsReal.sum {n : ℕ} {f : Fin n → EReal} (h : ∀ k, IsReal (f k)) : IsReal (∑ k, f k) :=
  Finset.sum_induction f IsReal (fun _ _ => .add) ⟨0, rfl⟩ fun k _ => h k

/-- What is left of a real number by itself is nothing. -/
theorem IsReal.sub_self {x : EReal} (hx : IsReal x) : x - x = 0 := by
  obtain ⟨r, rfl⟩ := hx; rw [← EReal.coe_sub, _root_.sub_self]; rfl

theorem NotNeg.zero : NotNeg (Ideal.ofBits .f32 0x00000000#32) := ⟨0, le_rfl, by simp [Ideal.ofBits, Ideal.ieee]⟩

theorem NotNeg.add {x y : EReal} (hx : NotNeg x) (hy : NotNeg y) : NotNeg (x + y) := by
  obtain ⟨r, hr, rfl⟩ := hx; obtain ⟨s, hs, rfl⟩ := hy; exact ⟨r + s, add_nonneg hr hs, (EReal.coe_add r s).symm⟩

theorem NotNeg.sum {n : ℕ} {f : Fin n → EReal} (h : ∀ k, NotNeg (f k)) : NotNeg (∑ k, f k) :=
  Finset.sum_induction f NotNeg (fun _ _ => .add) ⟨0, le_rfl, rfl⟩ fun k _ => h k

/-- A square of a real number is not negative. -/
theorem IsReal.square {x : EReal} (hx : IsReal x) : NotNeg (x * x) := by
  obtain ⟨r, rfl⟩ := hx; exact ⟨r * r, mul_self_nonneg r, (EReal.coe_mul r r).symm⟩

theorem IsPos.real {x : EReal} (hx : IsPos x) : IsReal x := hx.imp fun _ h => h.2

/-- The quotient of a real number by a positive one, as a product with the inverse. -/
theorem div_pos_eq (r s : ℝ) (hs : 0 < s) : Ideal.div (r : EReal) (s : EReal) = ((r * s⁻¹ : ℝ) : EReal) := by
  unfold Ideal.div
  rw [if_neg (by exact_mod_cast hs.ne'), EReal.coe_mul, EReal.coe_inv]

theorem NotNeg.div {x y : EReal} (hx : NotNeg x) (hy : IsPos y) : NotNeg (Ideal.div x y) := by
  obtain ⟨r, hr, rfl⟩ := hx; obtain ⟨s, hs, rfl⟩ := hy
  exact ⟨r * s⁻¹, mul_nonneg hr (inv_nonneg.mpr hs.le), div_pos_eq r s hs⟩

theorem IsReal.div {x y : EReal} (hx : IsReal x) (hy : IsPos y) : IsReal (Ideal.div x y) := by
  obtain ⟨r, rfl⟩ := hx; obtain ⟨s, hs, rfl⟩ := hy
  exact ⟨r * s⁻¹, div_pos_eq r s hs⟩

theorem IsPos.add_pos {x y : EReal} (hx : NotNeg x) (hy : IsPos y) : IsPos (x + y) := by
  obtain ⟨r, hr, rfl⟩ := hx; obtain ⟨s, hs, rfl⟩ := hy; exact ⟨r + s, add_pos_of_nonneg_of_pos hr hs, (EReal.coe_add r s).symm⟩

/-- The inverse root of a positive number is real. -/
theorem IsPos.rsqrt {x : EReal} (hx : IsPos x) : IsReal (Ideal.rsqrt x) := by
  obtain ⟨r, hr, rfl⟩ := hx
  exact ⟨(Real.sqrt r)⁻¹, by rw [Ideal.rsqrt_coe, if_neg hr.le.not_gt, if_neg hr.ne']⟩

/-- The exponential of a real number is positive. -/
theorem IsReal.exp {x : EReal} (hx : IsReal x) : IsPos (Ideal.exp x) := by
  obtain ⟨r, rfl⟩ := hx; exact ⟨Real.exp r, Real.exp_pos r, rfl⟩

/-- The sum, from zero, of positive numbers is positive. -/
theorem IsPos.sum_pos {n : ℕ} {f : Fin (n + 1) → EReal} (h : ∀ k, IsPos (f k)) : IsPos (Ideal.ofBits .f32 0x00000000#32 + ∑ k, f k) := by
  have h0 : ∀ k, NotNeg (f k) := fun k => (h k).imp fun _ e => ⟨e.1.le, e.2⟩
  rw [Fin.sum_univ_succ, add_comm (f 0), ← add_assoc]
  exact .add_pos (.add .zero (.sum fun k => h0 _)) (h 0)

/-- The largest of some real numbers is real. -/
theorem IsReal.fold_max {n : ℕ} {f : Fin (n + 1) → EReal} (h : ∀ k, IsReal (f k)) :
    IsReal ((Finset.univ : Finset (Fin (n + 1))).fold max ⊥ f) := by
  have ht : (Finset.univ : Finset (Fin (n + 1))).fold max ⊥ f < ⊤ :=
    (Finset.fold_max_lt _).mpr ⟨bot_lt_top, fun k _ => by obtain ⟨r, e⟩ := h k; rw [e]; exact EReal.coe_lt_top r⟩
  have hb : ⊥ < (Finset.univ : Finset (Fin (n + 1))).fold max ⊥ f :=
    (Finset.lt_fold_max _).mpr (Or.inr ⟨0, Finset.mem_univ _, by obtain ⟨r, e⟩ := h 0; rw [e]; exact EReal.bot_lt_coe r⟩)
  exact ⟨_, (EReal.coe_toReal ht.ne hb.ne').symm⟩

/-- The word of minus infinity. -/
theorem ofBits_bot : Ideal.ofBits .f32 0xFF800000#32 = ⊥ := by simp [Ideal.ofBits, Ideal.ieee]

theorem IsReal.max_bot {x : EReal} (hx : IsReal x) : IsReal (max (Ideal.ofBits .f32 0xFF800000#32) x) := by
  rw [ofBits_bot, max_eq_right bot_le]; exact hx

/-- The width of a row and the offset of the norm are positive. -/
theorem width_pos : IsPos (Ideal.ofBits .f32 0x44800000#32) := by
  simp only [Ideal.ofBits, Ideal.ieee]
  rw [if_neg (by decide), if_neg (by decide), if_neg (by decide)]
  exact ⟨_, by positivity, rfl⟩

theorem eps_pos : IsPos (Ideal.ofBits .f32 0x358637BD#32) := by
  simp only [Ideal.ofBits, Ideal.ieee]
  rw [if_neg (by decide), if_neg (by decide), if_neg (by decide)]
  exact ⟨_, by positivity, rfl⟩

/-- A value whose magnitude is below infinity is real. -/
theorem isReal_of_abs {x t : EReal} (ht : t = ⊤) (h : Ideal.cmp .olt (max x (-x)) t = 1#1) : IsReal x := by
  subst ht
  have h' : max x (-x) < ⊤ := by
    by_contra hn
    simp [Ideal.cmp, hn] at h
  obtain ⟨h1, h2⟩ := max_lt_iff.mp h'
  refine ⟨x.toReal, (EReal.coe_toReal h1.ne ?_).symm⟩
  rintro rfl
  simp at h2

/-- The combined projection holds real numbers. -/
theorem v0_real (x0 : Vec Ideal S65536x9216 .bf16) (h0 : ∀ i, IsReal (x0 i)) (i) : IsReal (val_main_v0 (F := Ideal) x0 i) := by
  exact h0 i

/-- Its column groups. -/
theorem v1_real (x0 : Vec Ideal S65536x9216 .bf16) (h0 : ∀ i, IsReal (x0 i)) (i) : IsReal (val_main_v1 (F := Ideal) x0 i) := by
  rw [val_main_v1_apply]; exact v0_real x0 h0 (_)

theorem v2_real (x0 : Vec Ideal S65536x9216 .bf16) (h0 : ∀ i, IsReal (x0 i)) (i) : IsReal (val_main_v2 (F := Ideal) x0 i) := by
  rw [val_main_v2_apply]; exact v0_real x0 h0 (_)

theorem v3_real (x0 : Vec Ideal S65536x9216 .bf16) (h0 : ∀ i, IsReal (x0 i)) (i) : IsReal (val_main_v3 (F := Ideal) x0 i) := by
  rw [val_main_v3_apply]; exact v0_real x0 h0 (_)

theorem v4_real (x0 : Vec Ideal S65536x9216 .bf16) (h0 : ∀ i, IsReal (x0 i)) (i) : IsReal (val_main_v4 (F := Ideal) x0 i) := by
  rw [val_main_v4_apply]; exact v0_real x0 h0 (_)

theorem v5_real (x0 : Vec Ideal S65536x9216 .bf16) (h0 : ∀ i, IsReal (x0 i)) (i) : IsReal (val_main_v5 (F := Ideal) x0 i) := by
  rw [val_main_v5_apply]; exact v2_real x0 h0 (_)

/-- The spatial unit's products over a chunk's positions. -/
theorem v6_real (x0 : Vec Ideal S65536x9216 .bf16) (x3 : Vec Ideal S8x128x128 .f32) (h0 : ∀ i, IsReal (x0 i)) (h3 : ∀ i, IsReal (x3 i)) (i) : IsReal (val_main_v6 (F := Ideal) x0 x3 i) := by
  rw [val_main_v6_apply]; exact .sum fun k => .mul (v5_real x0 h0 (_)) (h3 _)

theorem v7_real (x0 : Vec Ideal S65536x9216 .bf16) (x3 : Vec Ideal S8x128x128 .f32) (h0 : ∀ i, IsReal (x0 i)) (h3 : ∀ i, IsReal (x3 i)) (i) : IsReal (val_main_v7 (F := Ideal) x0 x3 i) := by
  rw [val_main_v7_apply]; exact v6_real x0 x3 h0 h3 (_)

/-- Its bias. -/
theorem v8_real (x4 : Vec Ideal S8x128 .f32) (h4 : ∀ i, IsReal (x4 i)) (i) : IsReal (val_main_v8 (F := Ideal) x4 i) := by
  rw [val_main_v8_apply]; exact h4 _

theorem v9_real (x4 : Vec Ideal S8x128 .f32) (h4 : ∀ i, IsReal (x4 i)) (i) : IsReal (val_main_v9 (F := Ideal) x4 i) := by
  rw [val_main_v9_apply]; exact v8_real x4 h4 (_)

theorem v10_real (x4 : Vec Ideal S8x128 .f32) (h4 : ∀ i, IsReal (x4 i)) (i) : IsReal (val_main_v10 (F := Ideal) x4 i) := by
  rw [val_main_v10_apply]; exact v9_real x4 h4 (_)

theorem v11_real (x0 : Vec Ideal S65536x9216 .bf16) (x3 : Vec Ideal S8x128x128 .f32) (x4 : Vec Ideal S8x128 .f32) (h0 : ∀ i, IsReal (x0 i)) (h3 : ∀ i, IsReal (x3 i)) (h4 : ∀ i, IsReal (x4 i)) (i) : IsReal (val_main_v11 (F := Ideal) x0 x3 x4 i) := by
  rw [val_main_v11_apply]; exact .add (v7_real x0 x3 h0 h3 (_)) (v10_real x4 h4 (_))

theorem v12_real (x0 : Vec Ideal S65536x9216 .bf16) (x3 : Vec Ideal S8x128x128 .f32) (x4 : Vec Ideal S8x128 .f32) (h0 : ∀ i, IsReal (x0 i)) (h3 : ∀ i, IsReal (x3 i)) (h4 : ∀ i, IsReal (x4 i)) (i) : IsReal (val_main_v12 (F := Ideal) x0 x3 x4 i) := by
  rw [val_main_v12_apply]; exact v11_real x0 x3 x4 h0 h3 h4 (_)

/-- The gated rows. -/
theorem v13_real (x0 : Vec Ideal S65536x9216 .bf16) (x3 : Vec Ideal S8x128x128 .f32) (x4 : Vec Ideal S8x128 .f32) (h0 : ∀ i, IsReal (x0 i)) (h3 : ∀ i, IsReal (x3 i)) (h4 : ∀ i, IsReal (x4 i)) (i) : IsReal (val_main_v13 (F := Ideal) x0 x3 x4 i) := by
  rw [val_main_v13_apply]; exact .mul (v1_real x0 h0 (_)) (v12_real x0 x3 x4 h0 h3 h4 (_))

/-- The first branch. -/
theorem v14_real (x0 : Vec Ideal S65536x9216 .bf16) (x3 : Vec Ideal S8x128x128 .f32) (x4 : Vec Ideal S8x128 .f32) (x5 : Vec Ideal S1024x1024 .f32) (h0 : ∀ i, IsReal (x0 i)) (h3 : ∀ i, IsReal (x3 i)) (h4 : ∀ i, IsReal (x4 i)) (h5 : ∀ i, IsReal (x5 i)) (i) : IsReal (val_main_v14 (F := Ideal) x0 x3 x4 x5 i) := by
  rw [val_main_v14_apply]; exact .sum fun k => .mul (v13_real x0 x3 x4 h0 h3 h4 (_)) (h5 _)

theorem v15_real (x0 : Vec Ideal S65536x9216 .bf16) (x3 : Vec Ideal S8x128x128 .f32) (x4 : Vec Ideal S8x128 .f32) (x5 : Vec Ideal S1024x1024 .f32) (h0 : ∀ i, IsReal (x0 i)) (h3 : ∀ i, IsReal (x3 i)) (h4 : ∀ i, IsReal (x4 i)) (h5 : ∀ i, IsReal (x5 i)) (i) : IsReal (val_main_v15 (F := Ideal) x0 x3 x4 x5 i) := by
  rw [val_main_v15_apply]; exact .mul (v3_real x0 h0 (_)) (v14_real x0 x3 x4 x5 h0 h3 h4 h5 (_))

/-- The second branch. -/
theorem v16_real (x1 : Vec Ideal S65536x1024 .bf16) (h1 : ∀ i, IsReal (x1 i)) (i) : IsReal (val_main_v16 (F := Ideal) x1 i) := by
  exact h1 i

theorem v17_real (x1 : Vec Ideal S65536x1024 .bf16) (x6 : Vec Ideal S1024x1024 .f32) (h1 : ∀ i, IsReal (x1 i)) (h6 : ∀ i, IsReal (x6 i)) (i) : IsReal (val_main_v17 (F := Ideal) x1 x6 i) := by
  rw [val_main_v17_apply]; exact .sum fun k => .mul (v16_real x1 h1 (_)) (h6 _)

theorem v18_real (x0 : Vec Ideal S65536x9216 .bf16) (x1 : Vec Ideal S65536x1024 .bf16) (x6 : Vec Ideal S1024x1024 .f32) (h0 : ∀ i, IsReal (x0 i)) (h1 : ∀ i, IsReal (x1 i)) (h6 : ∀ i, IsReal (x6 i)) (i) : IsReal (val_main_v18 (F := Ideal) x0 x1 x6 i) := by
  rw [val_main_v18_apply]; exact .mul (v4_real x0 h0 (_)) (v17_real x1 x6 h1 h6 (_))

/-- The merged rows. -/
theorem v19_real (x0 : Vec Ideal S65536x9216 .bf16) (x1 : Vec Ideal S65536x1024 .bf16) (x3 : Vec Ideal S8x128x128 .f32) (x4 : Vec Ideal S8x128 .f32) (x5 : Vec Ideal S1024x1024 .f32) (x6 : Vec Ideal S1024x1024 .f32) (h0 : ∀ i, IsReal (x0 i)) (h1 : ∀ i, IsReal (x1 i)) (h3 : ∀ i, IsReal (x3 i)) (h4 : ∀ i, IsReal (x4 i)) (h5 : ∀ i, IsReal (x5 i)) (h6 : ∀ i, IsReal (x6 i)) (i) : IsReal (val_main_v19 (F := Ideal) x0 x1 x3 x4 x5 x6 i) := by
  rw [val_main_v19_apply]; exact .add (v15_real x0 x3 x4 x5 h0 h3 h4 h5 (_)) (v18_real x0 x1 x6 h0 h1 h6 (_))

theorem v20_real (x0 : Vec Ideal S65536x9216 .bf16) (x1 : Vec Ideal S65536x1024 .bf16) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h3 : ∀ i, IsReal (x3 i)) (h4 : ∀ i, IsReal (x4 i)) (h5 : ∀ i, IsReal (x5 i)) (h6 : ∀ i, IsReal (x6 i)) (h7 : ∀ i, IsReal (x7 i)) (i) : IsReal (val_main_v20 (F := Ideal) x0 x1 x3 x4 x5 x6 x7 i) := by
  rw [val_main_v20_apply]; exact .sum fun k => .mul (v19_real x0 x1 x3 x4 x5 x6 h0 h1 h3 h4 h5 h6 (_)) (h7 _)

/-- The residual rows. -/
theorem v21_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : IsReal (val_main_v21 (F := Ideal) x0 x1 x2 x3 x4 x5 x6 x7 i) := by
  rw [val_main_v21_apply]; exact .add (h2 _) (v20_real x0 x1 x3 x4 x5 x6 x7 h0 h1 h3 h4 h5 h6 h7 (_))

/-- Their squares, not negative. -/
theorem v22_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : NotNeg (val_main_v22 (F := Ideal) x0 x1 x2 x3 x4 x5 x6 x7 i) := by
  rw [val_main_v22_apply]; exact (v21_real x0 x1 x2 x3 x4 x5 x6 x7 h0 h1 h2 h3 h4 h5 h6 h7 (_)).square

/-- The sum of squares, the mean and the mean with its small offset, which is positive. -/
theorem v23_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : NotNeg (val_main_v23 (F := Ideal) x0 x1 x2 x3 x4 x5 x6 x7 i) := by
  rw [val_main_v23_apply, val_main_cst_apply]
  exact .add .zero (.sum fun k => v22_real x0 x1 x2 x3 x4 x5 x6 x7 h0 h1 h2 h3 h4 h5 h6 h7 (_))

theorem v24_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : NotNeg (val_main_v24 (F := Ideal) x0 x1 x2 x3 x4 x5 x6 x7 i) := by
  rw [val_main_v24_apply]; exact v23_real x0 x1 x2 x3 x4 x5 x6 x7 h0 h1 h2 h3 h4 h5 h6 h7 (_)

theorem v26_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : NotNeg (val_main_v26 (F := Ideal) x0 x1 x2 x3 x4 x5 x6 x7 i) := by
  rw [val_main_v26_apply, val_main_v25_apply, val_main_cst_0_apply]
  exact .div (v24_real x0 x1 x2 x3 x4 x5 x6 x7 h0 h1 h2 h3 h4 h5 h6 h7 (_)) width_pos

theorem v28_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : IsPos (val_main_v28 (F := Ideal) x0 x1 x2 x3 x4 x5 x6 x7 i) := by
  rw [val_main_v28_apply, val_main_v27_apply, val_main_cst_1_apply]
  exact .add_pos (v26_real x0 x1 x2 x3 x4 x5 x6 x7 h0 h1 h2 h3 h4 h5 h6 h7 (_)) eps_pos

/-- The scale of the norm. -/
theorem v29_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : IsReal (val_main_v29 (F := Ideal) x0 x1 x2 x3 x4 x5 x6 x7 i) := by
  rw [val_main_v29_apply]; exact (v28_real x0 x1 x2 x3 x4 x5 x6 x7 h0 h1 h2 h3 h4 h5 h6 h7 (_)).rsqrt

theorem v30_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : IsReal (val_main_v30 (F := Ideal) x0 x1 x2 x3 x4 x5 x6 x7 i) := by
  rw [val_main_v30_apply]; exact v29_real x0 x1 x2 x3 x4 x5 x6 x7 h0 h1 h2 h3 h4 h5 h6 h7 (_)

theorem v31_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i) : IsReal (val_main_v31 (F := Ideal) x0 x1 x2 x3 x4 x5 x6 x7 i) := by
  rw [val_main_v31_apply]; exact .mul (v21_real x0 x1 x2 x3 x4 x5 x6 x7 h0 h1 h2 h3 h4 h5 h6 h7 (_)) (v30_real x0 x1 x2 x3 x4 x5 x6 x7 h0 h1 h2 h3 h4 h5 h6 h7 (_))

theorem v32_real (x8 : Vec Ideal S1024 .f32) (h8 : ∀ i, IsReal (x8 i)) (i) : IsReal (val_main_v32 (F := Ideal) x8 i) := by
  rw [val_main_v32_apply]; exact h8 _

theorem v33_real (x8 : Vec Ideal S1024 .f32) (h8 : ∀ i, IsReal (x8 i)) (i) : IsReal (val_main_v33 (F := Ideal) x8 i) := by
  rw [val_main_v33_apply]; exact v32_real x8 h8 (_)

/-- The normalised rows. -/
theorem v34_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (i) : IsReal (val_main_v34 (F := Ideal) x0 x1 x2 x3 x4 x5 x6 x7 x8 i) := by
  rw [val_main_v34_apply]; exact .mul (v31_real x0 x1 x2 x3 x4 x5 x6 x7 h0 h1 h2 h3 h4 h5 h6 h7 (_)) (v33_real x8 h8 (_))

/-- The router's logits. -/
theorem v35_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsReal (val_main_v35 (F := Ideal) x0 x1 x2 x3 x4 x5 x6 x7 x8 x9 i) := by
  rw [val_main_v35_apply]; exact .sum fun k => .mul (v34_real x0 x1 x2 x3 x4 x5 x6 x7 x8 h0 h1 h2 h3 h4 h5 h6 h7 h8 (_)) (h9 _)

/-- The largest logit of a row. -/
theorem v38_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsReal (val_main_v38 (F := Ideal) x0 x1 x2 x3 x4 x5 x6 x7 x8 x9 i) := by
  have e : val_main_v36 (F := Ideal) x0 x1 x2 x3 x4 x5 x6 x7 x8 x9 i = (Finset.univ : Finset (Fin 16)).fold max ⊥ (fun k => val_main_v35 (F := Ideal) x0 x1 x2 x3 x4 x5 x6 x7 x8 x9 (ix2 (i 0) k)) := by
    pointwise [val_main_v36, val_main_cst_2, id_eq]
    rw [ofBits_bot]
  rw [val_main_v38_apply, val_main_v37_apply, val_main_cst_3_apply, e]
  exact .max_bot (.fold_max fun k => v35_real x0 x1 x2 x3 x4 x5 x6 x7 x8 x9 h0 h1 h2 h3 h4 h5 h6 h7 h8 h9 (_))

theorem v39_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsReal (val_main_v39 (F := Ideal) x0 x1 x2 x3 x4 x5 x6 x7 x8 x9 i) := by
  rw [val_main_v39_apply]; exact v38_real x0 x1 x2 x3 x4 x5 x6 x7 x8 x9 h0 h1 h2 h3 h4 h5 h6 h7 h8 h9 (_)

theorem v40_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsReal (val_main_v40 (F := Ideal) x0 x1 x2 x3 x4 x5 x6 x7 x8 x9 i) := by
  rw [val_main_v40_apply]; exact v39_real x0 x1 x2 x3 x4 x5 x6 x7 x8 x9 h0 h1 h2 h3 h4 h5 h6 h7 h8 h9 (_)

theorem v41_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsReal (val_main_v41 (F := Ideal) x0 x1 x2 x3 x4 x5 x6 x7 x8 x9 i) := by
  rw [val_main_v41_apply]; exact .sub (v35_real x0 x1 x2 x3 x4 x5 x6 x7 x8 x9 h0 h1 h2 h3 h4 h5 h6 h7 h8 h9 (_)) (v40_real x0 x1 x2 x3 x4 x5 x6 x7 x8 x9 h0 h1 h2 h3 h4 h5 h6 h7 h8 h9 (_))

/-- The exponentials, positive, and their sum. -/
theorem v42_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsPos (val_main_v42 (F := Ideal) x0 x1 x2 x3 x4 x5 x6 x7 x8 x9 i) := by
  rw [val_main_v42_apply]; exact (v41_real x0 x1 x2 x3 x4 x5 x6 x7 x8 x9 h0 h1 h2 h3 h4 h5 h6 h7 h8 h9 (_)).exp

theorem v43_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsPos (val_main_v43 (F := Ideal) x0 x1 x2 x3 x4 x5 x6 x7 x8 x9 i) := by
  rw [val_main_v43_apply, val_main_cst_4_apply]
  exact .sum_pos fun k => v42_real x0 x1 x2 x3 x4 x5 x6 x7 x8 x9 h0 h1 h2 h3 h4 h5 h6 h7 h8 h9 (_)

theorem v44_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsPos (val_main_v44 (F := Ideal) x0 x1 x2 x3 x4 x5 x6 x7 x8 x9 i) := by
  rw [val_main_v44_apply]; exact v43_real x0 x1 x2 x3 x4 x5 x6 x7 x8 x9 h0 h1 h2 h3 h4 h5 h6 h7 h8 h9 (_)

theorem v45_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsPos (val_main_v45 (F := Ideal) x0 x1 x2 x3 x4 x5 x6 x7 x8 x9 i) := by
  rw [val_main_v45_apply]; exact v44_real x0 x1 x2 x3 x4 x5 x6 x7 x8 x9 h0 h1 h2 h3 h4 h5 h6 h7 h8 h9 (_)

/-- The gates are real numbers where every argument holds real numbers only. -/
theorem v46_real (x0 : Vec Ideal S65536x9216 .bf16) (x1 : Vec Ideal S65536x1024 .bf16) (x2 : Vec Ideal S65536x1024 .f32) (x3 : Vec Ideal S8x128x128 .f32) (x4 : Vec Ideal S8x128 .f32) (x5 : Vec Ideal S1024x1024 .f32) (x6 : Vec Ideal S1024x1024 .f32) (x7 : Vec Ideal S1024x1024 .f32) (x8 : Vec Ideal S1024 .f32) (x9 : Vec Ideal S1024x16 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i) : IsReal (val_main_v46 (F := Ideal) x0 x1 x2 x3 x4 x5 x6 x7 x8 x9 i) := by
  rw [val_main_v46_apply]; exact .div (v42_real x0 x1 x2 x3 x4 x5 x6 x7 x8 x9 h0 h1 h2 h3 h4 h5 h6 h7 h8 h9 (_)).real (v45_real x0 x1 x2 x3 x4 x5 x6 x7 x8 x9 h0 h1 h2 h3 h4 h5 h6 h7 h8 h9 (_))

end Cert.MixRefIdeal.Finite

namespace Cert.Pre_finite_args

open Cert.MixRefIdeal.Finite

/-- The shape relations of the precondition's operations. -/
instance facts : Facts where
  bcast_S_S65536x9216 := by decide
  bcast_S_S65536x1024 := by decide
  bcast_S_S8x128x128 := by decide
  bcast_S_S8x128 := by decide
  bcast_S_S1024x1024 := by decide
  bcast_S_S1024 := by decide
  bcast_S_S1024x16 := by decide

/-- The words of infinity. -/
theorem top_f32 : Ideal.ofBits .f32 0x7F800000#32 = ⊤ := by simp [Ideal.ofBits, Ideal.ieee]

theorem top_bf16 : Ideal.ofBits .bf16 0x7F80#16 = ⊤ := by simp [Ideal.ofBits, Ideal.ieee]

/-- The precondition, read: every entry of every argument is a real number. -/
theorem real (x0 : FVec Ideal S65536x9216 .bf16) (x1 : FVec Ideal S65536x1024 .bf16) (x2 : FVec Ideal S65536x1024 .f32)
    (x3 : FVec Ideal S8x128x128 .f32) (x4 : FVec Ideal S8x128 .f32) (x5 x6 x7 : FVec Ideal S1024x1024 .f32)
    (x8 : FVec Ideal S1024 .f32) (x9 : FVec Ideal S1024x16 .f32)
    (h : (fn (F := Ideal) x0 x1 x2 x3 x4 x5 x6 x7 x8 x9).1 = (fun _ => 1#1)
      ∧ (fn (F := Ideal) x0 x1 x2 x3 x4 x5 x6 x7 x8 x9).2.1 = (fun _ => 1#1)
      ∧ (fn (F := Ideal) x0 x1 x2 x3 x4 x5 x6 x7 x8 x9).2.2.1 = (fun _ => 1#1)
      ∧ (fn (F := Ideal) x0 x1 x2 x3 x4 x5 x6 x7 x8 x9).2.2.2.1 = (fun _ => 1#1)
      ∧ (fn (F := Ideal) x0 x1 x2 x3 x4 x5 x6 x7 x8 x9).2.2.2.2.1 = (fun _ => 1#1)
      ∧ (fn (F := Ideal) x0 x1 x2 x3 x4 x5 x6 x7 x8 x9).2.2.2.2.2.1 = (fun _ => 1#1)
      ∧ (fn (F := Ideal) x0 x1 x2 x3 x4 x5 x6 x7 x8 x9).2.2.2.2.2.2.1 = (fun _ => 1#1)
      ∧ (fn (F := Ideal) x0 x1 x2 x3 x4 x5 x6 x7 x8 x9).2.2.2.2.2.2.2.1 = (fun _ => 1#1)
      ∧ (fn (F := Ideal) x0 x1 x2 x3 x4 x5 x6 x7 x8 x9).2.2.2.2.2.2.2.2.1 = (fun _ => 1#1)
      ∧ (fn (F := Ideal) x0 x1 x2 x3 x4 x5 x6 x7 x8 x9).2.2.2.2.2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i))
    ∧ (∀ i, IsReal (x5 i)) ∧ (∀ i, IsReal (x6 i)) ∧ (∀ i, IsReal (x7 i)) ∧ (∀ i, IsReal (x8 i)) ∧ (∀ i, IsReal (x9 i)) := by
  obtain ⟨h0, h1, h2, h3, h4, h5, h6, h7, h8, h9⟩ := h
  exact ⟨fun i => isReal_of_abs top_bf16 (congrFun h0 i), fun i => isReal_of_abs top_bf16 (congrFun h1 i),
    fun i => isReal_of_abs top_f32 (congrFun h2 i), fun i => isReal_of_abs top_f32 (congrFun h3 i),
    fun i => isReal_of_abs top_f32 (congrFun h4 i), fun i => isReal_of_abs top_f32 (congrFun h5 i),
    fun i => isReal_of_abs top_f32 (congrFun h6 i), fun i => isReal_of_abs top_f32 (congrFun h7 i),
    fun i => isReal_of_abs top_f32 (congrFun h8 i), fun i => isReal_of_abs top_f32 (congrFun h9 i)⟩

end Cert.Pre_finite_args

end
-- ==== Proof.ScanPay.lean ====
/- The recurrence's body by the arrays it computes: each a function of what is loaded, in the body's own operations. A trip
   for the forward and one for the backward direction differ in the row that holds the chunk's whole decay and in the mask,
   so one set of functions serves both. -/
module

public import proofs.«01_k».proof.Proof.Gen.HgrnIdeal

@[expose] public section

noncomputable section

namespace Cert.HgrnIdeal.Scan

open Idealize.ShloMosaic Idealize.ShloMosaic.TcCoe
open Cert.HgrnIdeal Cert.HgrnIdeal.Gen

variable {F : FTy → Type} [FloatOps F]

/-- A chunk's rows, as they are staged; -/
def lo (x : Vec F S1x128x128 .bf16) : FVec F S128x128 .bf16 := shapeCast S128x128 x shapeCasts_S1x128x128_S128x128

/-- and widened. -/
def up (x : Vec F S1x128x128 .bf16) : FVec F S128x128 .f32 := extf .f32 (lo x) bitsLt_bf16_f32

/-- The logarithm of the sigmoid. -/
def logSig (z : FVec F S128x128 .f32) : FVec F S128x128 .f32 :=
  subf (minimumf z (broadcast S128x128 (Scalar.ofBits .f32 0x00000000#32)))
    (log (addf (broadcast S128x128 (Scalar.ofBits .f32 0x3F800000#32)) (exp (subf (broadcast S128x128 (Scalar.ofBits .f32 0x00000000#32)) (absf z)))))

/-- The logarithm of a decay from its two summands' logarithms. -/
def logSum (a b : FVec F S128x128 .f32) : FVec F S128x128 .f32 :=
  addf (maximumf a b)
    (log (addf (broadcast S128x128 (Scalar.ofBits .f32 0x3F800000#32)) (exp (subf (broadcast S128x128 (Scalar.ofBits .f32 0x00000000#32)) (absf (subf a b))))))

/-- The logarithms of a chunk's decays, from the lower bound's row. -/
def gate (lb : Vec F S1x128 .f32) (z : Vec F S1x128x128 .bf16) : FVec F S128x128 .f32 :=
  logSum (broadcastTo S128x128 (log (show FVec F S1x128 .f32 from lb)) broadcasts_S1x128_S128x128)
    (addf (broadcastTo S128x128 (log1p (subf (broadcast S1x128 (Scalar.ofBits .f32 0x00000000#32)) (show FVec F S1x128 .f32 from lb))) broadcasts_S1x128_S128x128) (logSig (up z)))

/-- A mask as ones and zeros. -/
def tri (keep : IVec S128x128 1) : FVec F S128x128 .bf16 :=
  truncf .bf16 (select keep (broadcast S128x128 (Scalar.ofBits .f32 0x3F800000#32 : F .f32)) (broadcast S128x128 (Scalar.ofBits .f32 0x00000000#32))) bitsLt_bf16_f32

/-- The masked running sums of a chunk's logarithms, the leading half and the rest apart. -/
def cum (keep : IVec S128x128 1) (g : FVec F S128x128 .f32) : FVec F S128x128 .f32 :=
  addf (matmul dot_S128x128_S128x128_S128x128_1_0_0_1_n_n none (tri keep) (truncf .bf16 g bitsLt_bf16_f32) (constant S128x128 .f32 0x00000000#32))
    (matmul dot_S128x128_S128x128_S128x128_1_0_0_1_n_n none (tri keep) (truncf .bf16 (subf g (extf .f32 (truncf .bf16 g bitsLt_bf16_f32) bitsLt_bf16_f32)) bitsLt_bf16_f32) (constant S128x128 .f32 0x00000000#32))

/-- One less the lower bound. -/
def rest (lb : Vec F S1x128 .f32) : FVec F S1x128 .f32 := subf (broadcast S1x128 (Scalar.ofBits .f32 0x3F800000#32)) (show FVec F S1x128 .f32 from lb)

/-- A chunk's keys. -/
def key (om : FVec F S1x128 .f32) (z : Vec F S1x128x128 .bf16) : FVec F S128x128 .f32 :=
  mulf (broadcastTo S128x128 om broadcasts_S1x128_S128x128)
    (divf (broadcast S128x128 (Scalar.ofBits .f32 0x3F800000#32)) (addf (broadcast S128x128 (Scalar.ofBits .f32 0x3F800000#32)) (exp (up z))))

/-- What the state gives to a chunk's outputs. -/
def inter (q G st : FVec F S128x128 .f32) : FVec F S128x128 .f32 :=
  matmul dot_S128x128_S128x128_S128x128_1_1_0_0_n_n none (truncf .bf16 (mulf q (exp G)) bitsLt_bf16_f32) (truncf .bf16 st bitsLt_bf16_f32) (constant S128x128 .f32 0x00000000#32)

/-- The state after a chunk. -/
def stepOf (st G : FVec F S128x128 .f32) (gt : FVec F S1x128 .f32) (kk : FVec F S128x128 .f32) (vb : FVec F S128x128 .bf16) : FVec F S128x128 .f32 :=
  addf (mulf (broadcastTo S128x128 (exp gt) broadcasts_S1x128_S128x128) st)
    (matmul dot_S128x128_S128x128_S128x128_1_0_0_1_n_n none
      (truncf .bf16 (transpose S128x128 [1, 0] (extf .f32 vb bitsLt_bf16_f32) transposes_S128x128_p1_0_S128x128) bitsLt_bf16_f32)
      (truncf .bf16 (mulf kk (exp (subf (broadcastTo S128x128 gt broadcasts_S1x128_S128x128) G))) bitsLt_bf16_f32) (constant S128x128 .f32 0x00000000#32))

/-- Half a chunk's whole decay: what queries and keys are taken relative to. -/
def half (gt : FVec F S1x128 .f32) : FVec F S128x128 .f32 :=
  broadcastTo S128x128 (mulf (broadcast S1x128 (Scalar.ofBits .f32 0x3F000000#32)) gt) broadcasts_S1x128_S128x128

/-- What a chunk gives to its own outputs, queries and keys decayed apart. -/
def intra (keep : IVec S128x128 1) (q kk G : FVec F S128x128 .f32) (gt : FVec F S1x128 .f32) (vb : FVec F S128x128 .bf16) : FVec F S128x128 .f32 :=
  matmul dot_S128x128_S128x128_S128x128_1_0_0_1_n_n none
    (truncf .bf16 (select keep
      (matmul dot_S128x128_S128x128_S128x128_1_1_0_0_n_n none (truncf .bf16 (mulf q (exp (subf G (half gt)))) bitsLt_bf16_f32)
        (truncf .bf16 (mulf kk (exp (subf (half gt) G))) bitsLt_bf16_f32) (constant S128x128 .f32 0x00000000#32))
      (broadcast S128x128 (Scalar.ofBits .f32 0x00000000#32))) bitsLt_bf16_f32)
    vb (constant S128x128 .f32 0x00000000#32)

/-- The same, one position of the chunk after another: what one position adds. -/
def pair (keep : IVec S128x1 1) (q G : FVec F S128x128 .f32) (gr kr vr : Vec F S1x128 .f32) (acc : FVec F S128x128 .f32) : FVec F S128x128 .f32 :=
  addf acc (mulf
    (broadcastTo S128x128 (select keep
      (shapeCast S128x1 (multiReduction .add [1] S128
        (mulf (mulf q (broadcastTo S128x128 kr broadcasts_S1x128_S128x128))
          (exp (minimumf (subf G (broadcastTo S128x128 gr broadcasts_S1x128_S128x128)) (broadcast S128x128 (Scalar.ofBits .f32 0x00000000#32)))))
        0x00000000#32 reduces_S128x128_S128 (.inl rfl) rfl) shapeCasts_S128_S128x1)
      (broadcast S128x1 (Scalar.ofBits .f32 0x00000000#32))) broadcasts_S128x1_S128x128)
    (broadcastTo S128x128 vr broadcasts_S1x128_S128x128))

/-- A chunk's rows normed and gated. -/
def normed (og : Vec F S1x128 .f32) (tot : FVec F S128x128 .f32) (go : Vec F S1x128x128 .bf16) : Vec F S1x128x128 .bf16 :=
  shapeCast S1x128x128 (truncf .bf16 (mulf (mulf (mulf tot
    (broadcastTo S128x128 (rsqrt (addf (divf (shapeCast S128x1 (multiReduction .add [1] S128 (mulf tot tot) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
    (broadcastTo S128x128 (shapeCast S1x128 og shapeCasts_S1x128_S1x128 : FVec F S1x128 .f32) broadcasts_S1x128_S128x128)) (up go)) bitsLt_bf16_f32) shapeCasts_S128x128_S1x128x128

/-- The rows and the columns of a chunk's square, the rows of its column, and the four masks. -/
def rid : IVec S128x128 32 := iota .tc S128x128 32 [0] iota_S128x128_d0_w32

/-- The column's number at each entry of a square. -/
def cid : IVec S128x128 32 := iota .tc S128x128 32 [1] iota_S128x128_d1_w32

/-- The row's number, as a column. -/
def rid1 : IVec S128x1 32 := iota .tc S128x1 32 [0] iota_S128x1_d0_w32

/-- The entries a forward chunk keeps: the column not after the row. -/
def keepF : IVec S128x128 1 := cmpi .sle cid rid

/-- The entries a backward chunk keeps: the column not before the row. -/
def keepB : IVec S128x128 1 := cmpi .sge cid rid

/-- The rows a forward step reaches: from row `s` on. -/
def keepF1 (s : ℕ) : IVec S128x1 1 := cmpi .sge rid1 (broadcast S128x1 (BitVec.ofNat 32 s))

/-- The rows a backward step reaches: up to row `s`. -/
def keepB1 (s : ℕ) : IVec S128x1 1 := cmpi .sle rid1 (broadcast S128x1 (BitVec.ofNat 32 s))

end Cert.HgrnIdeal.Scan

end
-- ==== Proof.ScanSeq.lean ====
/- The gated recurrence over the reals. Position `t` has a query, a key, a value and the logarithms `g` of its decays, one per
   channel. The output at `t` weighs the values up to `t` by the products of query and decayed key; the state after `n`
   positions is the decayed sum of the outer products. Taken in chunks of 128 positions, a chunk's outputs and the state
   after it come of the state before it and of the chunk alone. -/
module

public import Idealize.ShloMosaic.Lib.Pointwise

@[expose] public section

noncomputable section

namespace Cert.ScanSeq

open Finset

/-- The logarithm of the decay over the first `t` positions. -/
def pre (g : ℕ → Fin 128 → ℝ) (t : ℕ) (d : Fin 128) : ℝ := ∑ j ∈ range t, g j d

/-- How much the value at `s` weighs at `t`. -/
def wt (q k g : ℕ → Fin 128 → ℝ) (t s : ℕ) : ℝ :=
  ∑ d, q t d * k s d * Real.exp (pre g (t + 1) d - pre g (s + 1) d)

/-- The output at `t`. -/
def out (q k v g : ℕ → Fin 128 → ℝ) (t : ℕ) (e : Fin 128) : ℝ := ∑ s ∈ range (t + 1), wt q k g t s * v s e

/-- The state after `n` positions. -/
def state (k v g : ℕ → Fin 128 → ℝ) (n : ℕ) (e d : Fin 128) : ℝ :=
  ∑ s ∈ range n, v s e * (k s d * Real.exp (pre g n d - pre g (s + 1) d))

/-- The logarithm of the decay over a chunk's positions up to the `r`-th. -/
def loc (g : ℕ → Fin 128 → ℝ) (b : ℕ) (r d : Fin 128) : ℝ := pre g (b + r.val + 1) d - pre g b d

variable (q k v g : ℕ → Fin 128 → ℝ)

/-- A running sum splits at any row. -/
theorem pre_add (b n : ℕ) (d : Fin 128) : pre g (b + n) d = pre g b d + ∑ j ∈ range n, g (b + j) d :=
  Finset.sum_range_add _ _ _

/-- The decays of a chunk as a masked sum over the chunk. -/
theorem loc_eq (b : ℕ) (r d : Fin 128) : loc g b r d = ∑ s : Fin 128, if s ≤ r then g (b + s.val) d else 0 := by
  unfold loc
  rw [add_assoc, pre_add, add_sub_cancel_left]
  refine Eq.trans ?_ (Fin.sum_univ_eq_sum_range (fun j => if j ≤ r.val then g (b + j) d else 0) 128).symm
  rw [← Finset.sum_filter]
  refine Finset.sum_congr ?_ fun _ _ => rfl
  ext j
  simp only [mem_range, mem_filter]
  have := r.isLt
  omega

/-- The state after one more chunk. -/
theorem state_step (b : ℕ) (e d : Fin 128) :
    state k v g (b + 128) e d = Real.exp (loc g b 127 d) * state k v g b e d
      + ∑ s : Fin 128, v (b + s.val) e * (k (b + s.val) d * Real.exp (loc g b 127 d - loc g b s d)) := by
  unfold state
  rw [Finset.sum_range_add, Finset.mul_sum]
  congr 1
  · refine Finset.sum_congr rfl fun s _ => ?_
    have : Real.exp (pre g (b + 128) d - pre g (s + 1) d) = Real.exp (loc g b 127 d) * Real.exp (pre g b d - pre g (s + 1) d) := by
      rw [← Real.exp_add]; unfold loc; congr 1
      show pre g (b + 128) d - _ = pre g (b + 127 + 1) d - _ + _
      ring
    rw [this]; ring
  · refine Eq.trans ?_ (Fin.sum_univ_eq_sum_range (fun s => v (b + s) e * (k (b + s) d * Real.exp (loc g b 127 d - (pre g (b + s + 1) d - pre g b d)))) 128).symm
    refine Finset.sum_congr rfl fun s _ => ?_
    unfold loc
    congr 3
    show pre g (b + 128) d - _ = pre g (b + 127 + 1) d - _ - _
    ring

/-- A chunk's outputs: what the state before it gives, and what the chunk gives. -/
theorem out_chunk (b : ℕ) (r e : Fin 128) :
    out q k v g (b + r.val) e = (∑ d, q (b + r.val) d * Real.exp (loc g b r d) * state k v g b e d)
      + ∑ s : Fin 128, (if s ≤ r then ∑ d, q (b + r.val) d * k (b + s.val) d * Real.exp (loc g b r d - loc g b s d) else 0) * v (b + s.val) e := by
  unfold out
  rw [add_assoc, Finset.sum_range_add]
  congr 1
  · unfold state wt
    simp only [Finset.mul_sum, Finset.sum_mul]
    rw [Finset.sum_comm]
    refine Finset.sum_congr rfl fun d _ => Finset.sum_congr rfl fun s _ => ?_
    have : Real.exp (pre g (b + r.val + 1) d - pre g (s + 1) d) = Real.exp (loc g b r d) * Real.exp (pre g b d - pre g (s + 1) d) := by
      rw [← Real.exp_add]; unfold loc; congr 1; ring
    rw [this]; ring
  · refine Eq.trans ?_ (Fin.sum_univ_eq_sum_range (fun s => (if s ≤ r.val then ∑ d, q (b + r.val) d * k (b + s) d * Real.exp (loc g b r d - (pre g (b + s + 1) d - pre g b d)) else 0) * v (b + s) e) 128).symm
    have hr := r.isLt
    have h128 : range 128 = range ((r.val + 1) + (127 - r.val)) := by congr 1; omega
    rw [h128, Finset.sum_range_add _ (r.val + 1)]
    rw [Finset.sum_eq_zero (s := range (127 - r.val)), add_zero]
    · refine Finset.sum_congr rfl fun s hs => ?_
      rw [if_pos (by have := Finset.mem_range.mp hs; omega)]
      unfold wt
      congr 1
      refine Finset.sum_congr rfl fun d _ => ?_
      unfold loc
      congr 2
      ring
    · intro s _
      rw [if_neg (by omega), zero_mul]

/-- The output as a masked sum over all 2048 positions. -/
theorem out_full (t : Fin 2048) (e : Fin 128) :
    out q k v g t.val e = ∑ s : Fin 2048, (if s ≤ t then wt q k g t.val s.val else 0) * v s.val e := by
  unfold out
  refine Eq.trans ?_ (Fin.sum_univ_eq_sum_range (fun s => (if s ≤ t.val then wt q k g t.val s else 0) * v s e) 2048).symm
  simp only [ite_mul, zero_mul]
  rw [← Finset.sum_filter]
  refine Finset.sum_congr ?_ fun _ _ => rfl
  ext j
  simp only [mem_range, mem_filter]
  have := t.isLt
  omega

/-- Within a chunk, decays that are no growth only grow less. -/
theorem loc_anti (hg : ∀ t d, g t d ≤ 0) (b : ℕ) (r s d : Fin 128) (h : s ≤ r) : loc g b r d - loc g b s d ≤ 0 := by
  unfold loc
  have h' : s.val ≤ r.val := h
  have : pre g (b + r.val + 1) d = pre g (b + s.val + 1) d + ∑ j ∈ range (r.val - s.val), g (b + s.val + 1 + j) d := by
    rw [← pre_add]; congr 1; omega
  have h2 : ∑ j ∈ range (r.val - s.val), g (b + s.val + 1 + j) d ≤ 0 := Finset.sum_nonpos fun j _ => hg _ _
  linarith

end Cert.ScanSeq

end
-- ==== Proof.ScanPoint.lean ====
/- The arrays of the recurrence's body at real contents: what each holds, element by element, over the reals. `σ` is the
   order in which a direction takes a chunk's rows: as they lie, or from the last to the first. -/
module

public import proofs.«01_k».proof.Proof.ScanPay
public import proofs.«01_k».proof.Proof.ScanSeq
public import Idealize.ShloMosaic.Lib.Pointwise

@[expose] public section

noncomputable section

namespace Cert.HgrnIdeal.Scan

open Idealize.ShloMosaic Idealize.ShloMosaic.TcCoe
open Cert.HgrnIdeal Cert.HgrnIdeal.Gen
open Cert.ScanSeq

/-- A sum of real numbers is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- The constant by which the body parts the decay is a real number. -/
theorem half_real : ∃ h : ℝ, Ideal.ofBits .f32 0x3F000000#32 = (h : EReal) := by
  simp only [Ideal.ofBits, Ideal.ieee]
  rw [if_neg (by decide), if_neg (by decide), if_neg (by decide)]
  exact ⟨_, rfl⟩

/-- The greater and the smaller of two real numbers. -/
theorem coe_max' (a b : ℝ) : ((max a b : ℝ) : EReal) = max (a : EReal) (b : EReal) := EReal.coe_strictMono.monotone.map_max

/-- The smaller of two reals is the smaller of them as extended reals. -/
theorem coe_min' (a b : ℝ) : ((min a b : ℝ) : EReal) = min (a : EReal) (b : EReal) := EReal.coe_strictMono.monotone.map_min

/-- A select on a decided bit. -/
theorem select_ite {α : Type} (P : Prop) [Decidable P] (x y : α) : Scalar.select (if P then 1#1 else 0#1) x y = if P then x else y := by
  split <;> simp [Scalar.select]

section Chunk

variable (q k v g : ℕ → Fin 128 → ℝ) (b : ℕ) (σ : Fin 128 ≃ Fin 128)

/-- The running sums of a chunk's logarithms. -/
theorem cum_real (keep : IVec S128x128 1) (hkeep : ∀ r s, keep (ix2 r s) = if σ s ≤ σ r then 1#1 else 0#1)
    (g' : FVec Ideal S128x128 .f32) (hg : ∀ r d, g' (ix2 r d) = ((g (b + (σ r).val) d : ℝ) : EReal)) (r d : Fin 128) :
    cum keep g' (ix2 r d) = ((loc g b (σ r) d : ℝ) : EReal) := by
  pointwise [cum, tri]
  simp only [hkeep, select_ite, hg, ← EReal.coe_sub, sub_self, EReal.coe_zero, ite_self, Finset.sum_const_zero, add_zero]
  rw [loc_eq, ← Equiv.sum_comp σ (fun s => if s ≤ σ r then g (b + s.val) d else 0), ← sum_coe]
  refine Finset.sum_congr rfl fun s _ => ?_
  split <;> rfl

variable (Q G kk st : FVec Ideal S128x128 .f32) (gt : FVec Ideal S1x128 .f32) (vb : FVec Ideal S128x128 .bf16)
variable (hq : ∀ r d, Q (ix2 r d) = ((q (b + (σ r).val) d : ℝ) : EReal))
variable (hk : ∀ r d, kk (ix2 r d) = ((k (b + (σ r).val) d : ℝ) : EReal))
variable (hv : ∀ r d, vb (ix2 r d) = ((v (b + (σ r).val) d : ℝ) : EReal))
variable (hG : ∀ r d, G (ix2 r d) = ((loc g b (σ r) d : ℝ) : EReal))
variable (hgt : ∀ d, gt (ix2 0 d) = ((loc g b 127 d : ℝ) : EReal))
variable (hst : ∀ e d, st (ix2 e d) = ((state k v g b e d : ℝ) : EReal))

include hk hv hG hgt hst in

/-- The state after a chunk. -/
theorem step_real (e d : Fin 128) : stepOf st G gt kk vb (ix2 e d) = ((state k v g (b + 128) e d : ℝ) : EReal) := by
  pointwise [stepOf]
  simp only [hk, hv, hG, hgt, hst, ← EReal.coe_sub, Ideal.exp_coe, ← EReal.coe_mul, sum_coe, ← EReal.coe_add]
  rw [state_step, ← Equiv.sum_comp σ (fun s => v (b + s.val) e * (k (b + s.val) d * Real.exp (loc g b 127 d - loc g b s d)))]

include hq hG hst in

/-- What the state gives to a chunk's outputs. -/
theorem inter_real (r e : Fin 128) : inter Q G st (ix2 r e)
    = ((∑ d, q (b + (σ r).val) d * Real.exp (loc g b (σ r) d) * state k v g b e d : ℝ) : EReal) := by
  pointwise [inter]
  simp only [hq, hG, hst, Ideal.exp_coe, ← EReal.coe_mul, sum_coe]

/-- What a chunk's position `s` gives to its output at `r`. -/
def own (r s e : Fin 128) : ℝ :=
  (if s ≤ r then ∑ d, q (b + r.val) d * k (b + s.val) d * Real.exp (loc g b r d - loc g b s d) else 0) * v (b + s.val) e

include hq hk hv hG hgt in

/-- What a chunk gives to its own outputs, queries and keys decayed apart. -/
theorem intra_real (keep : IVec S128x128 1) (hkeep : ∀ r s, keep (ix2 r s) = if σ s ≤ σ r then 1#1 else 0#1) (r e : Fin 128) :
    intra keep Q kk G gt vb (ix2 r e) = ((∑ s, own q k v g b (σ r) (σ s) e : ℝ) : EReal) := by
  obtain ⟨h2, hh⟩ := half_real
  pointwise [intra, half]
  simp only [hkeep, select_ite, hq, hk, hv, hG, hgt, hh, ← EReal.coe_mul, ← EReal.coe_sub, Ideal.exp_coe, sum_coe]
  rw [← sum_coe]
  refine Finset.sum_congr rfl fun s _ => ?_
  unfold own
  split
  · congr 2
    refine Finset.sum_congr rfl fun d _ => ?_
    have h : Real.exp (loc g b (σ r) d - loc g b (σ s) d)
        = Real.exp (loc g b (σ r) d - h2 * loc g b 127 d) * Real.exp (h2 * loc g b 127 d - loc g b (σ s) d) := by
      rw [← Real.exp_add]; congr 1; ring
    rw [h]; ring
  · rw [zero_mul]; rfl

include hq hG in

/-- What one position adds. -/
theorem pair_real (hg : ∀ t d, g t d ≤ 0) (keep : IVec S128x1 1) (s : Fin 128) (hkeep : ∀ r, keep (ix2 r 0) = if σ s ≤ σ r then 1#1 else 0#1)
    (gr kr vr : Vec Ideal S1x128 .f32) (acc : FVec Ideal S128x128 .f32)
    (hgr : ∀ d, gr (ix2 0 d) = ((loc g b (σ s) d : ℝ) : EReal)) (hkr : ∀ d, kr (ix2 0 d) = ((k (b + (σ s).val) d : ℝ) : EReal))
    (hvr : ∀ d, vr (ix2 0 d) = ((v (b + (σ s).val) d : ℝ) : EReal)) (r e : Fin 128) :
    pair keep Q G gr kr vr acc (ix2 r e) = acc (ix2 r e) + ((own q k v g b (σ r) (σ s) e : ℝ) : EReal) := by
  pointwise [pair]
  congr 1
  rw [hkeep, select_ite]
  unfold own
  split
  · rename_i h
    have hmin : ∀ d, min (((loc g b (σ r) d : ℝ) : EReal) - ((loc g b (σ s) d : ℝ) : EReal)) 0 = ((loc g b (σ r) d - loc g b (σ s) d : ℝ) : EReal) := by
      intro d
      rw [← EReal.coe_sub]
      exact min_eq_left (by exact_mod_cast loc_anti g hg b (σ r) (σ s) d h)
    simp only [hq, hG, hgr, hkr, hvr, hmin, Ideal.exp_coe, ← EReal.coe_mul, sum_coe]
  · rw [zero_mul]; rfl

/-- A chunk's outputs are what the state and what the chunk gives. -/
theorem out_own (r e : Fin 128) :
    (∑ d, q (b + (σ r).val) d * Real.exp (loc g b (σ r) d) * state k v g b e d) + (∑ s, own q k v g b (σ r) (σ s) e)
      = out q k v g (b + (σ r).val) e := by
  rw [out_chunk, Equiv.sum_comp σ (fun s => own q k v g b (σ r) s e)]
  rfl

end Chunk

/-! ## The gates of one element -/

/-- The logarithm of the decay at lower bound `l` and logit `z`. -/
def gateS (l z : EReal) : EReal :=
  max (Ideal.log l) (Ideal.log1p (0 - l) + (min z 0 - Ideal.log (1 + Ideal.exp (0 - max z (-z)))))
    + Ideal.log (1 + Ideal.exp (0 - max (Ideal.log l - (Ideal.log1p (0 - l) + (min z 0 - Ideal.log (1 + Ideal.exp (0 - max z (-z))))))
        (-(Ideal.log l - (Ideal.log1p (0 - l) + (min z 0 - Ideal.log (1 + Ideal.exp (0 - max z (-z)))))))))

/-- The gates' array, element by element. -/
theorem gate_at (lb : Vec Ideal S1x128 .f32) (z : Vec Ideal S1x128x128 .bf16) (r d : Fin 128) :
    gate lb z (ix2 r d) = gateS (lb (ix2 0 d)) (z (ix3 0 r d)) := by
  pointwise [gate, logSum, logSig, up, lo]
  rfl

/-- One value's key. -/
theorem key_at (lb : Vec Ideal S1x128 .f32) (z : Vec Ideal S1x128x128 .bf16) (l x : ℝ) (r d : Fin 128) (hl : lb (ix2 0 d) = (l : EReal))
    (hz : z (ix3 0 r d) = (x : EReal)) : key (rest lb) z (ix2 r d) = (((1 - l) * (1 / (1 + Real.exp x)) : ℝ) : EReal) := by
  pointwise [key, rest, up, lo]
  rw [hl, hz, Ideal.exp_coe]
  have hp : (1 : ℝ) + Real.exp x ≠ 0 := by positivity
  unfold Ideal.div
  rw [← EReal.coe_one, ← EReal.coe_sub, ← EReal.coe_add, if_neg (by exact_mod_cast hp), ← EReal.coe_inv, ← EReal.coe_mul, ← EReal.coe_mul]
  congr 2

/-- The logarithm of the sigmoid of a real number is the real one. -/
theorem ls_real (x : ℝ) : min (x : EReal) 0 - Ideal.log (1 + Ideal.exp (0 - max (x : EReal) (-(x : EReal)))) = ((-Real.log (1 + Real.exp (-x)) : ℝ) : EReal) := by
  have hmax : max (x : EReal) (-(x : EReal)) = ((|x| : ℝ) : EReal) := by
    rw [← EReal.coe_neg, ← coe_max' ]; rfl
  have hmin : min (x : EReal) 0 = ((min x 0 : ℝ) : EReal) := by
    rw [coe_min' ]; rfl
  rw [hmax, hmin, ← EReal.coe_zero, ← EReal.coe_sub, Ideal.exp_coe, ← EReal.coe_one, ← EReal.coe_add, Ideal.log_coe, if_neg (not_le.mpr (by positivity)), ← EReal.coe_sub]
  congr 1
  rcases le_total 0 x with h | h
  · rw [min_eq_right h, abs_of_nonneg h]; simp
  · rw [min_eq_left h, abs_of_nonpos h]
    have : 1 + Real.exp (-x) = Real.exp (-x) * (1 + Real.exp (0 - -x)) := by
      rw [mul_add, ← Real.exp_add]; simp; ring
    rw [this, Real.log_mul (by positivity) (by positivity), Real.log_exp]; ring

/-- Between the bounds the logarithm of a decay is a real number, and not positive. -/
theorem gateS_real (l x : ℝ) (h0 : 0 ≤ l) (h1 : l ≤ 1) : ∃ γ : ℝ, γ ≤ 0 ∧ gateS (l : EReal) (x : EReal) = (γ : EReal) := by
  unfold gateS
  rw [ls_real]
  set b : ℝ := -Real.log (1 + Real.exp (-x)) with hb
  have hb0 : b ≤ 0 := by
    have := Real.log_nonneg (show (1 : ℝ) ≤ 1 + Real.exp (-x) by linarith [Real.exp_pos (-x)])
    linarith
  have h1p : Ideal.log1p (0 - (l : EReal)) = if 1 - l ≤ 0 then ⊥ else ((Real.log (1 - l) : ℝ) : EReal) := by
    show Ideal.log (1 + (0 - (l : EReal))) = _
    rw [← EReal.coe_zero, ← EReal.coe_sub, ← EReal.coe_one, ← EReal.coe_add, Ideal.log_coe]
    rw [show (1 : ℝ) + (0 - l) = 1 - l by ring]
  rw [h1p, Ideal.log_coe]
  rcases eq_or_lt_of_le h0 with h0 | h0
  · subst h0
    refine ⟨b, hb0, ?_⟩
    rw [if_pos le_rfl, if_neg (by norm_num)]
    have e1 : ((Real.log (1 - 0) : ℝ) : EReal) + (b : EReal) = (b : EReal) := by simp
    rw [e1]
    have e2 : (⊥ : EReal) - (b : EReal) = ⊥ := EReal.bot_sub _
    have e3 : max (⊥ : EReal) (-⊥) = ⊤ := by simp
    have e4 : (0 : EReal) - ⊤ = ⊥ := by simp
    rw [e2, e3, e4, Ideal.exp_bot]
    have e5 : Ideal.log (1 + 0) = 0 := by
      rw [add_zero, ← EReal.coe_one, Ideal.log_coe, if_neg (by norm_num)]; simp
    rw [e5, add_zero, max_eq_right bot_le]
  rcases eq_or_lt_of_le h1 with h1 | h1
  · subst h1
    refine ⟨0, le_rfl, ?_⟩
    rw [if_neg (by norm_num), if_pos (by norm_num)]
    have e1 : (⊥ : EReal) + (b : EReal) = ⊥ := EReal.bot_add _
    rw [e1, Real.log_one, EReal.coe_zero, max_eq_left bot_le]
    have e2 : (0 : EReal) - ⊥ = ⊤ := by simp
    have e3 : max (⊤ : EReal) (-⊤) = ⊤ := by simp
    have e4 : (0 : EReal) - ⊤ = ⊥ := by simp
    rw [e2, e3, e4, Ideal.exp_bot]
    have e5 : Ideal.log (1 + 0) = 0 := by
      rw [add_zero, ← EReal.coe_one, Ideal.log_coe, if_neg (by norm_num)]; simp
    rw [e5, add_zero]
  · rw [if_neg (not_le.mpr h0), if_neg (by linarith)]
    set a : ℝ := Real.log l with ha
    set c : ℝ := Real.log (1 - l) + b with hc
    have e1 : ((Real.log (1 - l) : ℝ) : EReal) + (b : EReal) = (c : EReal) := (EReal.coe_add _ _).symm
    have hmax : max ((a - c : ℝ) : EReal) (-((a - c : ℝ) : EReal)) = ((|a - c| : ℝ) : EReal) := by
      rw [← EReal.coe_neg, ← coe_max' ]; rfl
    rw [e1, ← EReal.coe_sub, hmax, ← coe_max' , ← EReal.coe_zero, ← EReal.coe_sub, Ideal.exp_coe, ← EReal.coe_one, ← EReal.coe_add, Ideal.log_coe,
      if_neg (not_le.mpr (by positivity)), ← EReal.coe_add]
    refine ⟨_, ?_, rfl⟩
    have key : max a c + Real.log (1 + Real.exp (0 - |a - c|)) = Real.log (Real.exp a + Real.exp c) := by
      rcases le_total a c with h | h
      · rw [max_eq_right h, abs_of_nonpos (by linarith)]
        have : Real.exp a + Real.exp c = Real.exp c * (1 + Real.exp (0 - -(a - c))) := by
          rw [mul_add, ← Real.exp_add, mul_one, show c + (0 - -(a - c)) = a by ring]; ring
        rw [this, Real.log_mul (by positivity) (by positivity), Real.log_exp]
      · rw [max_eq_left h, abs_of_nonneg (by linarith)]
        have : Real.exp a + Real.exp c = Real.exp a * (1 + Real.exp (0 - (a - c))) := by
          rw [mul_add, ← Real.exp_add, mul_one, show a + (0 - (a - c)) = c by ring]
        rw [this, Real.log_mul (by positivity) (by positivity), Real.log_exp]
    rw [key]
    refine Real.log_nonpos (by positivity) ?_
    have h2 : Real.exp a = l := Real.exp_log h0
    have h3 : Real.exp c = (1 - l) * Real.exp b := by
      rw [hc, Real.exp_add, Real.exp_log (by linarith)]
    have h4 : Real.exp b ≤ 1 := Real.exp_le_one_iff.mpr hb0
    rw [h2, h3]
    nlinarith

/-- A chunk's rows normed and gated, element by element. -/
theorem normed_at (og : Vec Ideal S1x128 .f32) (tot : FVec Ideal S128x128 .f32) (go : Vec Ideal S1x128x128 .bf16) (r e : Fin 128) :
    normed og tot go (ix3 0 r e) = tot (ix2 r e) * Ideal.rsqrt (Ideal.div (∑ x, tot (ix2 r x) * tot (ix2 r x)) (Ideal.ofBits .f32 0x43000000#32) + Ideal.ofBits .f32 0x358637BD#32)
      * og (ix2 0 e) * go (ix3 0 r e) := by
  pointwise [normed, up, lo]

/-- The four masks. -/
theorem keepF_at (r s : Fin 128) : keepF (ix2 r s) = if s ≤ r then 1#1 else 0#1 := by
  have h : ∀ r s : Fin 128, IntOp.cmpi CmpIPredicate.sle (BitVec.ofNat 32 s.val) (BitVec.ofNat 32 r.val) = if s ≤ r then 1#1 else 0#1 := by decide +kernel
  pointwise [keepF, rid, cid]
  exact h r s

/-- The backward chunk's mask, entry by entry, in the turned order. -/
theorem keepB_at (r s : Fin 128) : keepB (ix2 r s) = if s.rev ≤ r.rev then 1#1 else 0#1 := by
  have h : ∀ r s : Fin 128, IntOp.cmpi CmpIPredicate.sge (BitVec.ofNat 32 s.val) (BitVec.ofNat 32 r.val) = if s.rev ≤ r.rev then 1#1 else 0#1 := by decide +kernel
  pointwise [keepB, rid, cid]
  exact h r s

/-- The forward step's mask, row by row. -/
theorem keepF1_at (r s : Fin 128) : keepF1 s.val (ix2 r 0) = if s ≤ r then 1#1 else 0#1 := by
  have h : ∀ r s : Fin 128, IntOp.cmpi CmpIPredicate.sge (BitVec.ofNat 32 r.val) (BitVec.ofNat 32 s.val) = if s ≤ r then 1#1 else 0#1 := by decide +kernel
  pointwise [keepF1, rid1]
  exact h r s

/-- The backward step's mask, row by row, in the turned order. -/
theorem keepB1_at (r s : Fin 128) : keepB1 s.val (ix2 r 0) = if s.rev ≤ r.rev then 1#1 else 0#1 := by
  have h : ∀ r s : Fin 128, IntOp.cmpi CmpIPredicate.sle (BitVec.ofNat 32 r.val) (BitVec.ofNat 32 s.val) = if s.rev ≤ r.rev then 1#1 else 0#1 := by decide +kernel
  pointwise [keepB1, rid1]
  exact h r s

end Cert.HgrnIdeal.Scan

end
-- ==== Proof.ScanPlace.lean ====
/- The recurrence's buffers at real contents: a chunk's place in them, what a chunk of either direction holds, and what the
   buffers hold between the trips of the body's loops. The backward direction is the forward one on the rows taken from the
   last to the first. -/
module

public import proofs.«01_k».proof.Proof.ScanPoint
public import Idealize.ShloMosaic.Lib.VecWindow

@[expose] public section

noncomputable section

namespace Cert.HgrnIdeal.Scan

open Idealize.ShloMosaic Idealize.ShloMosaic.TcCoe
open Cert.HgrnIdeal Cert.HgrnIdeal.Gen
open Cert.ScanSeq

/-! ## Places -/

/-- Row `r` of chunk `c`. -/
def rowix (c : Fin 16) (r : Fin 128) : Fin 2048 := ⟨128 * c.val + r.val, by omega⟩

/-- Every row is a row of a chunk. -/
theorem rowix_surj (t : Fin 2048) : ∃ c r, t = rowix c r :=
  ⟨⟨t.val / 128, by omega⟩, ⟨t.val % 128, by omega⟩, Fin.ext (by show t.val = 128 * (t.val / 128) + t.val % 128; omega)⟩

/-- A chunk's window of a buffer of rows. -/
theorem win2 {α : Type} (X : S2048x128.Idx → α) (off : Fin 2 → ℕ) (inb) (c : Fin 16) (h : off = ![128 * c.val, 0]) (r d : Fin 128) :
    VecWindow.window (s := S2048x128) X off S128x128.size inb (ix2 r d) = X (ix2 (rowix c r) d) := by
  subst h
  refine congrArg X (funext fun a => Fin.ext ?_)
  fin_cases a
  · show 128 * c.val + 1 * r.val = 128 * c.val + r.val; omega
  · show 0 + 1 * d.val = d.val; omega

/-- A chunk put into a buffer of rows. -/
theorem put2 {α : Type} (X : S2048x128.Idx → α) (off : Fin 2 → ℕ) (c : Fin 16) (h : off = ![128 * c.val, 0]) (w : S128x128.Idx → α) (c' : Fin 16) (r d : Fin 128) :
    VecWindow.put (s := S2048x128) X off S128x128.size w (ix2 (rowix c' r) d) = if c' = c then w (ix2 r d) else X (ix2 (rowix c' r) d) := by
  subst h
  unfold VecWindow.put
  by_cases e : c' = c
  · subst e
    rw [if_pos rfl, dif_pos (fun a => by
      fin_cases a
      · show 128 * c'.val ≤ 128 * c'.val + r.val ∧ 128 * c'.val + r.val < 128 * c'.val + 128; omega
      · show 0 ≤ d.val ∧ d.val < 0 + 128; omega)]
    refine congrArg w (funext fun a => Fin.ext ?_)
    fin_cases a
    · show 128 * c'.val + r.val - 128 * c'.val = r.val; omega
    · show d.val - 0 = d.val; omega
  · rw [if_neg e, dif_neg]
    intro hall
    have h0 : 128 * c.val ≤ 128 * c'.val + r.val ∧ 128 * c'.val + r.val < 128 * c.val + 128 := hall 0
    exact e (Fin.ext (by omega))

/-- A chunk's window of a staged block. -/
theorem win3 {α : Type} (X : S1x2048x128.Idx → α) (off : Fin 3 → ℕ) (inb) (c : Fin 16) (h : off = ![0, 128 * c.val, 0]) (r d : Fin 128) :
    VecWindow.window (s := S1x2048x128) X off S1x128x128.size inb (ix3 0 r d) = X (ix3 0 (rowix c r) d) := by
  subst h
  refine congrArg X (funext fun a => Fin.ext ?_)
  fin_cases a
  · rfl
  · show 128 * c.val + 1 * r.val = 128 * c.val + r.val; omega
  · show 0 + 1 * d.val = d.val; omega

/-- A chunk put into a staged block. -/
theorem put3 {α : Type} (X : S1x2048x128.Idx → α) (off : Fin 3 → ℕ) (c : Fin 16) (h : off = ![0, 128 * c.val, 0]) (w : S1x128x128.Idx → α) (c' : Fin 16) (r d : Fin 128) :
    VecWindow.put (s := S1x2048x128) X off S1x128x128.size w (ix3 0 (rowix c' r) d) = if c' = c then w (ix3 0 r d) else X (ix3 0 (rowix c' r) d) := by
  subst h
  unfold VecWindow.put
  by_cases e : c' = c
  · subst e
    rw [if_pos rfl, dif_pos (fun a => by
      fin_cases a
      · show 0 ≤ 0 ∧ 0 < 0 + 1; omega
      · show 128 * c'.val ≤ 128 * c'.val + r.val ∧ 128 * c'.val + r.val < 128 * c'.val + 128; omega
      · show 0 ≤ d.val ∧ d.val < 0 + 128; omega)]
    refine congrArg w (funext fun a => Fin.ext ?_)
    fin_cases a
    · rfl
    · show 128 * c'.val + r.val - 128 * c'.val = r.val; omega
    · show d.val - 0 = d.val; omega
  · rw [if_neg e, dif_neg]
    intro hall
    have h0 : 128 * c.val ≤ 128 * c'.val + r.val ∧ 128 * c'.val + r.val < 128 * c.val + 128 := hall 1
    exact e (Fin.ext (by omega))

/-- A buffer of one chunk, replaced whole. -/
theorem putw {α : Type} (X w : S128x128.Idx → α) : VecWindow.put (s := S128x128) X ![0, 0] S128x128.size w = w := by
  funext y
  unfold VecWindow.put
  rw [dif_pos (fun a => by
    have := (y a).isLt
    fin_cases a
    · show 0 ≤ (y 0).val ∧ (y 0).val < 0 + 128; exact ⟨Nat.zero_le _, by have : (y 0).val < 128 := (y 0).isLt; omega⟩
    · show 0 ≤ (y 1).val ∧ (y 1).val < 0 + 128; exact ⟨Nat.zero_le _, by have : (y 1).val < 128 := (y 1).isLt; omega⟩)]
  refine congrArg w (funext fun a => Fin.ext ?_)
  fin_cases a <;> rfl

/-- A row's window of a buffer of one chunk. -/
theorem winr {α : Type} (X : S128x128.Idx → α) (off : Fin 2 → ℕ) (inb) (s : Fin 128) (h : off = ![s.val, 0]) (d : Fin 128) :
    VecWindow.window (s := S128x128) X off S1x128.size inb (ix2 0 d) = X (ix2 s d) := by
  subst h
  refine congrArg X (funext fun a => Fin.ext ?_)
  fin_cases a
  · rfl
  · show 0 + 1 * d.val = d.val; omega

/-- The lower bounds' two rows, and the norm's weights. -/
theorem winl0 {α : Type} (X : S2x128.Idx → α) (inb) (d : Fin 128) : VecWindow.window (s := S2x128) X ![0, 0] S1x128.size inb (ix2 0 d) = X (ix2 0 d) := by
  refine congrArg X (funext fun a => Fin.ext ?_)
  fin_cases a
  · rfl
  · show 0 + 1 * d.val = d.val; omega

/-- The second row of the lower bounds, read as a window. -/
theorem winl1 {α : Type} (X : S2x128.Idx → α) (inb) (d : Fin 128) : VecWindow.window (s := S2x128) X ![1, 0] S1x128.size inb (ix2 0 d) = X (ix2 1 d) := by
  refine congrArg X (funext fun a => Fin.ext ?_)
  fin_cases a
  · rfl
  · show 0 + 1 * d.val = d.val; omega

/-- The norm's weights, read as a window. -/
theorem winog {α : Type} (X : S1x128.Idx → α) (inb) (d : Fin 128) : VecWindow.window (s := S1x128) X ![0, 0] S1x128.size inb (ix2 0 d) = X (ix2 0 d) := by
  refine congrArg X (funext fun a => Fin.ext ?_)
  fin_cases a
  · rfl
  · show 0 + 1 * d.val = d.val; omega

/-- A chunk's rows, as staged and widened, element by element; and the rows holding a chunk's whole decay. -/
theorem lo_at (x : Vec Ideal S1x128x128 .bf16) (r d : Fin 128) : lo x (ix2 r d) = x (ix3 0 r d) := by
  pointwise [lo]

/-- A widened block's entry. -/
theorem up_at (x : Vec Ideal S1x128x128 .bf16) (r d : Fin 128) : up x (ix2 r d) = x (ix3 0 r d) := by
  pointwise [up, lo]

/-- A chunk's last row. -/
def lastRow (G : FVec Ideal S128x128 .f32) : FVec Ideal S1x128 .f32 := extractStridedSlice S1x128 ![127, 0] G slices_S128x128_o127_0_S1x128

/-- A chunk's first row. -/
def firstRow (G : FVec Ideal S128x128 .f32) : FVec Ideal S1x128 .f32 := extractStridedSlice S1x128 ![0, 0] G slices_S128x128_o0_0_S1x128

/-- The last row's entries. -/
theorem lastRow_at (G : FVec Ideal S128x128 .f32) (d : Fin 128) : lastRow G (ix2 0 d) = G (ix2 127 d) := by
  pointwise [lastRow]

/-- The first row's entries. -/
theorem firstRow_at (G : FVec Ideal S128x128 .f32) (d : Fin 128) : firstRow G (ix2 0 d) = G (ix2 0 d) := by
  pointwise [firstRow]

/-! ## What a grid point is given -/

/-- The rows taken from the last to the first. -/
def rv (f : ℕ → Fin 128 → ℝ) (t : ℕ) (d : Fin 128) : ℝ := f (2047 - t) d

/-- The keys and the decays' logarithms, from the lower bounds and the logits. -/
def kOf (l : Fin 128 → ℝ) (z : ℕ → Fin 128 → ℝ) (t : ℕ) (d : Fin 128) : ℝ := (1 - l d) * (1 / (1 + Real.exp (z t d)))

/-- The logarithms of the decays, from the bounds and the gate's arguments. -/
def gOf (l : Fin 128 → ℝ) (z : ℕ → Fin 128 → ℝ) (t : ℕ) (d : Fin 128) : ℝ := (gateS (l d : EReal) (z t d : EReal)).toReal

/-- The decays' logarithms are real and not positive. -/
theorem gOf_coe {l : Fin 128 → ℝ} (hl : ∀ d, 0 ≤ l d ∧ l d ≤ 1) (z : ℕ → Fin 128 → ℝ) (t : ℕ) (d : Fin 128) :
    gateS (l d : EReal) (z t d : EReal) = ((gOf l z t d : ℝ) : EReal) := by
  obtain ⟨γ, _, h⟩ := gateS_real (l d) (z t d) (hl d).1 (hl d).2
  unfold gOf
  rw [h, EReal.toReal_coe]

/-- The logarithms of the decays are not positive. -/
theorem gOf_nonpos {l : Fin 128 → ℝ} (hl : ∀ d, 0 ≤ l d ∧ l d ≤ 1) (z : ℕ → Fin 128 → ℝ) (t : ℕ) (d : Fin 128) : gOf l z t d ≤ 0 := by
  obtain ⟨γ, h0, h⟩ := gateS_real (l d) (z t d) (hl d).1 (hl d).2
  unfold gOf
  rw [h, EReal.toReal_coe]; exact h0

/-- A grid point's real contents: the two directions' queries, values and logits, and lower bounds between zero and one. -/
structure Pt where
  q : ℕ → Fin 128 → ℝ
  v : ℕ → Fin 128 → ℝ
  zf : ℕ → Fin 128 → ℝ
  zb : ℕ → Fin 128 → ℝ
  lf : Fin 128 → ℝ
  lb : Fin 128 → ℝ
  hlf : ∀ d, 0 ≤ lf d ∧ lf d ≤ 1
  hlb : ∀ d, 0 ≤ lb d ∧ lb d ≤ 1

variable (p : Pt)

/-- The forward and the backward direction's outputs, each in its own time, and their sum at a row. -/
def Pt.outF (t : ℕ) (e : Fin 128) : ℝ := out p.q (kOf p.lf p.zf) p.v (gOf p.lf p.zf) t e

/-- The backward direction's outputs, in the turned order. -/
def Pt.outB (t : ℕ) (e : Fin 128) : ℝ := out (rv p.q) (kOf p.lb (rv p.zb)) (rv p.v) (gOf p.lb (rv p.zb)) t e

/-- The two directions' sum at a row. -/
def Pt.row (t : ℕ) (e : Fin 128) : ℝ := p.outF t e + p.outB (2047 - t) e

/-- A staged block holds a sequence of real rows. -/
def Holds (X : Vec Ideal S1x2048x128 .bf16) (f : ℕ → Fin 128 → ℝ) : Prop := ∀ (t : Fin 2048) d, X (ix3 0 t d) = ((f t.val d : ℝ) : EReal)

/-- A staged chunk holds a sequence's rows from `b` on, in the order `σ`. -/
def At (Y : Vec Ideal S1x128x128 .bf16) (f : ℕ → Fin 128 → ℝ) (b : ℕ) (σ : Fin 128 ≃ Fin 128) : Prop :=
  ∀ r d, Y (ix3 0 r d) = ((f (b + (σ r).val) d : ℝ) : EReal)

/-- The two orders. -/
abbrev fw : Fin 128 ≃ Fin 128 := Equiv.refl _

/-- The rows of a backward chunk are counted from its end. -/
abbrev bw : Fin 128 ≃ Fin 128 := Fin.revPerm

/-- A forward and a backward chunk of a staged block. -/
theorem win_fw {X : Vec Ideal S1x2048x128 .bf16} {f : ℕ → Fin 128 → ℝ} (hX : Holds X f) (off : Fin 3 → ℕ) (inb) (n : Fin 16) (h : off = ![0, 128 * n.val, 0]) :
    At (VecWindow.window (s := S1x2048x128) X off S1x128x128.size inb) f (128 * n.val) fw := fun r d =>
  (win3 X off inb n h r d).trans (hX _ d)

/-- A backward chunk of a staged block. -/
theorem win_bw {X : Vec Ideal S1x2048x128 .bf16} {f : ℕ → Fin 128 → ℝ} (hX : Holds X f) (off : Fin 3 → ℕ) (inb) (n : Fin 16) (h : off = ![0, 128 * n.rev.val, 0]) :
    At (VecWindow.window (s := S1x2048x128) X off S1x128x128.size inb) (rv f) (128 * n.val) bw := fun r d => by
  refine (win3 X off inb n.rev h r d).trans ((hX _ d).trans ?_)
  unfold rv
  congr 2
  show 128 * n.rev.val + r.val = 2047 - (128 * n.val + r.rev.val)
  rw [Fin.val_rev, Fin.val_rev]; omega

/-- What the body reads of a chunk: queries, decays, keys, the whole decay, values. -/
structure Chunk (q k v g : ℕ → Fin 128 → ℝ) (b : ℕ) (σ : Fin 128 ≃ Fin 128) (Q G kk : FVec Ideal S128x128 .f32) (gt : FVec Ideal S1x128 .f32)
    (vb : FVec Ideal S128x128 .bf16) : Prop where
  hq : ∀ r d, Q (ix2 r d) = ((q (b + (σ r).val) d : ℝ) : EReal)
  hk : ∀ r d, kk (ix2 r d) = ((k (b + (σ r).val) d : ℝ) : EReal)
  hv : ∀ r d, vb (ix2 r d) = ((v (b + (σ r).val) d : ℝ) : EReal)
  hG : ∀ r d, G (ix2 r d) = ((loc g b (σ r) d : ℝ) : EReal)
  hgt : ∀ d, gt (ix2 0 d) = ((loc g b 127 d : ℝ) : EReal)

/-- A state's array holds the state after `n` rows. -/
def StAt (k v g : ℕ → Fin 128 → ℝ) (n : ℕ) (st : FVec Ideal S128x128 .f32) : Prop := ∀ e d, st (ix2 e d) = ((state k v g n e d : ℝ) : EReal)

section
variable {q k v g : ℕ → Fin 128 → ℝ} {b : ℕ} {σ : Fin 128 ≃ Fin 128} {Q G kk : FVec Ideal S128x128 .f32} {gt : FVec Ideal S1x128 .f32} {vb : FVec Ideal S128x128 .bf16}

/-- A chunk's state after it. -/
theorem Chunk.step (h : Chunk q k v g b σ Q G kk gt vb) {st : FVec Ideal S128x128 .f32} (hst : StAt k v g b st) :
    StAt k v g (b + 128) (stepOf st G gt kk vb) := fun e d =>
  step_real k v g b σ G kk st gt vb h.hk h.hv h.hG h.hgt hst e d

/-- A chunk's outputs, queries and keys decayed apart. -/
theorem Chunk.quick (h : Chunk q k v g b σ Q G kk gt vb) {st : FVec Ideal S128x128 .f32} (hst : StAt k v g b st) (keep : IVec S128x128 1)
    (hkeep : ∀ r s, keep (ix2 r s) = if σ s ≤ σ r then 1#1 else 0#1) (r e : Fin 128) :
    inter Q G st (ix2 r e) + intra keep Q kk G gt vb (ix2 r e) = ((out q k v g (b + (σ r).val) e : ℝ) : EReal) := by
  rw [inter_real q k v g b σ Q G st h.hq h.hG hst, intra_real q k v g b σ Q G kk gt vb h.hq h.hk h.hv h.hG h.hgt keep hkeep, ← EReal.coe_add, out_own]

/-- What the first `n` positions give to the outputs of a chunk. -/
def some (q k v g : ℕ → Fin 128 → ℝ) (b : ℕ) (σ : Fin 128 ≃ Fin 128) (n : ℕ) (r e : Fin 128) : ℝ :=
  ∑ s ∈ Finset.range n, if hs : s < 128 then own q k v g b (σ r) (σ ⟨s, hs⟩) e else 0

/-- One position more. -/
theorem Chunk.pair (h : Chunk q k v g b σ Q G kk gt vb) (hg : ∀ t d, g t d ≤ 0) (keep : IVec S128x1 1) (s : Fin 128) (hkeep : ∀ r, keep (ix2 r 0) = if σ s ≤ σ r then 1#1 else 0#1)
    (gr kr vr : Vec Ideal S1x128 .f32) (acc : FVec Ideal S128x128 .f32)
    (hgr : ∀ d, gr (ix2 0 d) = G (ix2 s d)) (hkr : ∀ d, kr (ix2 0 d) = kk (ix2 s d)) (hvr : ∀ d, vr (ix2 0 d) = vb (ix2 s d))
    (hacc : ∀ r e, acc (ix2 r e) = ((some q k v g b σ s.val r e : ℝ) : EReal)) (r e : Fin 128) :
    Scan.pair keep Q G gr kr vr acc (ix2 r e) = ((some q k v g b σ (s.val + 1) r e : ℝ) : EReal) := by
  rw [pair_real q k v g b σ Q G h.hq h.hG hg keep s hkeep gr kr vr acc (fun d => (hgr d).trans (h.hG s d)) (fun d => (hkr d).trans (h.hk s d))
    (fun d => (hvr d).trans (h.hv s d)), hacc, ← EReal.coe_add]
  congr 1
  unfold some
  rw [Finset.sum_range_succ, dif_pos s.isLt]

/-- A chunk's outputs, its positions one after another. -/
theorem Chunk.exact (h : Chunk q k v g b σ Q G kk gt vb) {st : FVec Ideal S128x128 .f32} (hst : StAt k v g b st) (acc : FVec Ideal S128x128 .f32)
    (hacc : ∀ r e, acc (ix2 r e) = ((some q k v g b σ 128 r e : ℝ) : EReal)) (r e : Fin 128) :
    inter Q G st (ix2 r e) + acc (ix2 r e) = ((out q k v g (b + (σ r).val) e : ℝ) : EReal) := by
  rw [inter_real q k v g b σ Q G st h.hq h.hG hst, hacc, ← EReal.coe_add, ← out_own]
  refine congrArg (fun x : ℝ => (x : EReal)) (congrArg (fun x : ℝ => _ + x) ?_)
  unfold some
  rw [Finset.sum_range]
  exact Finset.sum_congr rfl fun s _ => dif_pos s.isLt
end

/-! ## The buffers between the trips -/

/-- The buffers the body writes: the output block, the two directions' decays, the sums, and a chunk's decays, keys and values. -/
structure Bufs where
  o : Vec Ideal S1x2048x128 .bf16
  gf : Vec Ideal S2048x128 .f32
  gb : Vec Ideal S2048x128 .f32
  acc : Vec Ideal S2048x128 .f32
  gs : Vec Ideal S128x128 .f32
  ks : Vec Ideal S128x128 .f32
  vs : Vec Ideal S128x128 .f32

/-- After `n` trips of the gates' loop the first `n` chunks hold their decays, and the sums zero. -/
def Gates (n : ℕ) (st : Bufs) : Prop := ∀ c : Fin 16, c.val < n → ∀ r d,
  st.gf (ix2 (rowix c r) d) = ((loc (gOf p.lf p.zf) (128 * c.val) r d : ℝ) : EReal)
    ∧ st.gb (ix2 (rowix c r) d) = ((loc (gOf p.lb (rv p.zb)) (128 * c.rev.val) r.rev d : ℝ) : EReal)
    ∧ st.acc (ix2 (rowix c r) d) = 0

/-- One chunk's gates more. -/
theorem gates_step (n : Fin 16) {st : Bufs} (h : Gates p n.val st) (o1 o2 o3 : Fin 2 → ℕ) (h1 : o1 = ![128 * n.val, 0]) (h2 : o2 = ![128 * n.val, 0])
    (h3 : o3 = ![128 * n.val, 0]) (w1 w2 w3 : S128x128.Idx → EReal)
    (hw1 : ∀ r d, w1 (ix2 r d) = ((loc (gOf p.lf p.zf) (128 * n.val) r d : ℝ) : EReal))
    (hw2 : ∀ r d, w2 (ix2 r d) = ((loc (gOf p.lb (rv p.zb)) (128 * n.rev.val) r.rev d : ℝ) : EReal))
    (hw3 : ∀ r d, w3 (ix2 r d) = 0) (st' : Bufs) (e1 : st'.gf = VecWindow.put (s := S2048x128) st.gf o1 S128x128.size w1)
    (e2 : st'.gb = VecWindow.put (s := S2048x128) st.gb o2 S128x128.size w2) (e3 : st'.acc = VecWindow.put (s := S2048x128) st.acc o3 S128x128.size w3) :
    Gates p (n.val + 1) st' := by
  intro c hc r d
  rw [e1, e2, e3, put2 _ _ n h1, put2 _ _ n h2, put2 _ _ n h3]
  by_cases e : c = n
  · subst e
    rw [if_pos rfl, if_pos rfl, if_pos rfl]
    exact ⟨hw1 r d, hw2 r d, hw3 r d⟩
  · rw [if_neg e, if_neg e, if_neg e]
    exact h c (by have : c.val ≠ n.val := fun h => e (Fin.ext h); omega) r d

/-- A chunk's decays as they are written. -/
theorem gate_real {l : Fin 128 → ℝ} (hl : ∀ d, 0 ≤ l d ∧ l d ≤ 1) {z : ℕ → Fin 128 → ℝ} {b : ℕ} {σ : Fin 128 ≃ Fin 128} (keep : IVec S128x128 1)
    (hkeep : ∀ r s, keep (ix2 r s) = if σ s ≤ σ r then 1#1 else 0#1) (L : Vec Ideal S1x128 .f32) (hL : ∀ d, L (ix2 0 d) = ((l d : ℝ) : EReal))
    (Z : Vec Ideal S1x128x128 .bf16) (hZ : At Z z b σ) (r d : Fin 128) : cum keep (gate L Z) (ix2 r d) = ((loc (gOf l z) b (σ r) d : ℝ) : EReal) :=
  cum_real (gOf l z) b σ keep hkeep _ (fun r d => by rw [gate_at, hL, hZ, gOf_coe hl]) r d

/-- After `n` trips of a recurrence: the gates, the two states, and the sums, forward from the first chunk on, backward from the last. -/
structure Mid (n : ℕ) (sf sb : FVec Ideal S128x128 .f32) (st : Bufs) : Prop where
  gates : ∀ (c : Fin 16) r d, st.gf (ix2 (rowix c r) d) = ((loc (gOf p.lf p.zf) (128 * c.val) r d : ℝ) : EReal)
    ∧ st.gb (ix2 (rowix c r) d) = ((loc (gOf p.lb (rv p.zb)) (128 * c.rev.val) r.rev d : ℝ) : EReal)
  hsf : StAt (kOf p.lf p.zf) p.v (gOf p.lf p.zf) (128 * n) sf
  hsb : StAt (kOf p.lb (rv p.zb)) (rv p.v) (gOf p.lb (rv p.zb)) (128 * n) sb
  sums : ∀ (c : Fin 16) r e, st.acc (ix2 (rowix c r) e)
    = (((if c.val < n then p.outF (128 * c.val + r.val) e else 0) + (if c.rev.val < n then p.outB (128 * c.rev.val + r.rev.val) e else 0) : ℝ) : EReal)

/-- Before the first trip. -/
theorem mid_zero {st : Bufs} (h : Gates p 16 st) (z1 z2 : FVec Ideal S128x128 .f32) (h1 : ∀ e d, z1 (ix2 e d) = 0) (h2 : ∀ e d, z2 (ix2 e d) = 0) : Mid p 0 z1 z2 st where
  gates c r d := ⟨(h c c.isLt r d).1, (h c c.isLt r d).2.1⟩
  hsf e d := by rw [h1]; unfold state; simp
  hsb e d := by rw [h2]; unfold state; simp
  sums c r e := by rw [(h c c.isLt r e).2.2]; simp

/-- One trip: the forward chunk's outputs added at its place, then the backward chunk's at its. -/
theorem mid_step (n : Fin 16) {sf sb : FVec Ideal S128x128 .f32} {st : Bufs} (h : Mid p n.val sf sb st) (o1 o2 : Fin 2 → ℕ) (h1 : o1 = ![128 * n.val, 0])
    (h2 : o2 = ![128 * n.rev.val, 0]) (w1 w2 : S128x128.Idx → EReal) (sf' sb' : FVec Ideal S128x128 .f32)
    (hw1 : ∀ r e, w1 (ix2 r e) = st.acc (ix2 (rowix n r) e) + ((p.outF (128 * n.val + r.val) e : ℝ) : EReal))
    (hw2 : ∀ r e, w2 (ix2 r e) = VecWindow.put (s := S2048x128) st.acc o1 S128x128.size w1 (ix2 (rowix n.rev r) e) + ((p.outB (128 * n.val + r.rev.val) e : ℝ) : EReal))
    (hsf : StAt (kOf p.lf p.zf) p.v (gOf p.lf p.zf) (128 * n.val + 128) sf') (hsb : StAt (kOf p.lb (rv p.zb)) (rv p.v) (gOf p.lb (rv p.zb)) (128 * n.val + 128) sb')
    (st' : Bufs) (e1 : st'.gf = st.gf) (e2 : st'.gb = st.gb)
    (e3 : st'.acc = VecWindow.put (s := S2048x128) (VecWindow.put (s := S2048x128) st.acc o1 S128x128.size w1) o2 S128x128.size w2) :
    Mid p (n.val + 1) sf' sb' st' where
  gates c r d := by rw [e1, e2]; exact h.gates c r d
  hsf := hsf
  hsb := hsb
  sums c r e := by
    have hne : n.rev ≠ n := fun hh => by have := congrArg Fin.val hh; rw [Fin.val_rev] at this; omega
    rw [e3, put2 _ _ n.rev h2]
    by_cases c1 : c = n.rev
    · subst c1
      rw [if_pos rfl, hw2, put2 _ _ n h1, if_neg hne, h.sums, ← EReal.coe_add]
      congr 1
      rw [Fin.rev_rev]
      rw [if_neg (lt_irrefl n.val), if_pos (Nat.lt_succ_self n.val), add_zero]
      have hv : (n.rev.val < n.val + 1) ↔ (n.rev.val < n.val) := by
        have : n.rev.val ≠ n.val := fun hh => hne (Fin.ext hh)
        omega
      simp only [hv]
    · rw [if_neg c1, put2 _ _ n h1]
      have hv : (c.rev.val < n.val + 1) ↔ (c.rev.val < n.val) := by
        have : c.rev.val ≠ n.val := fun hh => c1 (by rw [← Fin.rev_rev c, Fin.ext hh])
        omega
      by_cases c2 : c = n
      · subst c2
        rw [if_pos rfl, hw1, h.sums, ← EReal.coe_add]
        congr 1
        simp only [hv]
        rw [if_neg (lt_irrefl c.val), if_pos (Nat.lt_succ_self c.val)]
        ring
      · rw [if_neg c2, h.sums]
        have hv' : (c.val < n.val + 1) ↔ (c.val < n.val) := by
          have : c.val ≠ n.val := fun hh => c2 (Fin.ext hh)
          omega
        simp only [hv, hv']

/-- The sums hold both directions' outputs. -/
def Done (st : Bufs) : Prop := ∀ (c : Fin 16) r e, st.acc (ix2 (rowix c r) e) = ((p.row (rowix c r).val e : ℝ) : EReal)

/-- After the last trip they do. -/
theorem mid_done {sf sb : FVec Ideal S128x128 .f32} {st : Bufs} (h : Mid p 16 sf sb st) : Done p st := by
  intro c r e
  rw [h.sums c r e, if_pos c.isLt, if_pos c.rev.isLt]
  unfold Pt.row
  congr 3
  show 128 * c.rev.val + r.rev.val = 2047 - (128 * c.val + r.val)
  rw [Fin.val_rev, Fin.val_rev]; omega

/-- A grid point's output at a row, from the rows' sums, the norm's weights and the gates of the outputs. -/
def fin (og : Fin 128 → EReal) (go : EReal) (t : ℕ) (e : Fin 128) : EReal :=
  ((p.row t e : ℝ) : EReal) * Ideal.rsqrt (Ideal.div (∑ x, ((p.row t x : ℝ) : EReal) * ((p.row t x : ℝ) : EReal)) (Ideal.ofBits .f32 0x43000000#32) + Ideal.ofBits .f32 0x358637BD#32)
    * og e * go

/-- After `n` trips of the last loop the first `n` chunks of the output block are written. -/
def Ends (og : Fin 128 → EReal) (go : Vec Ideal S1x2048x128 .bf16) (n : ℕ) (st : Bufs) : Prop :=
  Done p st ∧ ∀ c : Fin 16, c.val < n → ∀ r e, st.o (ix3 0 (rowix c r) e) = fin p og (go (ix3 0 (rowix c r) e)) (rowix c r).val e

/-- One chunk of the output more. -/
theorem ends_step {og : Fin 128 → EReal} {go : Vec Ideal S1x2048x128 .bf16} (n : Fin 16) {st : Bufs} (h : Ends p og go n.val st)
    (o1 : Fin 2 → ℕ) (h1 : o1 = ![128 * n.val, 0]) (inb1) (o2 : Fin 3 → ℕ) (h2 : o2 = ![0, 128 * n.val, 0]) (inb2) (ogv : Vec Ideal S1x128 .f32) (hog : ∀ e, ogv (ix2 0 e) = og e)
    (st' : Bufs) (e1 : st'.acc = st.acc)
    (e2 : st'.o = VecWindow.put (s := S1x2048x128) st.o o2 S1x128x128.size
      (normed ogv (VecWindow.window (s := S2048x128) st.acc o1 S128x128.size inb1) (VecWindow.window (s := S1x2048x128) go o2 S1x128x128.size inb2))) :
    Ends p og go (n.val + 1) st' := by
  refine ⟨fun c r e => by rw [e1]; exact h.1 c r e, fun c hc r e => ?_⟩
  rw [e2, put3 _ _ n h2]
  by_cases c1 : c = n
  · subst c1
    rw [if_pos rfl, normed_at]
    simp only [win2 _ _ _ c h1, win3 _ _ _ c h2, h.1 c, hog]
    rfl
  · rw [if_neg c1]
    exact h.2 c (by have : c.val ≠ n.val := fun h => c1 (Fin.ext h); omega) r e

end Cert.HgrnIdeal.Scan

end
-- ==== Proof.ScanRef.lean ====
/- What the reference computes, read at an index: each head's columns, the gates and the keys from them, the running sums of the
   gates, the two directions' outputs and the norm, as real functions of the arguments. -/
module

public import proofs.«01_k».proof.Proof.Gen.HgrnRefIdeal.Read
public import proofs.«01_k».proof.Proof.MixFinite
public import proofs.«01_k».proof.Proof.ScanPlace
public import Idealize.ShloMosaic.Lib.Pointwise
public import Idealize.ShloMosaic.Lib.WordCmp

@[expose] public section

set_option maxRecDepth 16384

noncomputable section

namespace Cert.HgrnIdeal.Scan

open Idealize.ShloMosaic Idealize.ShloMosaic.TcCoe
open Cert.HgrnRefIdeal Cert.HgrnRefIdeal.Read
open Cert.MixRefIdeal.Finite
open Cert.ScanSeq
open scoped BigOperators

/-! ## The columns -/

/-- Head `h`'s column `d` of the `o`-th group of the projection's columns, and of the lower bounds. -/
def col (o : Fin 5) (h : Fin 8) (d : Fin 128) : Fin 9216 := ⟨2048 + 1024 * o.val + (128 * h.val + d.val), by omega⟩

/-- The same column within the lower bounds and within the result. -/
def hcol (h : Fin 8) (d : Fin 128) : Fin 1024 := ⟨128 * h.val + d.val, by omega⟩

/-- Its contents at a row, as real numbers. -/
def colAt (z : Vec Ideal S32x2048x9216 .bf16) (b : Fin 32) (h : Fin 8) (o : Fin 5) (t : ℕ) (d : Fin 128) : ℝ :=
  (z (ix3 b ⟨t % 2048, Nat.mod_lt _ (by decide)⟩ (col o h d)) : EReal).toReal

variable {z : Vec Ideal S32x2048x9216 .bf16} {l : Vec Ideal S2x1024 .f32} {og : Vec Ideal S128 .f32}

/-- A real entry is the real number it stands for. -/
theorem IsReal.coe_toReal {x : EReal} (h : IsReal x) : x = (x.toReal : EReal) := by
  obtain ⟨r, rfl⟩ := h; rfl

/-- The projection's queries, values and gates are the real sequences read off them. -/
theorem colAt_coe (hz : ∀ (b : Fin 32) (t : Fin 2048) (j : Fin 4096), IsReal (z (ix3 b t ⟨2048 + j.val, by omega⟩))) (b : Fin 32) (h : Fin 8) (o : Fin 5) (t : Fin 2048) (d : Fin 128) (ho : o.val < 4 := by decide) :
    z (ix3 b t (col o h d)) = (colAt z b h o t.val d : EReal) := by
  have hc : col o h d = ⟨2048 + (⟨1024 * o.val + (128 * h.val + d.val), by omega⟩ : Fin 4096).val, by dsimp only; omega⟩ := Fin.ext (by
    show 2048 + 1024 * o.val + (128 * h.val + d.val) = 2048 + (1024 * o.val + (128 * h.val + d.val)); omega)
  refine (IsReal.coe_toReal (by rw [hc]; exact hz b t _)).trans ?_
  unfold colAt
  rw [show (⟨t.val % 2048, Nat.mod_lt _ (by decide)⟩ : Fin 2048) = t from Fin.ext (Nat.mod_eq_of_lt t.isLt)]

/-- The reference's queries are the first column group of the projection. -/
theorem heads_q (b : Fin 32) (h : Fin 8) (t : Fin 2048) (d : Fin 128) : val_main_v3 (F := Ideal) z (ix4 b h t d) = z (ix3 b t (col 0 h d)) := by
  rw [val_main_v3_apply, val_main_v2_apply, val_main_v1_apply, val_main_v0_apply]
  refine congrArg z (funext fun a => Fin.ext ?_)
  match a with
  | ⟨0, _⟩ => show (((b.val * 2048 + t.val) * 8 + h.val) * 128 + d.val) / 2097152 = b.val; omega
  | ⟨1, _⟩ => show (((b.val * 2048 + t.val) * 8 + h.val) * 128 + d.val) / 1024 % 2048 = t.val; omega
  | ⟨2, _⟩ => show 2048 + (((b.val * 2048 + t.val) * 8 + h.val) * 128 + d.val) % 1024 = 2048 + 1024 * 0 + (128 * h.val + d.val); omega

/-- The reference's values are the second column group of the projection. -/
theorem heads_v (b : Fin 32) (h : Fin 8) (t : Fin 2048) (d : Fin 128) : val_main_v7 (F := Ideal) z (ix4 b h t d) = z (ix3 b t (col 1 h d)) := by
  rw [val_main_v7_apply, val_main_v6_apply, val_main_v5_apply, val_main_v4_apply]
  refine congrArg z (funext fun a => Fin.ext ?_)
  match a with
  | ⟨0, _⟩ => show (((b.val * 2048 + t.val) * 8 + h.val) * 128 + d.val) / 2097152 = b.val; omega
  | ⟨1, _⟩ => show (((b.val * 2048 + t.val) * 8 + h.val) * 128 + d.val) / 1024 % 2048 = t.val; omega
  | ⟨2, _⟩ => show 3072 + (((b.val * 2048 + t.val) * 8 + h.val) * 128 + d.val) % 1024 = 2048 + 1024 * 1 + (128 * h.val + d.val); omega

/-- The forward gate's argument is the third column group of the projection. -/
theorem heads_zf (b : Fin 32) (h : Fin 8) (t : Fin 2048) (d : Fin 128) : val_main_v11 (F := Ideal) z (ix4 b h t d) = z (ix3 b t (col 2 h d)) := by
  rw [val_main_v11_apply, val_main_v10_apply, val_main_v9_apply, val_main_v8_apply]
  refine congrArg z (funext fun a => Fin.ext ?_)
  match a with
  | ⟨0, _⟩ => show (((b.val * 2048 + t.val) * 8 + h.val) * 128 + d.val) / 2097152 = b.val; omega
  | ⟨1, _⟩ => show (((b.val * 2048 + t.val) * 8 + h.val) * 128 + d.val) / 1024 % 2048 = t.val; omega
  | ⟨2, _⟩ => show 4096 + (((b.val * 2048 + t.val) * 8 + h.val) * 128 + d.val) % 1024 = 2048 + 1024 * 2 + (128 * h.val + d.val); omega

/-- The backward gate's argument is the fourth column group of the projection. -/
theorem heads_zb (b : Fin 32) (h : Fin 8) (t : Fin 2048) (d : Fin 128) : val_main_v48 (F := Ideal) z (ix4 b h t d) = z (ix3 b t (col 3 h d)) := by
  rw [val_main_v48_apply, val_main_v47_apply, val_main_v46_apply, val_main_v45_apply]
  refine congrArg z (funext fun a => Fin.ext ?_)
  match a with
  | ⟨0, _⟩ => show (((b.val * 2048 + t.val) * 8 + h.val) * 128 + d.val) / 2097152 = b.val; omega
  | ⟨1, _⟩ => show (((b.val * 2048 + t.val) * 8 + h.val) * 128 + d.val) / 1024 % 2048 = t.val; omega
  | ⟨2, _⟩ => show 5120 + (((b.val * 2048 + t.val) * 8 + h.val) * 128 + d.val) % 1024 = 2048 + 1024 * 3 + (128 * h.val + d.val); omega

/-- The forward direction's lower bounds, head by head. -/
theorem bounds_f (h : Fin 8) (d : Fin 128) : val_main_v14 (F := Ideal) l (ix4 0 h 0 d) = l (ix2 0 (hcol h d)) := by
  rw [val_main_v14_apply, val_main_v13_apply, val_main_v12_apply]
  refine congrArg l (funext fun a => Fin.ext ?_)
  match a with
  | ⟨0, _⟩ => rfl
  | ⟨1, _⟩ => show _ = 128 * h.val + d.val; dsimp; omega

/-- The backward direction's lower bounds, head by head. -/
theorem bounds_b (h : Fin 8) (d : Fin 128) : val_main_v51 (F := Ideal) l (ix4 0 h 0 d) = l (ix2 1 (hcol h d)) := by
  rw [val_main_v51_apply, val_main_v50_apply, val_main_v49_apply]
  refine congrArg l (funext fun a => Fin.ext ?_)
  match a with
  | ⟨0, _⟩ => rfl
  | ⟨1, _⟩ => show _ = 128 * h.val + d.val; dsimp; omega

/-! ## Gates and keys -/

/-- The logarithm of the sigmoid, as minus a softplus. -/
theorem sp_real (x : ℝ) : -(max (-(x : EReal)) 0 + Ideal.log (1 + Ideal.exp (-(max (-(x : EReal) - 0) (-(-(x : EReal) - 0)))))) = ((-Real.log (1 + Real.exp (-x)) : ℝ) : EReal) := by
  rw [← ls_real, sub_zero, neg_neg, max_comm (-(x : EReal)) (x : EReal), zero_sub]
  have hmax : max (x : EReal) (-(x : EReal)) = ((|x| : ℝ) : EReal) := by
    rw [← EReal.coe_neg, ← coe_max' ]; rfl
  rw [hmax, ← EReal.coe_neg, ← EReal.coe_neg, Ideal.exp_coe, ← EReal.coe_one, ← EReal.coe_add, Ideal.log_coe, if_neg (not_le.mpr (by positivity)),
    ← EReal.coe_zero, ← coe_max', ← coe_min', ← EReal.coe_add, ← EReal.coe_neg, ← EReal.coe_sub]
  congr 1
  rcases le_total 0 x with h | h
  · rw [max_eq_right (by linarith), min_eq_right h]; ring
  · rw [max_eq_left (by linarith), min_eq_left h]; ring

/-- A bound's place under the rows. -/
theorem bidx_eq (b : Fin 32) (h : Fin 8) (t : Fin 2048) (d : Fin 128) : idx_main_v19 (ix4 b h t d) = ix4 0 h 0 d := by
  funext a
  match a with
  | ⟨0, _⟩ => rfl
  | ⟨1, _⟩ => rfl
  | ⟨2, _⟩ => rfl
  | ⟨3, _⟩ => rfl

/-- A number is not unlike itself. -/
theorem une_self (x : Ideal .f32) (a b : Ideal .f32) : Scalar.select (FloatOps.cmpf .une x x) a b = b := by
  have h : (FloatOps.cmpf .une x x : BitVec 1) = 0#1 := by
    show BitVec.ofBool (decide ((x : EReal) ≠ x)) = 0#1
    simp
  rw [h]; rfl

/-- One logarithm of a decay, as the reference spells it. -/
theorem gate_spelt (L : EReal) (x : ℝ) : max (Ideal.log L) (Ideal.log (1 + -L) + -(max (-(x : EReal)) 0 + Ideal.log (1 + Ideal.exp (-(max (-(x : EReal) - 0) (-(-(x : EReal) - 0)))))))
      + Ideal.log (1 + Ideal.exp (-(max (Ideal.log L - (Ideal.log (1 + -L) + -(max (-(x : EReal)) 0 + Ideal.log (1 + Ideal.exp (-(max (-(x : EReal) - 0) (-(-(x : EReal) - 0))))))))
        (-(Ideal.log L - (Ideal.log (1 + -L) + -(max (-(x : EReal)) 0 + Ideal.log (1 + Ideal.exp (-(max (-(x : EReal) - 0) (-(-(x : EReal) - 0)))))))))))) = gateS L (x : EReal) := by
  rw [sp_real]
  unfold gateS
  rw [ls_real]
  simp only [zero_sub]
  rfl

/-- The forward logarithm of the decay is the gate's closed form. -/
theorem gate_f (b : Fin 32) (h : Fin 8) (t : Fin 2048) (d : Fin 128) (x : ℝ) (hx : z (ix3 b t (col 2 h d)) = (x : EReal)) :
    val_main_v33 (F := Ideal) z l (ix4 b h t d) = gateS (l (ix2 0 (hcol h d))) (x : EReal) := by
  simp only [val_main_v33_apply, val_main_v25_apply, val_main_v32_apply, val_main_v22_apply, val_main_v21_apply, val_main_v15_apply, val_main_v20_apply, val_main_v19_apply, val_main_v17_apply, val_main_v16_apply, val_main_v31_apply, val_main_v30_apply, val_main_v29_apply, val_main_v28_apply, val_main_v24_apply, val_main_v23_apply, val_main_v18_apply, val_main_call0_v1_apply, val_main_call0_call0_v4_apply, val_main_call0_call0_v11_apply, val_main_call0_call0_v1_apply, val_main_call0_call0_v10_apply, val_main_call0_call0_v9_apply, val_main_call0_call0_v8_apply, val_main_call0_call0_v7_apply, val_main_call0_call0_v3_apply, val_main_call0_call0_v2_apply, val_main_call0_call0_v0_apply, val_main_call0_call0_cst_apply, val_main_call0_v0_apply, heads_zf, hx]
  rw [show idx_main_v23 (ix4 b h t d) = ix4 0 h 0 d from bidx_eq b h t d, show idx_main_v21 (ix4 b h t d) = ix4 0 h 0 d from bidx_eq b h t d, bidx_eq, bounds_f]
  simp only [une_self]
  rw [show (FloatOps.ofBits .f32 0x00000000#32 : Ideal .f32) = (0 : EReal) from Ideal.ofBits_zero_f32]
  exact gate_spelt (l (ix2 0 (hcol h d))) x

/-- The backward logarithm of the decay is the gate's closed form. -/
theorem gate_b (b : Fin 32) (h : Fin 8) (t : Fin 2048) (d : Fin 128) (x : ℝ) (hx : z (ix3 b t (col 3 h d)) = (x : EReal)) :
    val_main_v70 (F := Ideal) z l (ix4 b h t d) = gateS (l (ix2 1 (hcol h d))) (x : EReal) := by
  simp only [val_main_v70_apply, val_main_v62_apply, val_main_v69_apply, val_main_v59_apply, val_main_v58_apply, val_main_v52_apply, val_main_v57_apply, val_main_v56_apply, val_main_v54_apply, val_main_v53_apply, val_main_v68_apply, val_main_v67_apply, val_main_v66_apply, val_main_v65_apply, val_main_v61_apply, val_main_v60_apply, val_main_v55_apply, val_main_call1_v1_apply, val_main_call1_call0_v4_apply, val_main_call1_call0_v11_apply, val_main_call1_call0_v1_apply, val_main_call1_call0_v10_apply, val_main_call1_call0_v9_apply, val_main_call1_call0_v8_apply, val_main_call1_call0_v7_apply, val_main_call1_call0_v3_apply, val_main_call1_call0_v2_apply, val_main_call1_call0_v0_apply, val_main_call1_call0_cst_apply, val_main_call1_v0_apply, heads_zb, hx]
  rw [show idx_main_v60 (ix4 b h t d) = ix4 0 h 0 d from bidx_eq b h t d, show idx_main_v58 (ix4 b h t d) = ix4 0 h 0 d from bidx_eq b h t d, show idx_main_v56 (ix4 b h t d) = ix4 0 h 0 d from bidx_eq b h t d, bounds_b]
  simp only [une_self]
  rw [show (FloatOps.ofBits .f32 0x00000000#32 : Ideal .f32) = (0 : EReal) from Ideal.ofBits_zero_f32]
  exact gate_spelt (l (ix2 1 (hcol h d))) x

/-- The word that stands for one. -/
theorem ofBits_one : Ideal.ofBits .f32 0x3F800000#32 = 1 := by
  simp [Ideal.ofBits, Ideal.ieee, -EReal.coe_mul]; norm_num

/-- The forward keys are what the gate leaves: one less the bound, times the sigmoid of the negated argument. -/
theorem key_f (b : Fin 32) (h : Fin 8) (t : Fin 2048) (d : Fin 128) (x lam : ℝ) (hx : z (ix3 b t (col 2 h d)) = (x : EReal)) (hl : l (ix2 0 (hcol h d)) = (lam : EReal)) :
    val_main_v44 (F := Ideal) z l (ix4 b h t d) = (((1 - lam) * (1 / (1 + Real.exp x)) : ℝ) : EReal) := by
  simp only [val_main_v44_apply, val_main_v43_apply, val_main_v35_apply, val_main_v34_apply, val_main_cst_apply, val_main_v42_apply, val_main_v41_apply, val_main_cst_1_apply, val_main_v40_apply, val_main_v39_apply, val_main_cst_0_apply, val_main_v38_apply, val_main_v37_apply, val_main_v36_apply, heads_zf, hx]
  rw [show idx_main_v43 (ix4 b h t d) = ix4 0 h 0 d from bidx_eq b h t d, bounds_f, hl]
  rw [show (FloatOps.ofBits .f32 0x3F800000#32 : Ideal .f32) = (1 : EReal) from ofBits_one]
  show ((1 : EReal) - (lam : EReal)) * Ideal.div 1 (1 + Ideal.exp (- -(x : EReal))) = _
  rw [neg_neg, Ideal.exp_coe]
  have hp : (1 : ℝ) + Real.exp x ≠ 0 := by positivity
  unfold Ideal.div
  rw [← EReal.coe_one, ← EReal.coe_sub, ← EReal.coe_add, if_neg (by exact_mod_cast hp), ← EReal.coe_inv, ← EReal.coe_mul, ← EReal.coe_mul]
  rw [one_mul, one_div]

/-- The backward keys are what the gate leaves, as the forward ones. -/
theorem key_b (b : Fin 32) (h : Fin 8) (t : Fin 2048) (d : Fin 128) (x lam : ℝ) (hx : z (ix3 b t (col 3 h d)) = (x : EReal)) (hl : l (ix2 1 (hcol h d)) = (lam : EReal)) :
    val_main_v81 (F := Ideal) z l (ix4 b h t d) = (((1 - lam) * (1 / (1 + Real.exp x)) : ℝ) : EReal) := by
  simp only [val_main_v81_apply, val_main_v80_apply, val_main_v72_apply, val_main_v71_apply, val_main_cst_2_apply, val_main_v79_apply, val_main_v78_apply, val_main_cst_4_apply, val_main_v77_apply, val_main_v76_apply, val_main_cst_3_apply, val_main_v75_apply, val_main_v74_apply, val_main_v73_apply, heads_zb, hx]
  rw [show idx_main_v80 (ix4 b h t d) = ix4 0 h 0 d from bidx_eq b h t d, bounds_b, hl]
  rw [show (FloatOps.ofBits .f32 0x3F800000#32 : Ideal .f32) = (1 : EReal) from ofBits_one]
  show ((1 : EReal) - (lam : EReal)) * Ideal.div 1 (1 + Ideal.exp (- -(x : EReal))) = _
  rw [neg_neg, Ideal.exp_coe]
  have hp : (1 : ℝ) + Real.exp x ≠ 0 := by positivity
  unfold Ideal.div
  rw [← EReal.coe_one, ← EReal.coe_sub, ← EReal.coe_add, if_neg (by exact_mod_cast hp), ← EReal.coe_inv, ← EReal.coe_mul, ← EReal.coe_mul]
  rw [one_mul, one_div]

/-! ## Running sums, and the mask -/

/-- Adding up a list, one after the other. -/
theorem foldl_add {α : Type} (f : α → EReal) (L : List α) (a : EReal) : L.foldl (fun r n => r + f n) a = a + (L.map f).sum := by
  induction L generalizing a with
  | nil => simp
  | cons x L ih => rw [List.foldl_cons, ih, List.map_cons, List.sum_cons, add_assoc]

/-- The positions of a window that spans the rows. -/
theorem window_rows (n : Fin 2048) : (⟨4, ![1, 1, 2048, 1]⟩ : Shape).rowMajor (ix4 0 0 n 0) = Fin.cast (by decide) n := by
  refine Fin.ext ?_
  rw [Shape.rowMajor_val_four]
  show ((0 * 1 + 0) * 2048 + n.val) * 1 + 0 = n.val
  omega

/-- What one position of the window at row `t` holds: a row's gate, or nothing before the first row. -/
theorem window_at (x : S32x8x2048x128.Idx → EReal) (b : Fin 32) (h : Fin 8) (t : Fin 2048) (e : Fin 128) (n : Fin 2048) (hc) :
    (if hin : ∀ d : Fin 4, (![0, 0, 2047, 0] : Fin 4 → ℕ) d ≤ ((ix4 b h t e : S32x8x2048x128.Idx) (d.cast hc)).val * (![1, 1, 1, 1] : Fin 4 → ℕ) d + ((ix4 0 0 n 0 : (⟨4, ![1, 1, 2048, 1]⟩ : Shape).Idx) d).val
        ∧ ((ix4 b h t e : S32x8x2048x128.Idx) (d.cast hc)).val * (![1, 1, 1, 1] : Fin 4 → ℕ) d + ((ix4 0 0 n 0 : (⟨4, ![1, 1, 2048, 1]⟩ : Shape).Idx) d).val - (![0, 0, 2047, 0] : Fin 4 → ℕ) d < S32x8x2048x128.size d
      then x (fun d => ⟨((ix4 b h t e : S32x8x2048x128.Idx) (d.cast hc)).val * (![1, 1, 1, 1] : Fin 4 → ℕ) d + ((ix4 0 0 n 0 : (⟨4, ![1, 1, 2048, 1]⟩ : Shape).Idx) d).val - (![0, 0, 2047, 0] : Fin 4 → ℕ) d, (hin d).2⟩)
      else (0 : EReal))
    = if hk : 2047 ≤ t.val + n.val ∧ t.val + n.val - 2047 < 2048 then x (ix4 b h ⟨t.val + n.val - 2047, hk.2⟩ e) else 0 := by
  by_cases hk : 2047 ≤ t.val + n.val ∧ t.val + n.val - 2047 < 2048
  · rw [dif_pos hk, dif_pos]
    · refine congrArg x (funext fun d => Fin.ext ?_)
      match d with
      | ⟨0, _⟩ => show b.val * 1 + 0 - 0 = b.val; omega
      | ⟨1, _⟩ => show h.val * 1 + 0 - 0 = h.val; omega
      | ⟨2, _⟩ => show t.val * 1 + n.val - 2047 = t.val + n.val - 2047; omega
      | ⟨3, _⟩ => show e.val * 1 + 0 - 0 = e.val; omega
    · intro d
      match d with
      | ⟨0, _⟩ => show 0 ≤ b.val * 1 + 0 ∧ b.val * 1 + 0 - 0 < 32; omega
      | ⟨1, _⟩ => show 0 ≤ h.val * 1 + 0 ∧ h.val * 1 + 0 - 0 < 8; omega
      | ⟨2, _⟩ => show 2047 ≤ t.val * 1 + n.val ∧ t.val * 1 + n.val - 2047 < 2048; omega
      | ⟨3, _⟩ => show 0 ≤ e.val * 1 + 0 ∧ e.val * 1 + 0 - 0 < 128; omega
  · rw [dif_neg hk, dif_neg]
    intro hin
    have h1 := hin 2
    change 2047 ≤ t.val * 1 + n.val ∧ t.val * 1 + n.val - 2047 < 2048 at h1
    omega

/-- The running sum over the rows, from the window that it is printed as. -/
theorem running_rows (x : S32x8x2048x128.Idx → EReal) {u : Shape} (init : u.Idx → EReal) (h0 : ∀ i, init i = 0) (hw) (hu) (b : Fin 32) (h : Fin 8) (t : Fin 2048) (e : Fin 128)
    (g : ℕ → Fin 128 → ℝ) (hg : ∀ s : Fin 2048, x (ix4 b h s e) = (g s.val e : EReal)) :
    Host.reduceWindow (t := S32x8x2048x128) (u := u) (· + ·) ![1, 1, 2048, 1] ![1, 1, 1, 1] ![0, 0, 2047, 0] ![0, 0, 0, 0] x init hw hu (ix4 b h t e)
    = (pre g (t.val + 1) e : EReal) := by
  unfold Host.reduceWindow
  simp only [h0]
  refine (foldl_add _ _ _).trans ?_
  rw [zero_add, ← Fin.sum_univ_def]
  refine (Equiv.sum_comp (finCongr (show 2048 = (⟨4, ![1, 1, 2048, 1]⟩ : Shape).numel by decide)) _).symm.trans ?_
  have hs : ∀ n : Fin 2048, (⟨4, ![1, 1, 2048, 1]⟩ : Shape).rowMajor.symm (finCongr (show 2048 = (⟨4, ![1, 1, 2048, 1]⟩ : Shape).numel by decide) n) = ix4 0 0 n 0 := fun n => by
    rw [Equiv.symm_apply_eq]; exact (window_rows n).symm
  simp only [hs]
  refine (Finset.sum_congr rfl fun n _ => (window_at x b h t e n _).trans ?_ : _ = ∑ n : Fin 2048, (((if 2047 ≤ t.val + n.val then g (t.val + n.val - 2047) e else 0 : ℝ)) : EReal)).trans ?_
  · have := t.isLt
    have := n.isLt
    by_cases hk : 2047 ≤ t.val + n.val
    · rw [dif_pos ⟨hk, by omega⟩, if_pos hk]; exact hg _
    · rw [dif_neg (fun h => hk h.1), if_neg hk]; rfl
  · rw [sum_coe]
    refine congrArg _ ?_
    rw [Fin.sum_univ_eq_sum_range (fun n => if 2047 ≤ t.val + n then g (t.val + n - 2047) e else 0) 2048]
    have ht := t.isLt
    rw [show Finset.range 2048 = Finset.range ((2047 - t.val) + (t.val + 1)) from congrArg _ (by omega), Finset.sum_range_add, Finset.sum_eq_zero (fun n hn => if_neg (by have := Finset.mem_range.mp hn; omega)), zero_add]
    unfold pre
    refine Finset.sum_congr rfl fun j hj => ?_
    rw [if_pos (by omega), show t.val + (2047 - t.val + j) - 2047 = j by omega]

/-- The ideal window sum is the window's fold with addition. -/
theorem windowAdd_eq {s t u : Shape} (window strides lo hi : Fin s.rank → ℕ) (x : s.Idx → EReal) (init : u.Idx → EReal) (hw : s.ReduceWindows window strides lo hi t) (hu : 0 < u.numel) :
    Host.reduceWindowAdd (F := Ideal) (φ := .f32) window strides lo hi x init hw hu
      = Host.reduceWindow (α := EReal) (· + ·) window strides lo hi x (fun _ : (⟨0, ![]⟩ : Shape).Idx => init (Shape.Idx.first hu)) hw (by decide) := rfl

/-- The same, of the operation as the reference prints it. -/
theorem running_add (x : S32x8x2048x128.Idx → EReal) {u : Shape} (init : u.Idx → EReal) (h0 : ∀ i, init i = 0) (hw) (hu) (b : Fin 32) (h : Fin 8) (t : Fin 2048) (e : Fin 128)
    (g : ℕ → Fin 128 → ℝ) (hg : ∀ s : Fin 2048, x (ix4 b h s e) = (g s.val e : EReal)) :
    Host.reduceWindowAdd (F := Ideal) (φ := .f32) (t := S32x8x2048x128) (u := u) ![1, 1, 2048, 1] ![1, 1, 1, 1] ![0, 0, 2047, 0] ![0, 0, 0, 0] x init hw hu (ix4 b h t e)
    = (pre g (t.val + 1) e : EReal) := by
  rw [windowAdd_eq]
  exact running_rows x (fun _ : (⟨0, ![]⟩ : Shape).Idx => init (Shape.Idx.first hu)) (fun _ => h0 _) hw _ b h t e g hg

/-- The mask's bit: the rows up to this one. -/
theorem mask_bit (t s : Fin 2048) : Scalar.select (IntOp.cmpi .sge (IntOp.addi (BitVec.ofNat 32 t.val) 0#32) (BitVec.ofNat 32 s.val)) 1#1 0#1 = if s ≤ t then 1#1 else 0#1 := by
  have ha : IntOp.addi (BitVec.ofNat 32 t.val) 0#32 = BitVec.ofNat 32 t.val := by
    show BitVec.ofNat 32 t.val + 0#32 = _; simp
  have ht := t.isLt
  have hs := s.isLt
  rw [ha]
  by_cases h : s ≤ t
  · rw [if_pos h, (WordCmp.cmpi_sge_ofNat_eq_one_iff (w := 32) (by omega) (by omega)).mpr h]; rfl
  · rw [if_neg h, (WordCmp.cmpi_sge_ofNat_eq_zero_iff (w := 32) (by omega) (by omega)).mpr (by have : ¬ s.val ≤ t.val := h; omega)]; rfl

/-- One weight's term over the reals: the decay from the one row to the other, or nothing where the mask hides it. -/
theorem term_real (t s : Fin 2048) (G G' k : ℝ) :
    FloatOps.mulf (F := Ideal) (φ := .f32) (FloatOps.hostUnary .exp (Scalar.select (if s ≤ t then 1#1 else 0#1) (FloatOps.subf (F := Ideal) (φ := .f32) (G : EReal) (G' : EReal)) (FloatOps.ofBits .f32 0xFF800000#32))) (k : EReal)
      = ((if s ≤ t then Real.exp (G - G') * k else 0 : ℝ) : EReal) := by
  by_cases h : s ≤ t
  · rw [if_pos h, if_pos h]
    show Ideal.exp ((G : EReal) - (G' : EReal)) * (k : EReal) = _
    rw [← EReal.coe_sub, Ideal.exp_coe, ← EReal.coe_mul]
  · rw [if_neg h, if_neg h]
    show Ideal.exp (Ideal.ofBits .f32 0xFF800000#32) * (k : EReal) = _
    rw [ofBits_bot, Ideal.exp_bot, zero_mul]; rfl

/-- Summed over the columns, the masked terms are the weight of one pair of rows, and zero for a later row. -/
theorem weight_real (t s : Fin 2048) (q k g : ℕ → Fin 128 → ℝ) :
    (∑ d : Fin 128, q t.val d * (if s ≤ t then Real.exp (pre g (t.val + 1) d - pre g (s.val + 1) d) * k s.val d else 0)) = if s ≤ t then wt q k g t.val s.val else 0 := by
  by_cases h : s ≤ t
  · simp only [if_pos h]
    unfold wt
    exact Finset.sum_congr rfl fun d _ => by ring
  · simp only [if_neg h, mul_zero, Finset.sum_const_zero]

/-! ## One direction -/

/-- The forward running sums are the sums of the logarithms up to and with the row. -/
theorem cum_f (b : Fin 32) (h : Fin 8) (t : Fin 2048) (d : Fin 128) (g : ℕ → Fin 128 → ℝ)
    (hg : ∀ s : Fin 2048, val_main_v33 (F := Ideal) z l (ix4 b h s d) = (g s.val d : EReal)) :
    val_main_v82 (F := Ideal) z l (ix4 b h t d) = (pre g (t.val + 1) d : EReal) := by
  unfold val_main_v82
  generalize hx : val_main_v33 (F := Ideal) z l = x at hg ⊢
  refine running_add x _ (fun i => ?_) _ _ b h t d g hg
  show val_main_call2_call0_v0 (F := Ideal) _ = 0
  rw [val_main_call2_call0_v0_apply, val_main_call2_call0_cst_apply]
  exact Ideal.ofBits_zero_f32

/-- The forward mask keeps the rows up to the row itself. -/
theorem mask_f (t s : Fin 2048) : val_main_v84 (F := Ideal) (ix2 t s) = if s ≤ t then 1#1 else 0#1 := by
  rw [val_main_v84_apply, val_main_call3_v4_apply, val_main_call3_v2_apply, val_main_call3_v0_apply, val_main_call3_v1_apply, val_main_call3_c_apply, val_main_call3_v3_apply, val_main_v83_apply, val_main_c_apply, val_main_call3_v5_apply, val_main_call3_c_0_apply]
  exact mask_bit t s

/-- One weight's term. -/
theorem term_f (b : Fin 32) (h : Fin 8) (t s : Fin 2048) (d : Fin 128) (k g : ℕ → Fin 128 → ℝ)
    (hk : ∀ s : Fin 2048, val_main_v44 (F := Ideal) z l (ix4 b h s d) = (k s.val d : EReal))
    (hg : ∀ s : Fin 2048, val_main_v33 (F := Ideal) z l (ix4 b h s d) = (g s.val d : EReal)) :
    val_main_v95 (F := Ideal) z l (ix5 b h t s d) = ((if s ≤ t then Real.exp (pre g (t.val + 1) d - pre g (s.val + 1) d) * k s.val d else 0 : ℝ) : EReal) := by
  simp only [val_main_v95_apply, val_main_v92_apply, val_main_v91_apply, val_main_call4_v1_apply, val_main_v85_apply, val_main_v90_apply, val_main_v88_apply, val_main_v86_apply, val_main_v89_apply, val_main_v87_apply, val_main_v94_apply, val_main_v93_apply, val_main_call4_v2_apply, val_main_call4_v0_apply, val_main_cst_5_apply]
  have e1 : val_main_v82 (F := Ideal) z l (idx_main_v86 (idx_main_v88 (ix5 b h t s d))) = (pre g (t.val + 1) d : EReal) := (congrArg _ (eq_ix4 _)).trans (cum_f b h t d g hg)
  have e2 : val_main_v82 (F := Ideal) z l (idx_main_v87 (idx_main_v89 (ix5 b h t s d))) = (pre g (s.val + 1) d : EReal) := (congrArg _ (eq_ix4 _)).trans (cum_f b h s d g hg)
  have e3 : val_main_v44 (F := Ideal) z l (idx_main_v93 (idx_main_v94 (ix5 b h t s d))) = (k s.val d : EReal) := (congrArg _ (eq_ix4 _)).trans (hk s)
  have e4 : val_main_v84 (F := Ideal) (idx_main_v85 (idx_main_call4_v1 (ix5 b h t s d))) = if s ≤ t then 1#1 else 0#1 := (congrArg _ (eq_ix2 _)).trans (mask_f t s)
  rw [e1, e2, e3, e4]
  exact term_real t s _ _ _

/-- A weight. -/
theorem weight_f (b : Fin 32) (h : Fin 8) (t s : Fin 2048) (q k g : ℕ → Fin 128 → ℝ)
    (hq : ∀ (s : Fin 2048) d, val_main_v3 (F := Ideal) z (ix4 b h s d) = (q s.val d : EReal))
    (hk : ∀ (s : Fin 2048) d, val_main_v44 (F := Ideal) z l (ix4 b h s d) = (k s.val d : EReal))
    (hg : ∀ (s : Fin 2048) d, val_main_v33 (F := Ideal) z l (ix4 b h s d) = (g s.val d : EReal)) :
    val_main_v96 (F := Ideal) z l (ix4 b h t s) = ((if s ≤ t then wt q k g t.val s.val else 0 : ℝ) : EReal) := by
  rw [val_main_v96_apply]
  have e : ∀ d : Fin 128, val_main_v3 (F := Ideal) z (lidx_main_v96 (ix4 b h t s) d) * val_main_v95 (F := Ideal) z l (ridx_main_v96 (ix4 b h t s) d)
      = ((q t.val d * (if s ≤ t then Real.exp (pre g (t.val + 1) d - pre g (s.val + 1) d) * k s.val d else 0) : ℝ) : EReal) := fun d => by
    rw [EReal.coe_mul]
    exact congrArg₂ (· * ·) ((congrArg _ (eq_ix4 _)).trans (hq t d)) ((congrArg _ (eq_ix5 _)).trans (term_f b h t s d k g (fun s => hk s d) (fun s => hg s d)))
  refine (Finset.sum_congr rfl fun d _ => e d).trans ?_
  rw [sum_coe]
  exact congrArg _ (weight_real t s q k g)

/-- One direction's output. -/
theorem dir_f (b : Fin 32) (h : Fin 8) (t : Fin 2048) (e : Fin 128) (q k v g : ℕ → Fin 128 → ℝ)
    (hq : ∀ (s : Fin 2048) d, val_main_v3 (F := Ideal) z (ix4 b h s d) = (q s.val d : EReal))
    (hk : ∀ (s : Fin 2048) d, val_main_v44 (F := Ideal) z l (ix4 b h s d) = (k s.val d : EReal))
    (hv : ∀ (s : Fin 2048) d, val_main_v7 (F := Ideal) z (ix4 b h s d) = (v s.val d : EReal))
    (hg : ∀ (s : Fin 2048) d, val_main_v33 (F := Ideal) z l (ix4 b h s d) = (g s.val d : EReal)) :
    val_main_v97 (F := Ideal) z l (ix4 b h t e) = (out q k v g t.val e : EReal) := by
  rw [val_main_v97_apply]
  have e' : ∀ s : Fin 2048, val_main_v96 (F := Ideal) z l (lidx_main_v97 (ix4 b h t e) s) * val_main_v7 (F := Ideal) z (ridx_main_v97 (ix4 b h t e) s)
      = (((if s ≤ t then wt q k g t.val s.val else 0) * v s.val e : ℝ) : EReal) := fun s => by
    rw [EReal.coe_mul]
    exact congrArg₂ (· * ·) ((congrArg _ (eq_ix4 _)).trans (weight_f b h t s q k g hq hk hg)) ((congrArg _ (eq_ix4 _)).trans (hv s e))
  refine (Finset.sum_congr rfl fun s _ => e' s).trans ?_
  rw [sum_coe]
  exact congrArg _ (out_full q k v g t e).symm

/-- The backward running sums are the sums of the turned logarithms up to and with the row. -/
theorem cum_b (b : Fin 32) (h : Fin 8) (t : Fin 2048) (d : Fin 128) (g : ℕ → Fin 128 → ℝ)
    (hg : ∀ s : Fin 2048, val_main_v101 (F := Ideal) z l (ix4 b h s d) = (g s.val d : EReal)) :
    val_main_v102 (F := Ideal) z l (ix4 b h t d) = (pre g (t.val + 1) d : EReal) := by
  unfold val_main_v102
  generalize hx : val_main_v101 (F := Ideal) z l = x at hg ⊢
  refine running_add x _ (fun i => ?_) _ _ b h t d g hg
  show val_main_call9_call0_v0 (F := Ideal) _ = 0
  rw [val_main_call9_call0_v0_apply, val_main_call9_call0_cst_apply]
  exact Ideal.ofBits_zero_f32

/-- The backward mask keeps, in the turned order, the rows up to the row itself. -/
theorem mask_b (t s : Fin 2048) : val_main_v104 (F := Ideal) (ix2 t s) = if s ≤ t then 1#1 else 0#1 := by
  rw [val_main_v104_apply, val_main_call10_v4_apply, val_main_call10_v2_apply, val_main_call10_v0_apply, val_main_call10_v1_apply, val_main_call10_c_apply, val_main_call10_v3_apply, val_main_v103_apply, val_main_c_6_apply, val_main_call10_v5_apply, val_main_call10_c_0_apply]
  exact mask_bit t s

/-- One weight's term. -/
theorem term_b (b : Fin 32) (h : Fin 8) (t s : Fin 2048) (d : Fin 128) (k g : ℕ → Fin 128 → ℝ)
    (hk : ∀ s : Fin 2048, val_main_v99 (F := Ideal) z l (ix4 b h s d) = (k s.val d : EReal))
    (hg : ∀ s : Fin 2048, val_main_v101 (F := Ideal) z l (ix4 b h s d) = (g s.val d : EReal)) :
    val_main_v115 (F := Ideal) z l (ix5 b h t s d) = ((if s ≤ t then Real.exp (pre g (t.val + 1) d - pre g (s.val + 1) d) * k s.val d else 0 : ℝ) : EReal) := by
  simp only [val_main_v115_apply, val_main_v112_apply, val_main_v111_apply, val_main_call11_v1_apply, val_main_v105_apply, val_main_v110_apply, val_main_v108_apply, val_main_v106_apply, val_main_v109_apply, val_main_v107_apply, val_main_v114_apply, val_main_v113_apply, val_main_call11_v2_apply, val_main_call11_v0_apply, val_main_cst_7_apply]
  have e1 : val_main_v102 (F := Ideal) z l (idx_main_v106 (idx_main_v108 (ix5 b h t s d))) = (pre g (t.val + 1) d : EReal) := (congrArg _ (eq_ix4 _)).trans (cum_b b h t d g hg)
  have e2 : val_main_v102 (F := Ideal) z l (idx_main_v107 (idx_main_v109 (ix5 b h t s d))) = (pre g (s.val + 1) d : EReal) := (congrArg _ (eq_ix4 _)).trans (cum_b b h s d g hg)
  have e3 : val_main_v99 (F := Ideal) z l (idx_main_v113 (idx_main_v114 (ix5 b h t s d))) = (k s.val d : EReal) := (congrArg _ (eq_ix4 _)).trans (hk s)
  have e4 : val_main_v104 (F := Ideal) (idx_main_v105 (idx_main_call11_v1 (ix5 b h t s d))) = if s ≤ t then 1#1 else 0#1 := (congrArg _ (eq_ix2 _)).trans (mask_b t s)
  rw [e1, e2, e3, e4]
  exact term_real t s _ _ _

/-- A weight. -/
theorem weight_b (b : Fin 32) (h : Fin 8) (t s : Fin 2048) (q k g : ℕ → Fin 128 → ℝ)
    (hq : ∀ (s : Fin 2048) d, val_main_v98 (F := Ideal) z (ix4 b h s d) = (q s.val d : EReal))
    (hk : ∀ (s : Fin 2048) d, val_main_v99 (F := Ideal) z l (ix4 b h s d) = (k s.val d : EReal))
    (hg : ∀ (s : Fin 2048) d, val_main_v101 (F := Ideal) z l (ix4 b h s d) = (g s.val d : EReal)) :
    val_main_v116 (F := Ideal) z l (ix4 b h t s) = ((if s ≤ t then wt q k g t.val s.val else 0 : ℝ) : EReal) := by
  rw [val_main_v116_apply]
  have e : ∀ d : Fin 128, val_main_v98 (F := Ideal) z (lidx_main_v116 (ix4 b h t s) d) * val_main_v115 (F := Ideal) z l (ridx_main_v116 (ix4 b h t s) d)
      = ((q t.val d * (if s ≤ t then Real.exp (pre g (t.val + 1) d - pre g (s.val + 1) d) * k s.val d else 0) : ℝ) : EReal) := fun d => by
    rw [EReal.coe_mul]
    exact congrArg₂ (· * ·) ((congrArg _ (eq_ix4 _)).trans (hq t d)) ((congrArg _ (eq_ix5 _)).trans (term_b b h t s d k g (fun s => hk s d) (fun s => hg s d)))
  refine (Finset.sum_congr rfl fun d _ => e d).trans ?_
  rw [sum_coe]
  exact congrArg _ (weight_real t s q k g)

/-- One direction's output. -/
theorem dir_b (b : Fin 32) (h : Fin 8) (t : Fin 2048) (e : Fin 128) (q k v g : ℕ → Fin 128 → ℝ)
    (hq : ∀ (s : Fin 2048) d, val_main_v98 (F := Ideal) z (ix4 b h s d) = (q s.val d : EReal))
    (hk : ∀ (s : Fin 2048) d, val_main_v99 (F := Ideal) z l (ix4 b h s d) = (k s.val d : EReal))
    (hv : ∀ (s : Fin 2048) d, val_main_v100 (F := Ideal) z (ix4 b h s d) = (v s.val d : EReal))
    (hg : ∀ (s : Fin 2048) d, val_main_v101 (F := Ideal) z l (ix4 b h s d) = (g s.val d : EReal)) :
    val_main_v117 (F := Ideal) z l (ix4 b h t e) = (out q k v g t.val e : EReal) := by
  rw [val_main_v117_apply]
  have e' : ∀ s : Fin 2048, val_main_v116 (F := Ideal) z l (lidx_main_v117 (ix4 b h t e) s) * val_main_v100 (F := Ideal) z (ridx_main_v117 (ix4 b h t e) s)
      = (((if s ≤ t then wt q k g t.val s.val else 0) * v s.val e : ℝ) : EReal) := fun s => by
    rw [EReal.coe_mul]
    exact congrArg₂ (· * ·) ((congrArg _ (eq_ix4 _)).trans (weight_b b h t s q k g hq hk hg)) ((congrArg _ (eq_ix4 _)).trans (hv s e))
  refine (Finset.sum_congr rfl fun s _ => e' s).trans ?_
  rw [sum_coe]
  exact congrArg _ (out_full q k v g t e).symm

/-! ## The two directions together, and the norm -/

/-- Turning the rows round. -/
theorem turned (x : Vec Ideal S32x8x2048x128 .f32) (b : Fin 32) (h : Fin 8) (t : Fin 2048) (d : Fin 128) :
    Host.reverse [2] x (ix4 b h t d) = x (ix4 b h t.rev d) := by
  refine congrArg x (funext fun a => ?_)
  match a with
  | ⟨0, _⟩ => rfl
  | ⟨1, _⟩ => rfl
  | ⟨2, _⟩ => rfl
  | ⟨3, _⟩ => rfl

/-- A row turned is as far from the end as it was from the start. -/
theorem rev_row (t : Fin 2048) : t.rev.val = 2047 - t.val := by
  rw [Fin.val_rev]; omega

/-- The real arguments of one point: the columns of one batch row's one head, and the lower bounds' columns. -/
def pt (z : Vec Ideal S32x2048x9216 .bf16) (l : Vec Ideal S2x1024 .f32) (b : Fin 32) (h : Fin 8)
    (hl : ∀ i d, 0 ≤ (l (ix2 i (hcol h d)) : EReal).toReal ∧ (l (ix2 i (hcol h d)) : EReal).toReal ≤ 1) : Pt where
  q := colAt z b h 0
  v := colAt z b h 1
  zf := colAt z b h 2
  zb := colAt z b h 3
  lf := fun d => (l (ix2 0 (hcol h d)) : EReal).toReal
  lb := fun d => (l (ix2 1 (hcol h d)) : EReal).toReal
  hlf := hl 0
  hlb := hl 1

variable (hz : ∀ (b : Fin 32) (t : Fin 2048) (j : Fin 4096), IsReal (z (ix3 b t ⟨2048 + j.val, by omega⟩))) (hr : ∀ i, IsReal (l i))

include hz hr in

/-- The sum of the two directions' outputs. -/
theorem row_sum (b : Fin 32) (h : Fin 8) (hl) (t : Fin 2048) (e : Fin 128) :
    val_main_v119 (F := Ideal) z l (ix4 b h t e) = ((pt z l b h hl).row t.val e : EReal) := by
  have lc : ∀ i d, l (ix2 i (hcol h d)) = (((l (ix2 i (hcol h d)) : EReal).toReal : ℝ) : EReal) := fun i d => IsReal.coe_toReal (hr (ix2 i (hcol h d)))
  have F := dir_f (z := z) (l := l) b h t e (pt z l b h hl).q (kOf (pt z l b h hl).lf (pt z l b h hl).zf) (pt z l b h hl).v (gOf (pt z l b h hl).lf (pt z l b h hl).zf)
    (fun s d => (heads_q b h s d).trans (colAt_coe hz b h 0 s d))
    (fun s d => key_f b h s d _ _ (colAt_coe hz b h 2 s d) (lc 0 d))
    (fun s d => (heads_v b h s d).trans (colAt_coe hz b h 1 s d))
    (fun s d => (gate_f b h s d _ (colAt_coe hz b h 2 s d)).trans ((congrArg (gateS · _) (lc 0 d)).trans (gOf_coe (pt z l b h hl).hlf (pt z l b h hl).zf s.val d)))
  have B := dir_b (z := z) (l := l) b h t.rev e (rv (pt z l b h hl).q) (kOf (pt z l b h hl).lb (rv (pt z l b h hl).zb)) (rv (pt z l b h hl).v) (gOf (pt z l b h hl).lb (rv (pt z l b h hl).zb))
    (fun s d => (turned _ b h s d).trans (((heads_q b h s.rev d).trans (colAt_coe hz b h 0 s.rev d)).trans (by rw [rev_row]; rfl)))
    (fun s d => (turned _ b h s d).trans ((key_b b h s.rev d _ _ (colAt_coe hz b h 3 s.rev d) (lc 1 d)).trans (by rw [rev_row]; rfl)))
    (fun s d => (turned _ b h s d).trans (((heads_v b h s.rev d).trans (colAt_coe hz b h 1 s.rev d)).trans (by rw [rev_row]; rfl)))
    (fun s d => (turned _ b h s d).trans (((gate_b b h s.rev d _ (colAt_coe hz b h 3 s.rev d)).trans ((congrArg (gateS · _) (lc 1 d)).trans
      (gOf_coe (pt z l b h hl).hlb (pt z l b h hl).zb s.rev.val d))).trans (by rw [rev_row]; rfl)))
  rw [val_main_v119_apply, F]
  refine (congrArg (fun y => FloatOps.addf (F := Ideal) (φ := .f32) _ y) ((turned (val_main_v117 (F := Ideal) z l) b h t e).trans B)).trans ?_
  rw [rev_row]
  exact (EReal.coe_add _ _).symm

include hz hr in

/-- The normed sum. -/
theorem normed_row (b : Fin 32) (h : Fin 8) (hl) (t : Fin 2048) (e : Fin 128) :
    val_main_v129 (F := Ideal) z l (ix4 b h t e)
      = ((pt z l b h hl).row t.val e : EReal) * Ideal.rsqrt (Ideal.div (∑ x, (((pt z l b h hl).row t.val x : ℝ) : EReal) * (((pt z l b h hl).row t.val x : ℝ) : EReal)) (Ideal.ofBits .f32 0x43000000#32) + Ideal.ofBits .f32 0x358637BD#32) := by
  simp only [val_main_v129_apply, val_main_v128_apply, val_main_v127_apply, val_main_v126_apply, val_main_v125_apply, val_main_cst_10_apply, val_main_v124_apply, val_main_v123_apply, val_main_cst_9_apply, val_main_v122_apply, val_main_v121_apply, val_main_cst_8_apply, row_sum hz hr b h hl]
  have e1 : ∀ k : Fin 128, val_main_v120 (F := Ideal) z l (idx_main_v121 (idx_main_v122 (idx_main_v128 (ix4 b h t e))) k)
      = (((pt z l b h hl).row t.val k : ℝ) : EReal) * (((pt z l b h hl).row t.val k : ℝ) : EReal) := fun k => by
    have e2 : val_main_v119 (F := Ideal) z l (idx_main_v121 (idx_main_v122 (idx_main_v128 (ix4 b h t e))) k) = (((pt z l b h hl).row t.val k : ℝ) : EReal) :=
      (congrArg _ (eq_ix4 _)).trans (row_sum hz hr b h hl t k)
    rw [val_main_v120_apply, e2]; rfl
  simp only [e1]
  rw [show (FloatOps.ofBits .f32 0x00000000#32 : Ideal .f32) = (0 : EReal) from Ideal.ofBits_zero_f32, zero_add]
  rfl

include hz hr in

/-- The result at one batch row's one head. -/
theorem result (b : Fin 32) (h : Fin 8) (hl) (t : Fin 2048) (e : Fin 128) :
    val_main_v137 (F := Ideal) z l og (ix3 b t (hcol h e)) = fin (pt z l b h hl) (fun d => og (ix1 d)) (z (ix3 b t (col 4 h e))) t.val e := by
  rw [val_main_v137_apply, val_main_v136_apply, val_main_v135_apply, val_main_v134_apply, val_main_v133_apply, val_main_v132_apply, val_main_v131_apply, val_main_v130_apply]
  have e1 : idx_main_v133 (idx_main_v134 (ix3 b t (hcol h e))) = ix4 b h t e := by
    have hb := b.isLt
    have hh := h.isLt
    have ht := t.isLt
    have he := e.isLt
    refine funext fun a => Fin.ext ?_
    match a with
    | ⟨0, _⟩ => show ((b.val * 2048 + t.val) * 1024 + (128 * h.val + e.val)) / 2097152 = b.val; omega
    | ⟨1, _⟩ => show ((b.val * 2048 + t.val) * 1024 + (128 * h.val + e.val)) / 128 % 8 = h.val; omega
    | ⟨2, _⟩ => show ((b.val * 2048 + t.val) * 1024 + (128 * h.val + e.val)) / 1024 % 2048 = t.val; omega
    | ⟨3, _⟩ => show ((b.val * 2048 + t.val) * 1024 + (128 * h.val + e.val)) % 128 = e.val; omega
  have e2 : idx_main_v136 (ix3 b t (hcol h e)) = ix3 b t (col 4 h e) := by
    refine funext fun a => Fin.ext ?_
    match a with
    | ⟨0, _⟩ => rfl
    | ⟨1, _⟩ => rfl
    | ⟨2, _⟩ => show 6144 + (128 * h.val + e.val) = 2048 + 1024 * 4 + (128 * h.val + e.val); omega
  have e3 : idx_main_v130 (idx_main_v131 (ix4 b h t e)) = ix1 e := by
    refine funext fun a => ?_
    match a with
    | ⟨0, _⟩ => rfl
  rw [e1, e2, e3, normed_row hz hr b h hl]
  rfl

end Cert.HgrnIdeal.Scan

end
-- ==== Proof.SelPay.lean ====
/- The selection's body, piece by piece: where its windows lie in the buffers, and what its vector expressions hold, entry
   by entry. -/
module

public import proofs.«01_k».proof.Proof.SelMath
public import proofs.«01_k».proof.Proof.SelIdealFrame
public import proofs.«01_k».proof.Proof.ScanRef
public import Idealize.ShloMosaic.Lib.VecWindow

@[expose] public section

noncomputable section

namespace Cert.SelectIdeal.Pick

open Idealize.ShloMosaic Idealize.ShloMosaic.TcCoe
open Cert.SelectIdeal Cert.SelectIdeal.Gen
open Cert.SelMath

/-! ## Places -/

/-- Where a counting trip reads, first loop. -/
theorem off1_eq : ∀ k : Fin k0_t2_loop.trips, k0_off1 k = ![0, 2048 * k.val] := by decide +kernel

/-- Where a counting trip reads, second loop. -/
theorem off2_eq : ∀ k : Fin k0_t3_loop.trips, k0_off2 k = ![0, 2048 * k.val] := by decide +kernel

/-- Where a placing trip reads and writes. -/
theorem off3_eq : ∀ k : Fin k0_t4_loop.trips, k0_off3 k = ![0, 128 * k.val] := by decide +kernel

/-- The number of a search trip. -/
theorem bit1 : ∀ k : Fin k0_t1_loop.trips, (Scalar.shli 1#32 (Scalar.subi 30#32 (Scf.iv 0#32 1#32 k)) : BitVec 32).toNat = 2 ^ (30 - k.val) := by decide +kernel

/-- The number of a placing trip. -/
theorem iv4 : ∀ k : Fin k0_t4_loop.trips, (Scf.iv 0#32 1#32 k : BitVec 32) = BitVec.ofNat 32 k.val := by decide +kernel

/-- A row's block of places, of any width that fits. -/
theorem win_row {α : Type} {L : ℕ} (X : S16x65536.Idx → α) (off : Fin 2 → ℕ) (inb) (t : ℕ) (h : off = ![0, L * t]) (r : Fin 16) (d : Fin L) (hi : L * t + d.val < 65536) :
    VecWindow.window (s := S16x65536) X off (⟨2, ![16, L]⟩ : Shape).size inb (ix2 r d) = X (ix2 r ⟨L * t + d.val, hi⟩) := by
  subst h
  refine congrArg X (funext fun a => Fin.ext ?_)
  fin_cases a
  · show 0 + 1 * r.val = r.val; omega
  · show L * t + 1 * d.val = L * t + d.val; omega

/-- A block put into a row of places. -/
theorem put_row {α : Type} (X : S16x65536.Idx → α) (off : Fin 2 → ℕ) (t : ℕ) (h : off = ![0, 128 * t]) (w : S16x128.Idx → α) (r : Fin 16) (i : Fin 65536) :
    VecWindow.put (s := S16x65536) X off S16x128.size w (ix2 r i)
      = if h : 128 * t ≤ i.val ∧ i.val < 128 * t + 128 then w (ix2 r ⟨i.val - 128 * t, by omega⟩) else X (ix2 r i) := by
  subst h
  unfold VecWindow.put
  by_cases e : 128 * t ≤ i.val ∧ i.val < 128 * t + 128
  · rw [dif_pos e, dif_pos (fun a => by
      fin_cases a
      · show 0 ≤ r.val ∧ r.val < 0 + 16; omega
      · exact e)]
    refine congrArg w (funext fun a => Fin.ext ?_)
    fin_cases a
    · show r.val - 0 = r.val; omega
    · rfl
  · rw [dif_neg e, dif_neg]
    intro hall
    exact e (hall 1)

/-- The chunk counts, replaced whole. -/
theorem put_offs {α : Type} (X w : S16x640.Idx → α) : VecWindow.put (s := S16x640) X ![0, 0] S16x640.size w = w := by
  funext y
  unfold VecWindow.put
  have h0 : (y 0).val < 16 := (y 0).isLt
  have h1 : (y 1).val < 640 := (y 1).isLt
  rw [dif_pos (fun a => by
    fin_cases a
    · show 0 ≤ (y 0).val ∧ (y 0).val < 0 + 16; omega
    · show 0 ≤ (y 1).val ∧ (y 1).val < 0 + 640; omega)]
  refine congrArg w (funext fun a => Fin.ext ?_)
  fin_cases a <;> rfl

/-- The chunk counts, read whole. -/
theorem win_offs {α : Type} (X : S16x640.Idx → α) (inb) (r : Fin 16) (c : Fin 640) : VecWindow.window (s := S16x640) X ![0, 0] S16x640.size inb (ix2 r c) = X (ix2 r c) := by
  refine congrArg X (funext fun a => Fin.ext ?_)
  fin_cases a
  · show 0 + 1 * r.val = r.val; omega
  · show 0 + 1 * c.val = c.val; omega

/-- The scratch, replaced whole. -/
theorem put_all {α : Type} (X w : S2x16x128.Idx → α) : VecWindow.put (s := S2x16x128) X ![0, 0, 0] S2x16x128.size w = w := by
  funext y
  unfold VecWindow.put
  have h0 : (y 0).val < 2 := (y 0).isLt
  have h1 : (y 1).val < 16 := (y 1).isLt
  have h2 : (y 2).val < 128 := (y 2).isLt
  rw [dif_pos (fun a => by
    fin_cases a
    · show 0 ≤ (y 0).val ∧ (y 0).val < 0 + 2; omega
    · show 0 ≤ (y 1).val ∧ (y 1).val < 0 + 16; omega
    · show 0 ≤ (y 2).val ∧ (y 2).val < 0 + 128; omega)]
  refine congrArg w (funext fun a => Fin.ext ?_)
  fin_cases a <;> rfl

/-- The scratch's first row of counts, read. -/
theorem win_s0 {α : Type} (X : S2x16x128.Idx → α) (inb) (r : Fin 16) (l : Fin 128) : VecWindow.window (s := S2x16x128) X ![0, 0, 0] S1x16x128.size inb (ix3 0 r l) = X (ix3 0 r l) := by
  refine congrArg X (funext fun a => Fin.ext ?_)
  fin_cases a
  · rfl
  · show 0 + 1 * r.val = r.val; omega
  · show 0 + 1 * l.val = l.val; omega

/-- The scratch's second row of counts, read. -/
theorem win_s1 {α : Type} (X : S2x16x128.Idx → α) (inb) (r : Fin 16) (l : Fin 128) : VecWindow.window (s := S2x16x128) X ![1, 0, 0] S1x16x128.size inb (ix3 0 r l) = X (ix3 1 r l) := by
  refine congrArg X (funext fun a => Fin.ext ?_)
  fin_cases a
  · rfl
  · show 0 + 1 * r.val = r.val; omega
  · show 0 + 1 * l.val = l.val; omega

/-- The first row of counts replaced: its entries, -/
theorem put_s0_0 {α : Type} (X : S2x16x128.Idx → α) (w : S1x16x128.Idx → α) (r : Fin 16) (l : Fin 128) : VecWindow.put (s := S2x16x128) X ![0, 0, 0] S1x16x128.size w (ix3 0 r l) = w (ix3 0 r l) := by
  unfold VecWindow.put
  rw [dif_pos (fun a => by
    fin_cases a
    · show 0 ≤ 0 ∧ 0 < 0 + 1; omega
    · show 0 ≤ r.val ∧ r.val < 0 + 16; omega
    · show 0 ≤ l.val ∧ l.val < 0 + 128; omega)]
  refine congrArg w (funext fun a => Fin.ext ?_)
  fin_cases a <;> rfl

/-- and the other row's. -/
theorem put_s0_1 {α : Type} (X : S2x16x128.Idx → α) (w : S1x16x128.Idx → α) (r : Fin 16) (l : Fin 128) : VecWindow.put (s := S2x16x128) X ![0, 0, 0] S1x16x128.size w (ix3 1 r l) = X (ix3 1 r l) := by
  unfold VecWindow.put
  rw [dif_neg]
  intro hall
  have h0 : 0 ≤ 1 ∧ 1 < 0 + 1 := hall 0
  omega

/-- The second row of counts replaced: its entries, -/
theorem put_s1_1 {α : Type} (X : S2x16x128.Idx → α) (w : S1x16x128.Idx → α) (r : Fin 16) (l : Fin 128) : VecWindow.put (s := S2x16x128) X ![1, 0, 0] S1x16x128.size w (ix3 1 r l) = w (ix3 0 r l) := by
  unfold VecWindow.put
  rw [dif_pos (fun a => by
    fin_cases a
    · show 1 ≤ 1 ∧ 1 < 1 + 1; omega
    · show 0 ≤ r.val ∧ r.val < 0 + 16; omega
    · show 0 ≤ l.val ∧ l.val < 0 + 128; omega)]
  refine congrArg w (funext fun a => Fin.ext ?_)
  fin_cases a <;> rfl

/-- and the other row's. -/
theorem put_s1_0 {α : Type} (X : S2x16x128.Idx → α) (w : S1x16x128.Idx → α) (r : Fin 16) (l : Fin 128) : VecWindow.put (s := S2x16x128) X ![1, 0, 0] S1x16x128.size w (ix3 0 r l) = X (ix3 0 r l) := by
  unfold VecWindow.put
  rw [dif_neg]
  intro hall
  have h0 : 1 ≤ 0 ∧ 0 < 1 + 1 := hall 0
  omega

/-! ## Expressions -/

/-- A counting trip's sum. -/
def tally (W acc : IVec S16x2048 32) (v : IVec S16x1 32) : IVec S16x2048 32 :=
  addi acc (select (cmpi .sge W (broadcastTo S16x2048 v broadcasts_S16x1_S16x2048)) (broadcast S16x2048 1#32) (broadcast S16x2048 0#32))

/-- Its entries. -/
theorem tally_at (W acc : IVec S16x2048 32) (v : IVec S16x1 32) (r : Fin 16) (d : Fin 2048) :
    tally W acc v (ix2 r d) = IntOp.addi (acc (ix2 r d)) (Scalar.select (IntOp.cmpi .sge (W (ix2 r d)) (v (ix2 r 0))) 1#32 0#32) := by
  pointwise [tally]

/-- The counts of the places of a block, summed. -/
def total (X : IVec S16x2048 32) : IVec S16x1 32 :=
  shapeCast S16x1 (multiReductionI .add [1] S16 X 0#32 reduces_S16x2048_S16 rfl) shapeCasts_S16_S16x1

/-- Its entries: a sum of words. -/
theorem total_at (X : IVec S16x2048 32) (r : Fin 16) : total X (ix2 r 0) = (Finset.univ : Finset (Fin 2048)).fold IntOp.addi 0#32 (fun d => X (ix2 r d)) := by
  have h : total X (ix2 r 0) = multiReductionI .add [1] S16 X 0#32 reduces_S16x2048_S16 rfl (ix1 r) := by pointwise [total]
  refine h.trans ((multiReductionI_eq_fold .add X 0#32 reduces_S16x2048_S16 rfl (ix1 r)).trans ?_)
  exact Shape.Reduces.fold_fiber_r2_a1 reduces_S16x2048_S16 (ix1 r) _ _ _

/-- The search's next prefix. -/
def next (v old : IVec S16x1 32) (X : IVec S16x2048 32) : IVec S16x1 32 := select (cmpi .sge (total X) (broadcast S16x1 8192#32)) v old

/-- Its entries. -/
theorem next_at (v old : IVec S16x1 32) (X : IVec S16x2048 32) (r : Fin 16) :
    next v old X (ix2 r 0) = Scalar.select (IntOp.cmpi .sge (total X (ix2 r 0)) 8192#32) (v (ix2 r 0)) (old (ix2 r 0)) := by
  pointwise [next]

/-- How many of the threshold's equals are chosen. -/
def need (X : IVec S16x2048 32) : FVec Ideal S16x1 .f32 := sitofp .f32 (subi (broadcast S16x1 8192#32) (total X))

/-- Its entries. -/
theorem need_at (X : IVec S16x2048 32) (r : Fin 16) : need X (ix2 r 0) = (((IntOp.subi 8192#32 (total X (ix2 r 0))).toInt : ℝ) : EReal) := by
  pointwise [need]; rfl

/-- The triangle of ones. -/
def tri : FVec Ideal S128x128 .bf16 :=
  truncf .bf16 (select (cmpi .sle (iota .tc S128x128 32 [0] iota_S128x128_d0_w32) (iota .tc S128x128 32 [1] iota_S128x128_d1_w32))
    (broadcast S128x128 (Scalar.ofBits .f32 0x3F800000#32 : Ideal .f32)) (broadcast S128x128 (Scalar.ofBits .f32 0x00000000#32 : Ideal .f32))) bitsLt_bf16_f32

/-- Its entries. -/
theorem tri_at (k d : Fin 128) : tri (ix2 k d) = if k.val ≤ d.val then (1 : EReal) else 0 := by
  have h : tri (ix2 k d) = Scalar.select (IntOp.cmpi .sle (BitVec.ofNat 32 k.val) (BitVec.ofNat 32 d.val)) (Ideal.ofBits .f32 0x3F800000#32) (Ideal.ofBits .f32 0x00000000#32) := by
    pointwise [tri]
  have e : ∀ a : Fin 128, (BitVec.ofNat 32 a.val).toNat = a.val := fun a => by rw [BitVec.toNat_ofNat]; omega
  rw [h, select_of (sle_iff _ _ (by rw [e]; omega) (by rw [e]; omega)), Cert.HgrnIdeal.Scan.ofBits_one, Ideal.ofBits_zero_f32]
  simp only [e]

/-- A running count within a block: the marks times the triangle. -/
def running (X : FVec Ideal S16x128 .f32) : FVec Ideal S16x128 .f32 :=
  matmul dot_S16x128_S128x128_S16x128_1_0_0_1_n_n none (truncf .bf16 X bitsLt_bf16_f32) tri (constant S16x128 .f32 0x00000000#32)

/-- Its entries. -/
theorem running_at (X : FVec Ideal S16x128 .f32) (r : Fin 16) (d : Fin 128) : running X (ix2 r d) = ∑ k : Fin 128, X (ix2 r k) * tri (ix2 k d) := by
  pointwise [running]

/-- The marks of a bit: one or zero. -/
def marks (v : IVec S16x128 1) : FVec Ideal S16x128 .f32 :=
  select v (broadcast S16x128 (Scalar.ofBits .f32 0x3F800000#32 : Ideal .f32)) (broadcast S16x128 (Scalar.ofBits .f32 0x00000000#32 : Ideal .f32))

/-- Their entries. -/
theorem marks_at (v : IVec S16x128 1) (r : Fin 16) (d : Fin 128) : marks v (ix2 r d) = Scalar.select (v (ix2 r d)) (1 : EReal) 0 := by
  have h : marks v (ix2 r d) = Scalar.select (v (ix2 r d)) (Ideal.ofBits .f32 0x3F800000#32) (Ideal.ofBits .f32 0x00000000#32) := by pointwise [marks]
  rw [h, Cert.HgrnIdeal.Scan.ofBits_one, Ideal.ofBits_zero_f32]

/-- Which words of a block equal the threshold. -/
def same (W : IVec S16x128 32) (v : IVec S16x1 32) : IVec S16x128 1 := cmpi .eq W (broadcastTo S16x128 v broadcasts_S16x1_S16x128)

/-- Its entries. -/
theorem same_at (W : IVec S16x128 32) (v : IVec S16x1 32) (r : Fin 16) (d : Fin 128) : same W v (ix2 r d) = IntOp.cmpi .eq (W (ix2 r d)) (v (ix2 r 0)) := by
  pointwise [same]

/-- A count before each place: what came before the block, and the block's marks before it. -/
def upto (c : FVec Ideal S16x1 .f32) (X : FVec Ideal S16x128 .f32) : FVec Ideal S16x128 .f32 :=
  subf (addf (broadcastTo S16x128 c broadcasts_S16x1_S16x128) (running X)) X

/-- Its entries. -/
theorem upto_at (c : FVec Ideal S16x1 .f32) (X : FVec Ideal S16x128 .f32) (r : Fin 16) (d : Fin 128) :
    upto c X (ix2 r d) = (c (ix2 r 0) + running X (ix2 r d)) - X (ix2 r d) := by
  pointwise [upto]

/-- Which places of a block are chosen. -/
def picked (W : IVec S16x128 32) (v : IVec S16x1 32) (n c : FVec Ideal S16x1 .f32) : IVec S16x128 1 :=
  ori (cmpi .sgt W (broadcastTo S16x128 v broadcasts_S16x1_S16x128))
    (andi (same W v) (cmpf .olt (upto c (marks (same W v))) (broadcastTo S16x128 n broadcasts_S16x1_S16x128)))

/-- Its entries. -/
theorem picked_at (W : IVec S16x128 32) (v : IVec S16x1 32) (n c : FVec Ideal S16x1 .f32) (r : Fin 16) (d : Fin 128) :
    picked W v n c (ix2 r d) = IntOp.ori (IntOp.cmpi .sgt (W (ix2 r d)) (v (ix2 r 0)))
      (IntOp.andi (same W v (ix2 r d)) (Ideal.cmp .olt (upto c (marks (same W v)) (ix2 r d)) (n (ix2 r 0)))) := by
  pointwise [picked]

/-- The positions of a block's chosen places; minus one elsewhere. -/
def posn (P : IVec S16x128 1) (c : FVec Ideal S16x1 .f32) : IVec S16x128 32 :=
  fptosi 32 (select P (upto c (marks P)) (broadcast S16x128 (Scalar.ofBits .f32 0xBF800000#32 : Ideal .f32)))

/-- The word that stands for minus one. -/
theorem ofBits_neg : Ideal.ofBits .f32 0xBF800000#32 = ((-1 : ℝ) : EReal) := by
  simp [Ideal.ofBits, Ideal.ieee, -EReal.coe_mul]; norm_num

/-- Its entries. -/
theorem posn_at (P : IVec S16x128 1) (c : FVec Ideal S16x1 .f32) (r : Fin 16) (d : Fin 128) :
    posn P c (ix2 r d) = Ideal.fptosi 32 (Scalar.select (P (ix2 r d)) (upto c (marks P) (ix2 r d)) ((-1 : ℝ) : EReal)) := by
  have h : posn P c (ix2 r d) = Ideal.fptosi 32 (Scalar.select (P (ix2 r d)) (upto c (marks P) (ix2 r d)) (Ideal.ofBits .f32 0xBF800000#32)) := by pointwise [posn]; rfl
  rw [h, ofBits_neg]

/-- The first lane of a row of counts. -/
def lane0 (X : Vec Ideal S1x16x128 .f32) : FVec Ideal S16x1 .f32 :=
  extractStridedSlice S16x1 ![0, 0] (shapeCast S16x128 X shapeCasts_S1x16x128_S16x128 : FVec Ideal S16x128 .f32) slices_S16x128_o0_0_S16x1

/-- Its entries. -/
theorem lane0_at (X : Vec Ideal S1x16x128 .f32) (r : Fin 16) : lane0 X (ix2 r 0) = X (ix3 0 r 0) := by
  pointwise [lane0]

/-- A row of counts after a block. -/
def after (c : FVec Ideal S16x1 .f32) (X : FVec Ideal S16x128 .f32) : FVec Ideal S1x16x128 .f32 :=
  shapeCast S1x16x128 (broadcastTo S16x128 (shapeCast S16x1 (addf c (extractStridedSlice S16x1 ![0, 127] X slices_S16x128_o0_127_S16x1)) shapeCasts_S16x1_S16x1)
    broadcasts_S16x1_S16x128) shapeCasts_S16x128_S1x16x128

/-- Its entries. -/
theorem after_at (c : FVec Ideal S16x1 .f32) (X : FVec Ideal S16x128 .f32) (r : Fin 16) (l : Fin 128) : after c X (ix3 0 r l) = c (ix2 r 0) + X (ix2 r 127) := by
  pointwise [after]

/-- The chunk counts with one lane replaced. -/
def lane (sel : IVec S16x640 1) (c : IVec S16x1 32) (old : IVec S16x640 32) : IVec S16x640 32 :=
  select sel (broadcastTo S16x640 (shapeCast S16x1 c shapeCasts_S16x1_S16x1) broadcasts_S16x1_S16x640) (shapeCast S16x640 old shapeCasts_S16x640_S16x640)

/-- Its entries. -/
theorem lane_at (sel : IVec S16x640 1) (c : IVec S16x1 32) (old : IVec S16x640 32) (r : Fin 16) (l : Fin 640) :
    lane sel c old (ix2 r l) = Scalar.select (sel (ix2 r l)) (c (ix2 r 0)) (old (ix2 r l)) := by
  pointwise [lane]

/-- Which lane is number `w`. -/
def isLane (w : BitVec 32) : IVec S16x640 1 := cmpi .eq (iota .tc S16x640 32 [1] iota_S16x640_d1_w32) (broadcast S16x640 w)

/-- Its entries. -/
theorem isLane_at (w : BitVec 32) (r : Fin 16) (l : Fin 640) : isLane w (ix2 r l) = IntOp.cmpi .eq (BitVec.ofNat 32 l.val) w := by
  pointwise [isLane]

/-- A row of counts turned to words. -/
theorem words_at (c : FVec Ideal S16x1 .f32) (r : Fin 16) : (fptosi 32 c : IVec S16x1 32) (ix2 r 0) = Ideal.fptosi 32 (c (ix2 r 0)) := rfl

end Cert.SelectIdeal.Pick

end
-- ==== Proof.SelTrip.lean ====
/- The selection's loops in numbers: what the counting, searching and placing trips leave, from what they found. -/
module

public import proofs.«01_k».proof.Proof.SelPay

@[expose] public section

noncomputable section

namespace Cert.SelectIdeal.Pick

open Idealize.ShloMosaic Idealize.ShloMosaic.TcCoe
open Cert.SelectIdeal Cert.SelectIdeal.Gen
open Cert.SelMath

/-- Row `r`'s word at place `i`, as a number. -/
def wd (x : S16x65536.Idx → BitVec 32) (r : Fin 16) (i : ℕ) : ℕ := if h : i < 65536 then (x (ix2 r ⟨i, h⟩)).toNat else 0

/-- Every word is below the largest signed word. -/
def Below (x : S16x65536.Idx → BitVec 32) : Prop := ∀ i, (x i).toNat < 2147483647

/-- The word at a place of the row. -/
theorem wd_at (x : S16x65536.Idx → BitVec 32) (r : Fin 16) {i : ℕ} (h : i < 65536) : wd x r i = (x (ix2 r ⟨i, h⟩)).toNat := dif_pos h

/-- Every word of a row is below the largest signed word. -/
theorem wd_lt {x : S16x65536.Idx → BitVec 32} (hx : Below x) (r : Fin 16) (i : ℕ) : wd x r i < 2147483647 := by
  unfold wd
  split
  · exact hx _
  · norm_num

variable {x : S16x65536.Idx → BitVec 32}

/-! ## Counting -/

/-- After `t` trips: the words of each place of a block that reach `v`, counted. -/
def Tallied (x : S16x65536.Idx → BitVec 32) (v : IVec S16x1 32) (t : ℕ) (acc : IVec S16x2048 32) : Prop :=
  ∀ (r : Fin 16) (d : Fin 2048), acc (ix2 r d) = BitVec.ofNat 32 (Nat.count (fun k => (v (ix2 r 0)).toNat ≤ wd x r (2048 * k + d.val)) t)

/-- Nothing is counted at first. -/
theorem tallied_zero (v : IVec S16x1 32) : Tallied x v 0 (broadcast S16x2048 0#32) := fun r d => rfl

/-- One trip counts one block. -/
theorem tallied_step (hx : Below x) {v : IVec S16x1 32} (hv : ∀ r, (v (ix2 r 0)).toNat < 2 ^ 31) {t : ℕ} (ht : t < 32) {acc : IVec S16x2048 32}
    (h : Tallied x v t acc) (off : Fin 2 → ℕ) (ho : off = ![0, 2048 * t]) (inb) :
    Tallied x v (t + 1) (tally (VecWindow.window (s := S16x65536) x off S16x2048.size inb) acc v) := fun r d => by
  have hi : 2048 * t + d.val < 65536 := by omega
  have hw := win_row (L := 2048) x off inb t ho r d hi
  rw [tally_at, h r d]
  have e : VecWindow.window (s := S16x65536) x off S16x2048.size inb (ix2 r d) = x (ix2 r ⟨2048 * t + d.val, hi⟩) := hw
  rw [e, select_of (sge_iff _ _ (lt_trans (hx _) (by norm_num)) (hv r)), Nat.count_succ, ← wd_at x r hi]
  split
  · exact (BitVec.ofNat_add _ _).symm
  · exact BitVec.add_zero _

/-- The whole count. -/
theorem tallied_total {v : IVec S16x1 32} {acc : IVec S16x2048 32} (h : Tallied x v 32 acc) (r : Fin 16) :
    total acc (ix2 r 0) = BitVec.ofNat 32 (Nat.count (fun i => (v (ix2 r 0)).toNat ≤ wd x r i) 65536) := by
  rw [total_at, show (fun d : Fin 2048 => acc (ix2 r d)) = fun d : Fin 2048 => BitVec.ofNat 32 (Nat.count (fun k => (v (ix2 r 0)).toNat ≤ wd x r (2048 * k + d.val)) 32) from funext fun d => h r d, fold_ofNat]
  refine congrArg (BitVec.ofNat 32) ?_
  rw [← count_blocks (fun i => (v (ix2 r 0)).toNat ≤ wd x r i) 2048 32, Finset.sum_range]

/-- A count of places is small. -/
theorem count_small (p : ℕ → Prop) [DecidablePred p] : (BitVec.ofNat 32 (Nat.count p 65536)).toNat = Nat.count p 65536 := by
  have := Nat.count_le p (n := 65536)
  rw [BitVec.toNat_ofNat]; omega

/-! ## The search -/

/-- After `k` bits. -/
def Searched (x : S16x65536.Idx → BitVec 32) (k : ℕ) (a : IVec S16x1 32) : Prop := ∀ r, Search (wd x r) 65536 8192 k (a (ix2 r 0)).toNat

/-- The search begins. -/
theorem searched_zero (hx : Below x) : Searched x 0 (broadcast S16x1 0#32) := fun r =>
  Search.zero (fun i _ => lt_trans (wd_lt hx r i) (by norm_num)) (by norm_num) (by norm_num)

/-- The prefix tried next. -/
theorem tried {a : IVec S16x1 32} {k : ℕ} (hk : k < 31) (h : Searched x k a) (w : BitVec 32) (hw : w.toNat = 2 ^ (30 - k)) (r : Fin 16) :
    (ori a (broadcast S16x1 w) (ix2 r 0)).toNat = (a (ix2 r 0)).toNat + 2 ^ (30 - k) := by
  have e : ori a (broadcast S16x1 w) (ix2 r 0) = a (ix2 r 0) ||| w := rfl
  rw [e, BitVec.toNat_or, hw, (h r).or hk]

/-- The prefix tried next is a signed word. -/
theorem tried_lt {a : IVec S16x1 32} {k : ℕ} (hk : k < 31) (h : Searched x k a) (w : BitVec 32) (hw : w.toNat = 2 ^ (30 - k)) (r : Fin 16) :
    (ori a (broadcast S16x1 w) (ix2 r 0)).toNat < 2 ^ 31 := by
  rw [tried hk h w hw]; exact (h r).bit_lt hk

/-- One bit. -/
theorem searched_step {a : IVec S16x1 32} {k : ℕ} (hk : k < 31) (h : Searched x k a) (w : BitVec 32) (hw : w.toNat = 2 ^ (30 - k)) {acc : IVec S16x2048 32}
    (hc : Tallied x (ori a (broadcast S16x1 w)) 32 acc) : Searched x (k + 1) (next (ori a (broadcast S16x1 w)) a acc) := fun r => by
  have ht := tallied_total hc r
  rw [next_at, ht, select_of (sge_iff _ _ (by rw [count_small]; exact lt_of_le_of_lt (Nat.count_le _) (by norm_num)) (by decide))]
  rw [count_small]
  have h8 : (8192#32).toNat = 8192 := rfl
  rw [h8, tried hk h w hw r]
  have hs := (h r).step hk
  rw [apply_ite BitVec.toNat, tried hk h w hw r]
  exact hs

/-- The threshold is reached by a word, so the next number is a signed word too. -/
theorem thr_lt (hx : Below x) {a : IVec S16x1 32} (h : Searched x 31 a) (r : Fin 16) : (a (ix2 r 0)).toNat < 2147483647 := by
  by_contra hn
  have := (h r).lo
  rw [count_none fun i _ hi => absurd (wd_lt hx r i) (by omega)] at this
  omega

/-- The number after the threshold. -/
theorem thr_succ (hx : Below x) {a : IVec S16x1 32} (h : Searched x 31 a) (r : Fin 16) : (addi a (broadcast S16x1 1#32) (ix2 r 0)).toNat = (a (ix2 r 0)).toNat + 1 := by
  have hl := thr_lt hx h r
  have e : addi a (broadcast S16x1 1#32) (ix2 r 0) = a (ix2 r 0) + 1#32 := rfl
  rw [e, BitVec.toNat_add, show (1#32).toNat = 1 from rfl]; omega

/-- How many of the threshold's equals are chosen. -/
def left (x : S16x65536.Idx → BitVec 32) (a : IVec S16x1 32) (r : Fin 16) : ℕ := 8192 - Nat.count (fun i => (a (ix2 r 0)).toNat + 1 ≤ wd x r i) 65536

/-- The body's count of it. -/
theorem need_eq (hx : Below x) {a : IVec S16x1 32} (h : Searched x 31 a) {acc : IVec S16x2048 32} (hc : Tallied x (addi a (broadcast S16x1 1#32)) 32 acc) (r : Fin 16) :
    need acc (ix2 r 0) = ((left x a r : ℕ) : EReal) := by
  have hi : Nat.count (fun i => (a (ix2 r 0)).toNat + 1 ≤ wd x r i) 65536 < 8192 := (h r).hi
  rw [need_at, tallied_total hc r, thr_succ hx h r]
  unfold left
  generalize Nat.count (fun i => (a (ix2 r 0)).toNat + 1 ≤ wd x r i) 65536 = n at hi ⊢
  have e : (IntOp.subi 8192#32 (BitVec.ofNat 32 n)) = BitVec.ofNat 32 (8192 - n) := by
    show 8192#32 - BitVec.ofNat 32 n = _
    apply BitVec.eq_of_toNat_eq
    simp only [BitVec.toNat_sub, BitVec.toNat_ofNat]
    omega
  have e' : (BitVec.ofNat 32 (8192 - n)).toInt = ((8192 - n : ℕ) : ℤ) := by
    rw [BitVec.toInt_eq_toNat_of_lt (by rw [BitVec.toNat_ofNat]; omega), BitVec.toNat_ofNat]
    congr 1; omega
  rw [e, e', Int.cast_natCast]
  exact EReal.coe_natCast

/-! ## Placing -/

/-- What the body writes. -/
structure Bufs where
  pos : Vec Ideal S16x65536 .i32
  offs : Vec Ideal S16x640 .i32
  scr : Vec Ideal S2x16x128 .f32

/-- After `n` blocks: the counts so far, the positions of the places so far, the counts before each block so far. -/
structure Trip (x : S16x65536.Idx → BitVec 32) (T N : Fin 16 → ℕ) (n : ℕ) (st : Bufs) : Prop where
  eqs : ∀ r l, st.scr (ix3 0 r l) = ((Nat.count (fun i => wd x r i = T r) (128 * n) : ℕ) : EReal)
  sel : ∀ r l, st.scr (ix3 1 r l) = ((Nat.count (Sel (wd x r) (T r) (N r)) (128 * n) : ℕ) : EReal)
  pos : ∀ r (i : Fin 65536), i.val < 128 * n → st.pos (ix2 r i) = if Sel (wd x r) (T r) (N r) i.val then BitVec.ofNat 32 (Nat.count (Sel (wd x r) (T r) (N r)) i.val) else 4294967295#32
  offs : ∀ r (c : Fin 640), st.offs (ix2 r c) = if c.val < n then BitVec.ofNat 32 (Nat.count (Sel (wd x r) (T r) (N r)) (128 * c.val)) else 0#32

/-- Before the first block. -/
theorem trip_zero (T N : Fin 16 → ℕ) (st : Bufs) (hs : ∀ y, st.scr y = (0 : EReal)) (ho : ∀ y, st.offs y = 0#32) : Trip x T N 0 st where
  eqs r l := by rw [hs]; simp
  sel r l := by rw [hs]; simp
  pos r i h := absurd h (by omega)
  offs r c := by rw [ho, if_neg (by omega)]

/-- A bit of either. -/
theorem or_one : ∀ a b : BitVec 1, IntOp.ori a b = 1#1 ↔ a = 1#1 ∨ b = 1#1 := by decide

/-- A bit of both. -/
theorem and_one : ∀ a b : BitVec 1, IntOp.andi a b = 1#1 ↔ a = 1#1 ∧ b = 1#1 := by decide

/-- The order of ideal floats, as a bit. -/
theorem olt_one (a b : EReal) : Ideal.cmp .olt a b = 1#1 ↔ a < b := by
  by_cases h : a < b <;> simp [Ideal.cmp, h]

/-- A block's running count of its marks. -/
theorem running_marks (P : IVec S16x128 1) (p : ℕ → Prop) [DecidablePred p] (n : ℕ) (r : Fin 16) (h : ∀ k : Fin 128, P (ix2 r k) = 1#1 ↔ p (128 * n + k.val)) (d : Fin 128) :
    running (marks P) (ix2 r d) = ((Nat.count (fun j => p (128 * n + j)) (d.val + 1) : ℕ) : EReal) := by
  rw [running_at, ← tri_sum (fun j => p (128 * n + j)) d]
  refine Finset.sum_congr rfl fun k _ => ?_
  rw [marks_at, tri_at, select_of (h k)]

/-- The count before each place of a block. -/
theorem upto_marks (P : IVec S16x128 1) (p : ℕ → Prop) [DecidablePred p] (n : ℕ) (r : Fin 16) (h : ∀ k : Fin 128, P (ix2 r k) = 1#1 ↔ p (128 * n + k.val))
    (c : FVec Ideal S16x1 .f32) (hc : c (ix2 r 0) = ((Nat.count p (128 * n) : ℕ) : EReal)) (d : Fin 128) :
    upto c (marks P) (ix2 r d) = ((Nat.count p (128 * n + d.val) : ℕ) : EReal) := by
  rw [upto_at, running_marks P p n r h d, hc, marks_at, select_of (h d), ← Nat.cast_add, ← Nat.count_add, ← Nat.add_assoc, Nat.count_succ]
  split
  · have := nat_sub (a := Nat.count p (128 * n + d.val) + 1) (b := 1) (by omega)
    rw [Nat.cast_one] at this
    rw [this]; rfl
  · simp

/-- The count after a block. -/
theorem after_marks (P : IVec S16x128 1) (p : ℕ → Prop) [DecidablePred p] (n : ℕ) (r : Fin 16) (h : ∀ k : Fin 128, P (ix2 r k) = 1#1 ↔ p (128 * n + k.val))
    (c : FVec Ideal S16x1 .f32) (hc : c (ix2 r 0) = ((Nat.count p (128 * n) : ℕ) : EReal)) (l : Fin 128) :
    after c (running (marks P)) (ix3 0 r l) = ((Nat.count p (128 * (n + 1)) : ℕ) : EReal) := by
  rw [after_at, running_marks P p n r h 127, hc, ← Nat.cast_add, ← Nat.count_add]
  rfl

/-- A count of places, as a word. -/
theorem fptosi_count (p : ℕ → Prop) [DecidablePred p] {n : ℕ} (h : n ≤ 65536) : Ideal.fptosi 32 ((Nat.count p n : ℕ) : EReal) = BitVec.ofNat 32 (Nat.count p n) :=
  fptosi_nat (lt_of_le_of_lt ((Nat.count_le _).trans h) (by norm_num))

/-- One block. -/
theorem trip_step (hx : Below x) {T N : Fin 16 → ℕ} {n : ℕ} (hn : n < 512) {st : Bufs} (h : Trip x T N n st)
    {v : IVec S16x1 32} (hv : ∀ r, (v (ix2 r 0)).toNat = T r) {nd : FVec Ideal S16x1 .f32} (hnd : ∀ r, nd (ix2 r 0) = ((N r : ℕ) : EReal))
    (hT : ∀ r, T r < 2 ^ 31)
    (off : Fin 2 → ℕ) (ho : off = ![0, 128 * n]) (inb) (i0 i1 io) (w : BitVec 32) (hw : w = BitVec.ofNat 32 n)
    {W : IVec S16x128 32} (hW : W = VecWindow.window (s := S16x65536) x off S16x128.size inb)
    {c0 c1 : FVec Ideal S16x1 .f32} (hc0 : c0 = lane0 (VecWindow.window (s := S2x16x128) st.scr ![0, 0, 0] S1x16x128.size i0))
    (hc1 : c1 = lane0 (VecWindow.window (s := S2x16x128) st.scr ![1, 0, 0] S1x16x128.size i1)) :
    Trip x T N (n + 1)
      { pos := VecWindow.put (s := S16x65536) st.pos off S16x128.size (posn (picked W v nd c0) c1)
        offs := VecWindow.put (s := S16x640) st.offs ![0, 0] S16x640.size (lane (isLane w) (fptosi 32 c1) (VecWindow.window (s := S16x640) st.offs ![0, 0] S16x640.size io))
        scr := VecWindow.put (s := S2x16x128) (VecWindow.put (s := S2x16x128) st.scr ![0, 0, 0] S1x16x128.size (after c0 (running (marks (same W v))))) ![1, 0, 0] S1x16x128.size
          (after c1 (running (marks (picked W v nd c0)))) } := by
  have k0 : ∀ r, c0 (ix2 r 0) = ((Nat.count (fun i => wd x r i = T r) (128 * n) : ℕ) : EReal) := fun r => by
    rw [hc0, lane0_at, win_s0]; exact h.eqs r 0
  have k1 : ∀ r, c1 (ix2 r 0) = ((Nat.count (Sel (wd x r) (T r) (N r)) (128 * n) : ℕ) : EReal) := fun r => by
    rw [hc1, lane0_at, win_s1]; exact h.sel r 0
  have hWn : ∀ (r : Fin 16) (d : Fin 128), (W (ix2 r d)).toNat = wd x r (128 * n + d.val) := fun r d => by
    have hi : 128 * n + d.val < 65536 := by omega
    rw [hW, wd_at x r hi]
    exact congrArg BitVec.toNat (win_row (L := 128) x off inb n ho r d hi)
  have hs : ∀ (r : Fin 16) (d : Fin 128), same W v (ix2 r d) = 1#1 ↔ wd x r (128 * n + d.val) = T r := fun r d => by
    rw [same_at, eq_iff, hWn, hv]
  have hp : ∀ (r : Fin 16) (d : Fin 128), picked W v nd c0 (ix2 r d) = 1#1 ↔ Sel (wd x r) (T r) (N r) (128 * n + d.val) := fun r d => by
    rw [picked_at, or_one, and_one, hs, olt_one, upto_marks (same W v) (fun i => wd x r i = T r) n r (hs r) c0 (k0 r) d, hnd, nat_lt,
      sgt_iff _ _ (by rw [hWn]; exact lt_trans (wd_lt hx r _) (by norm_num)) (by rw [hv]; exact hT r), hWn, hv]
    rfl
  refine ⟨fun r l => ?_, fun r l => ?_, fun r i hi => ?_, fun r c => ?_⟩
  · dsimp only
    rw [put_s1_0, put_s0_0]
    exact after_marks (same W v) (fun i => wd x r i = T r) n r (hs r) c0 (k0 r) l
  · dsimp only
    rw [put_s1_1]
    exact after_marks (picked W v nd c0) (Sel (wd x r) (T r) (N r)) n r (hp r) c1 (k1 r) l
  · dsimp only
    rw [put_row _ _ n ho]
    split
    · next hi' =>
      have e : 128 * n + (i.val - 128 * n) = i.val := by omega
      have hp' := hp r ⟨i.val - 128 * n, by omega⟩
      have hu := upto_marks (picked W v nd c0) (Sel (wd x r) (T r) (N r)) n r (hp r) c1 (k1 r) ⟨i.val - 128 * n, by omega⟩
      simp only [e] at hp' hu
      rw [posn_at, select_of hp', hu]
      split
      · exact fptosi_count _ (by omega)
      · exact fptosi_neg
    · next hi' => exact h.pos r i (by omega)
  · dsimp only
    rw [put_offs, lane_at, isLane_at, win_offs, words_at, k1, h.offs, fptosi_count _ (by omega), hw]
    have hl : ∀ a : ℕ, a < 640 → (BitVec.ofNat 32 a).toNat = a := fun a ha => by rw [BitVec.toNat_ofNat]; omega
    rw [select_of (eq_iff _ _), hl _ c.isLt, hl n (by omega)]
    by_cases e : c.val = n
    · rw [if_pos e, if_pos (by omega), e]
    · rw [if_neg e]
      by_cases e' : c.val < n
      · rw [if_pos e', if_pos (by omega)]
      · rw [if_neg e', if_neg (by omega)]

/-! ## The end -/

/-- A place is chosen: fewer than `8192` go before it. -/
def Chosen (x : S16x65536.Idx → BitVec 32) (r : Fin 16) (i : ℕ) : Prop := Nat.count (Before (wd x r) i) 65536 < 8192

instance (x : S16x65536.Idx → BitVec 32) (r : Fin 16) : DecidablePred (Chosen x r) := fun i => by unfold Chosen; infer_instance

/-- The body's choice is that. -/
theorem sel_chosen {a : IVec S16x1 32} (h : Searched x 31 a) (r : Fin 16) {i : ℕ} (hi : i < 65536) :
    Sel (wd x r) (a (ix2 r 0)).toNat (left x a r) i ↔ Chosen x r i :=
  sel_iff (h r).lo (h r).hi hi

/-- Their counts. -/
theorem count_chosen {a : IVec S16x1 32} (h : Searched x 31 a) (r : Fin 16) {i : ℕ} (hi : i ≤ 65536) :
    Nat.count (Sel (wd x r) (a (ix2 r 0)).toNat (left x a r)) i = Nat.count (Chosen x r) i := by
  rw [Nat.count_eq_card_filter_range, Nat.count_eq_card_filter_range]
  refine congrArg Finset.card (Finset.filter_congr fun j hj => ?_)
  exact sel_chosen h r (lt_of_lt_of_le (Finset.mem_range.1 hj) hi)

/-- What the positions end as. -/
def posOf (x : S16x65536.Idx → BitVec 32) (r : Fin 16) (i : ℕ) : BitVec 32 := if Chosen x r i then BitVec.ofNat 32 (Nat.count (Chosen x r) i) else 4294967295#32

/-- What the chunk counts end as. -/
def offOf (x : S16x65536.Idx → BitVec 32) (r : Fin 16) (c : ℕ) : BitVec 32 := if c ≤ 512 then BitVec.ofNat 32 (Nat.count (Chosen x r) (128 * c)) else 0#32

/-- The positions after the last block. -/
theorem trip_pos {a : IVec S16x1 32} (h : Searched x 31 a) {st : Bufs} (ht : Trip x (fun r => (a (ix2 r 0)).toNat) (left x a) 512 st) (r : Fin 16) (i : Fin 65536) :
    st.pos (ix2 r i) = posOf x r i.val := by
  rw [ht.pos r i (by omega), count_chosen h r (by omega)]
  unfold posOf
  simp only [sel_chosen h r i.isLt]

/-- The chunk counts after the last block and the last lane. -/
theorem trip_offs {a : IVec S16x1 32} (h : Searched x 31 a) {st : Bufs} (ht : Trip x (fun r => (a (ix2 r 0)).toNat) (left x a) 512 st) (i1 io) (r : Fin 16) (c : Fin 640) :
    VecWindow.put (s := S16x640) st.offs ![0, 0] S16x640.size
      (lane (isLane 512#32) (fptosi 32 (lane0 (VecWindow.window (s := S2x16x128) st.scr ![1, 0, 0] S1x16x128.size i1))) (VecWindow.window (s := S16x640) st.offs ![0, 0] S16x640.size io)) (ix2 r c)
      = offOf x r c.val := by
  rw [put_offs, lane_at, isLane_at, win_offs, words_at, lane0_at, win_s1, ht.sel, ht.offs, fptosi_count _ (by omega)]
  have hl : ∀ a : ℕ, a < 640 → (BitVec.ofNat 32 a).toNat = a := fun a ha => by rw [BitVec.toNat_ofNat]; omega
  rw [select_of (eq_iff _ _), hl _ c.isLt, show (512#32).toNat = 512 from rfl, count_chosen h r (by omega)]
  unfold offOf
  by_cases e : c.val = 512
  · rw [if_pos e, if_pos (by omega), e]
  · rw [if_neg e]
    by_cases e' : c.val < 512
    · rw [if_pos e', if_pos (by omega), count_chosen h r (by omega)]
    · rw [if_neg e', if_neg (by omega)]

end Cert.SelectIdeal.Pick

end
-- ==== Proof.ScanRun.lean ====
/- What a program does with the buffers a core owns at KNOWN contents: a small calculus that follows the contents as a
   state. A load reads the state, an unmasked store through a box replaces the box's elements, a counted loop is followed by
   an invariant. The recurrence's body (ScanTrips.lean) is run by it. -/
module

public import Idealize.ShloMosaic.Rules
public import Idealize.ShloMosaic.Lib.Writes
public import Idealize.ShloMosaic.Lib.Scf
public import Idealize.ShloMosaic.Lib.Memref
public import Idealize.ShloMosaic.Lib.VecWindow

@[expose] public section

noncomputable section

namespace Cert.ScanRun

open Idealize.ShloMosaic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {S : Type} {R : S → sProp (MT nD τ sig Ix Val Name U Lvl)} {α β γ : Type}

variable (defs 𝒱 c bd E R) in
/-- From the buffers at state `st` the program runs without fault, and what it returns and the state it ends in satisfy `Q`. -/
def Does (p : Prog (TpuEff nD τ sig Val Λ c.2) α) (st : S) (Q : α → S → Prop) : Prop :=
  R st ⊢ wp Idealize.ShloMosaic.frame (wpE defs 𝒱 c bd) E p (fun a => iprop(∃ st', ⌜Q a st'⌝ ∗ R st'))

/-- Returning a value keeps the state. -/
theorem Does.pure {a : α} {st : S} {Q : α → S → Prop} (h : Q a st) :
    Does defs 𝒱 c bd E R (Pure.pure a : Prog (TpuEff nD τ sig Val Λ c.2) α) st Q := by
  unfold Does; rw [Prog.pure_eq_ret]
  refine Entails.trans ?_ (le_wp_ret _ _ _ _ (fun a => iprop(∃ st', ⌜Q a st'⌝ ∗ R st')))
  iintro H
  iexists st
  isplitr
  · ipureintro; exact h
  iexact H

/-- Two programs in a row. -/
theorem Does.bind {p : Prog (TpuEff nD τ sig Val Λ c.2) α} {k : α → Prog (TpuEff nD τ sig Val Λ c.2) β} {st : S}
    {Q₁ : α → S → Prop} {Q : β → S → Prop}
    (hp : Does defs 𝒱 c bd E R p st Q₁) (hk : ∀ a st', Q₁ a st' → Does defs 𝒱 c bd E R (k a) st' Q) :
    Does defs 𝒱 c bd E R (p >>= k) st Q := by
  unfold Does at *; rw [wp_bind]
  refine hp.trans (wp_mono _ _ _ fun a => ?_)
  iintro ⟨%st', %h, H⟩
  have hw := hk a st' h
  iapply hw
  iexact H

/-- A weaker end. -/
theorem Does.mono {p : Prog (TpuEff nD τ sig Val Λ c.2) α} {st : S} {Q₁ Q : α → S → Prop}
    (hp : Does defs 𝒱 c bd E R p st Q₁) (h : ∀ a st', Q₁ a st' → Q a st') : Does defs 𝒱 c bd E R p st Q := by
  unfold Does at *
  refine hp.trans (wp_mono _ _ _ fun a => ?_)
  iintro ⟨%st', %hq, H⟩
  iexists st'
  isplitr
  · ipureintro; exact h a st' hq
  iexact H

/-- Three programs in a row, bracketed either way. -/
theorem Does.assoc {p : Prog (TpuEff nD τ sig Val Λ c.2) α} {k : α → Prog (TpuEff nD τ sig Val Λ c.2) β}
    {k' : β → Prog (TpuEff nD τ sig Val Λ c.2) γ} {st : S} {Q : γ → S → Prop}
    (h : Does defs 𝒱 c bd E R (p >>= fun a => k a >>= k') st Q) : Does defs 𝒱 c bd E R ((p >>= k) >>= k') st Q := by
  rw [bind_assoc]; exact h

/-- Returning a value and going on from it. -/
theorem Does.pure_bind {a : α} {k : α → Prog (TpuEff nD τ sig Val Λ c.2) β} {st : S} {Q : β → S → Prop}
    (h : Does defs 𝒱 c bd E R (k a) st Q) :
    Does defs 𝒱 c bd E R ((Pure.pure a : Prog (TpuEff nD τ sig Val Λ c.2) α) >>= k) st Q := by
  exact h

/-- A counted loop keeps an invariant of what it carries and the state. -/
theorem Does.for {w : Nat} {lb ub st : BitVec w} {hok : Scf.OK lb ub st} {init : α}
    {body : Fin (Scf.trips lb ub st) → α → Prog (TpuEff nD τ sig Val Λ c.2) α} {s : S} (I : ℕ → α → S → Prop) (h0 : I 0 init s)
    (h : ∀ (k : Fin (Scf.trips lb ub st)) a s', I k a s' → Does defs 𝒱 c bd E R (body k a) s' (I (k.val + 1))) :
    Does defs 𝒱 c bd E R (Scf.for lb ub st hok init body) s (I (Scf.trips lb ub st)) := by
  have := Scf.wp_for frame (wpE defs 𝒱 c bd) E lb ub st hok init body (fun k a => iprop(∃ s', ⌜I k a s'⌝ ∗ R s'))
    (fun k a => by
      iintro ⟨%s', %hI, H⟩
      have hw := h k a s' hI
      unfold Does at hw
      iapply hw
      iexact H)
    (Q := fun a => iprop(∃ s', ⌜I (Scf.trips lb ub st) a s'⌝ ∗ R s'))
  unfold Does
  refine Entails.trans ?_ this
  iintro H
  isplitl [H]
  · iexists s
    isplitr
    · ipureintro; exact h0
    iexact H
  iintro %acc H
  iexact H

/-- A counted loop that leaves the state as it is. -/
theorem Does.forKeep {w : Nat} {lb ub st : BitVec w} {hok : Scf.OK lb ub st} {init : α}
    {body : Fin (Scf.trips lb ub st) → α → Prog (TpuEff nD τ sig Val Λ c.2) α} {s : S} (J : ℕ → α → Prop) (h0 : J 0 init)
    (h : ∀ (k : Fin (Scf.trips lb ub st)) a, J k a → Does defs 𝒱 c bd E R (body k a) s (fun a' s' => s' = s ∧ J (k.val + 1) a')) :
    Does defs 𝒱 c bd E R (Scf.for lb ub st hok init body) s (fun a s' => s' = s ∧ J (Scf.trips lb ub st) a) :=
  Does.for (fun k a s' => s' = s ∧ J k a) ⟨rfl, h0⟩ (fun k a s' hI => by
    obtain ⟨rfl, hJ⟩ := hI
    exact h k a hJ)

/-- A branch, and what follows it. -/
theorem Does.ite {P : Prop} {dec : Decidable P} {p q : Prog (TpuEff nD τ sig Val Λ c.2) α} {st : S} {Q : α → S → Prop}
    (hp : P → Does defs 𝒱 c bd E R p st Q) (hq : ¬ P → Does defs 𝒱 c bd E R q st Q) : Does defs 𝒱 c bd E R (if P then p else q) st Q := by
  split
  · exact hp ‹_›
  · exact hq ‹_›

/-- A branch followed by more: each side is followed by it. -/
theorem Does.ite_bind {P : Prop} {dec : Decidable P} {p q : Prog (TpuEff nD τ sig Val Λ c.2) α} {k : α → Prog (TpuEff nD τ sig Val Λ c.2) β} {st : S} {Q : β → S → Prop}
    (hp : P → Does defs 𝒱 c bd E R (p >>= k) st Q) (hq : ¬ P → Does defs 𝒱 c bd E R (q >>= k) st Q) :
    Does defs 𝒱 c bd E R ((if P then p else q) >>= k) st Q := by
  split
  · exact hp ‹_›
  · exact hq ‹_›

variable (c R) in
/-- The state holds a memref's contents, which may be read. -/
def Gets {sp : Space} {s : Shape} {e : EltTy} (m : Memref sig c.2.kind sp s e) (get : S → s.Idx → Val e) : Prop :=
  ∀ st, R st ⊢ iprop(∃ q, ∃ f, ⌜m.view.read Val f = get st⌝ ∗ (m.view.loc c ↦[m.view.set]{q} f) ∗ ((m.view.loc c ↦[m.view.set]{q} f) -∗ R st))

variable (c R) in
/-- The state holds a memref's contents, which may be read and replaced. -/
def Sets {sp : Space} {s : Shape} {e : EltTy} (m : Memref sig c.2.kind sp s e) (get : S → s.Idx → Val e) (set : S → (s.Idx → Val e) → S) : Prop :=
  ∀ st, R st ⊢ iprop(∃ f, ⌜m.view.read Val f = get st⌝ ∗ (m.view.loc c ↦[m.view.set]{fullShare} f)
    ∗ (∀ g, (m.view.loc c ↦[m.view.set]{fullShare} g) -∗ R (set st (m.view.read Val g))))

/-- What may be replaced by anything and holds still under its own contents may be read. -/
theorem Sets.gets {sp : Space} {s : Shape} {e : EltTy} {m : Memref sig c.2.kind sp s e} {get : S → s.Idx → Val e} {set : S → (s.Idx → Val e) → S}
    (hs : ∀ st, set st (get st) = st) (h : Sets c R m get set) : Gets c R m get := by
  intro st
  refine Entails.trans (h st) ?_
  iintro ⟨%f, %hf, H, K⟩
  iexists fullShare
  iexists f
  isplitr
  · ipureintro; exact hf
  isplitl [H]
  · iexact H
  iintro H
  ihave H := K $$ H
  rw [hf, hs]
  iexact H

/-- A load through a box reads the state's contents there. -/
theorem Does.load {cs : CoreSpace} {s : Shape} {e : EltTy} {m : Memref sig c.2.kind cs s e} {get : S → s.Idx → Val e} {off size : Fin s.rank → ℕ} {inb}
    {hl : m.view.LoadsAt (Rect.unit (s := s) off size inb).toLoadRect} {k : _ → Prog (TpuEff nD τ sig Val Λ c.2) α} {st : S} {Q : α → S → Prop}
    (h : Gets c R m get)
    (hk : ∀ v, v = VecWindow.window (get st) off size inb → Does defs 𝒱 c bd E R (k v) st Q) :
    Does defs 𝒱 c bd E R ((Prog.lift (.load m (Rect.unit (s := s) off size inb).toLoadRect hl)
      : Prog (TpuEff nD τ sig Val Λ c.2) ((Rect.unit (s := s) off size inb).toLoadRect.shape.Idx → Val e)) >>= k) st Q := by
  unfold Does
  refine Entails.trans (h st) ?_
  iintro ⟨%q, %f, %hf, H, K⟩
  have hv : (m.access (Rect.unit (s := s) off size inb)).read Val f = VecWindow.window (get st) off size inb := by
    rw [← hf]; rfl
  have hw := wp_load_rect (Ix := Ix) (Name := Name) (U := U) (Lvl := Lvl) (defs := defs) 𝒱 c bd (Γ := .empty) E (m := m) (r := Rect.unit (s := s) off size inb) (hl := hl) (k := k)
    (Q := fun a => iprop(∃ st', ⌜Q a st'⌝ ∗ R st'))
    (S := m.view.set) (q := q) (f := f) (m.view.set_slice_subset _)
  iapply hw $$ H
  iintro H
  have hb := hk _ hv
  unfold Does at hb
  iapply hb
  iapply K
  iexact H

/-- An unmasked store through a box puts the payload there. -/
theorem Does.store {cs : CoreSpace} {s : Shape} {e : EltTy} {m : Memref sig c.2.kind cs s e} {get : S → s.Idx → Val e} {set : S → (s.Idx → Val e) → S}
    {off size : Fin s.rank → ℕ} {inb} {w : (Rect.unit (s := s) off size inb).shape.Idx → Val e}
    {hx : (m.access (Rect.unit (s := s) off size inb)).Stores Finset.univ} {hm : Finset.univ = Finset.univ ∨ ∀ a, (Rect.unit (s := s) off size inb).stride a = 1}
    {k : PUnit → Prog (TpuEff nD τ sig Val Λ c.2) α} {st : S} {Q : α → S → Prop}
    (h : Sets c R m get set)
    (hk : Does defs 𝒱 c bd E R (k ⟨⟩) (set st (VecWindow.put (get st) off size w)) Q) :
    Does defs 𝒱 c bd E R ((Prog.lift (.store m (Rect.unit (s := s) off size inb) w Finset.univ hx hm) : Prog (TpuEff nD τ sig Val Λ c.2) PUnit) >>= k) st Q := by
  unfold Does
  refine Entails.trans (h st) ?_
  iintro ⟨%f, %hf, H, K⟩
  have hv : m.view.read Val ((m.access (Rect.unit (s := s) off size inb)).write Val f w Finset.univ) = VecWindow.put (get st) off size w := by
    rw [← hf]; exact View.read_writes_cons_put m.view f inb w [] rfl
  have hw := wp_store (Ix := Ix) (Name := Name) (U := U) (Lvl := Lvl) (defs := defs) 𝒱 c bd (Γ := .empty) E (m := m) (r := Rect.unit (s := s) off size inb) (w := w) (Mk := Finset.univ) (hx := hx) (hm := hm) (k := k)
    (Q := fun a => iprop(∃ st', ⌜Q a st'⌝ ∗ R st')) (S := m.view.set) (f := f) (m.setOn_access_subset _ Finset.univ)
  iapply hw $$ H
  iintro H
  ihave H := K $$ H
  rw [hv]
  unfold Does at hk
  iapply hk
  iexact H

/-- A memref owned in full at a component of the state. -/
theorem Sets.owns {sp : Space} {s : Shape} {e : EltTy} {m : Memref sig c.2.kind sp s e} {get : S → s.Idx → Val e} {set : S → (s.Idx → Val e) → S}
    (hs : ∀ st X, get (set st X) = X) : Sets c (fun st => (Idealize.ShloMosaic.owns c m fullShare (get st) : sProp (MT nD τ sig Ix Val Name U Lvl))) m get set := by
  intro st
  unfold Idealize.ShloMosaic.owns
  iintro ⟨%f, %hf, H⟩
  iexists f
  isplitr
  · ipureintro; exact hf
  isplitl [H]
  · iexact H
  iintro %g H
  iexists g
  isplitr
  · ipureintro; rw [hs]
  iexact H

/-- A memref owned at known contents. -/
theorem Gets.owns {sp : Space} {s : Shape} {e : EltTy} {m : Memref sig c.2.kind sp s e} {q : PosShare TreeShare} {get : S → s.Idx → Val e} :
    Gets c (fun st => (Idealize.ShloMosaic.owns c m q (get st) : sProp (MT nD τ sig Ix Val Name U Lvl))) m get := by
  intro st
  unfold Idealize.ShloMosaic.owns
  iintro ⟨%f, %hf, H⟩
  iexists q
  iexists f
  isplitr
  · ipureintro; exact hf
  isplitl [H]
  · iexact H
  iintro H
  iexists f
  isplitr
  · ipureintro; exact hf
  iexact H

section
variable {A B : S → sProp (MT nD τ sig Ix Val Name U Lvl)} {sp : Space} {s : Shape} {e : EltTy} {m : Memref sig c.2.kind sp s e}
  {get : S → s.Idx → Val e} {set : S → (s.Idx → Val e) → S}

/-- What one of two resources holds, both hold. -/
theorem Gets.left (h : Gets c A m get) : Gets c (fun st => iprop(A st ∗ B st)) m get := by
  intro st
  have h := h st
  iintro ⟨HA, HB⟩
  ihave H := h $$ HA
  icases H with ⟨%q, %f, %hf, H, K⟩
  iexists q
  iexists f
  isplitr
  · ipureintro; exact hf
  isplitl [H]
  · iexact H
  iintro H
  isplitl [H K]
  · iapply K; iexact H
  iexact HB

/-- A read of the right half of the room is a read of the room. -/
theorem Gets.right (h : Gets c B m get) : Gets c (fun st => iprop(A st ∗ B st)) m get := by
  intro st
  have h := h st
  iintro ⟨HA, HB⟩
  ihave H := h $$ HB
  icases H with ⟨%q, %f, %hf, H, K⟩
  iexists q
  iexists f
  isplitr
  · ipureintro; exact hf
  isplitl [H]
  · iexact H
  iintro H
  isplitl [HA]
  · iexact HA
  iapply K; iexact H

/-- A write into the left half of the room is a write into the room. -/
theorem Sets.left (h : Sets c A m get set) (hB : ∀ st X, B (set st X) = B st) : Sets c (fun st => iprop(A st ∗ B st)) m get set := by
  intro st
  have h := h st
  iintro ⟨HA, HB⟩
  ihave H := h $$ HA
  icases H with ⟨%f, %hf, H, K⟩
  iexists f
  isplitr
  · ipureintro; exact hf
  isplitl [H]
  · iexact H
  iintro %g H
  simp only [hB]
  isplitl [H K]
  · iapply K; iexact H
  iexact HB

/-- A write into the right half of the room is a write into the room. -/
theorem Sets.right (h : Sets c B m get set) (hA : ∀ st X, A (set st X) = A st) : Sets c (fun st => iprop(A st ∗ B st)) m get set := by
  intro st
  have h := h st
  iintro ⟨HA, HB⟩
  ihave H := h $$ HB
  icases H with ⟨%f, %hf, H, K⟩
  iexists f
  isplitr
  · ipureintro; exact hf
  isplitl [H]
  · iexact H
  iintro %g H
  simp only [hA]
  isplitl [HA]
  · iexact HA
  iapply K; iexact H
end

end Cert.ScanRun

end
-- ==== Proof.SelRun.lean ====
/- The selection's body run at real words: the search for the threshold, the count above it, and the placing of the chosen. -/
module

public import proofs.«01_k».proof.Proof.SelTrip
public import proofs.«01_k».proof.Proof.ScanRun

@[expose] public section

noncomputable section

namespace Cert.SelectIdeal.Pick

open Idealize.ShloMosaic Idealize.ShloMosaic.TcCoe Idealize.ShloMosaic.Tactic
open Idealize.SL Idealize.SL.RA
open Idealize.SL.BI (sProp)
open Idealize.SL.Sem
open Cert.SelectIdeal Cert.SelectIdeal.Gen Cert.ScanRun

/-- The resources of one core, at the pipeline's user algebra. -/
abbrev Res := MT nD τ sig Unit (Elt Ideal) ℕ (UR sig nD τ) ℕ

/-- Where the body's buffers are: the words may be read, the rest replaced. -/
structure Room (c : Dev nD) (R : Bufs → sProp Res) (x : Vec Ideal S16x65536 .i32) (arg0 arg1 : Memref sig .tc .vmem S16x65536 .i32)
    (arg2 : Memref sig .tc .vmem S16x640 .i32) (arg3 : Memref sig .tc .vmem S2x16x128 .f32) : Prop where
  h0 : Gets (c : Thread nD τ) R arg0 (fun _ => x)
  h1 : Sets (c : Thread nD τ) R arg1 (fun st => st.pos) (fun st X => { st with pos := X })
  h2 : Sets (c : Thread nD τ) R arg2 (fun st => st.offs) (fun st X => { st with offs := X })
  h3 : Sets (c : Thread nD τ) R arg3 (fun st => st.scr) (fun st X => { st with scr := X })

variable {c : Dev nD} {R : Bufs → sProp Res} {x : Vec Ideal S16x65536 .i32}

/-- What the body's program does with its buffers. -/
abbrev Runs (c : Dev nD) (R : Bufs → sProp Res) {α : Type} (P : Prog (TpuEff nD τ sig (Elt Ideal) Λ₀ .tc) α) (st : Bufs) (Q : α → Bufs → Prop) : Prop :=
  Does (defs₀ (F := Ideal)) Variants.none (c : Thread nD τ) none Set.univ R P st Q

variable {arg0 : Memref sig .tc .vmem S16x65536 .i32} {harg0 : arg0.IsWhole} {arg1 : Memref sig .tc .vmem S16x65536 .i32} {harg1 : arg1.IsWhole}
  {arg2 : Memref sig .tc .vmem S16x640 .i32} {harg2 : arg2.IsWhole} {arg3 : Memref sig .tc .vmem S2x16x128 .f32} {harg3 : arg3.IsWhole}

set_option maxHeartbeats 4000000 in
set_option maxRecDepth 16384 in
/-- A placing trip's first part: the positions of its block. -/
theorem part1_runs (H : Room c R x arg0 arg1 arg2 arg3) (v : IVec S16x1 32) (nd : FVec Ideal S16x1 .f32) (lanes : IVec S16x640 32) (k : Fin k0_t4_loop.trips) (st : Bufs) :
    Runs c R (k0_part1 (F := Ideal) arg0 harg0 arg1 harg1 arg2 harg2 arg3 harg3 v nd tri lanes 0#32 1#32 k) st (fun a st' =>
      ∃ (W : IVec S16x128 32) (c0 c1 : FVec Ideal S16x1 .f32),
        W = VecWindow.window (s := S16x65536) x (k0_off3 k) S16x128.size (k0_off3_inb k)
        ∧ c0 = lane0 (VecWindow.window (s := S2x16x128) st.scr ![0, 0, 0] S1x16x128.size inb_S2x16x128_S1x16x128_0_0_0)
        ∧ c1 = lane0 (VecWindow.window (s := S2x16x128) st.scr ![1, 0, 0] S1x16x128.size inb_S2x16x128_S1x16x128_1_0_0)
        ∧ a = ⟨c0, c1, running (marks (same W v)), running (marks (picked W v nd c0)), cmpi .eq lanes (broadcast S16x640 (Scf.iv 0#32 1#32 k)), fptosi 32 c1⟩
        ∧ st' = { st with pos := VecWindow.put (s := S16x65536) st.pos (k0_off3 k) S16x128.size (posn (picked W v nd c0) c1) }) := by
  unfold k0_part1
  refine Does.load (H.h3.gets (fun _ => rfl)) ?_; rintro _ rfl
  refine Does.load (H.h3.gets (fun _ => rfl)) ?_; rintro _ rfl
  refine Does.load H.h0 ?_; rintro _ rfl
  refine Does.load (H.h1.gets (fun _ => rfl)) ?_; rintro _ rfl
  refine Does.store H.h1 ?_
  refine Does.pure ?_
  exact ⟨_, _, _, rfl, rfl, rfl, rfl, rfl⟩

set_option maxHeartbeats 8000000 in
set_option maxRecDepth 16384 in
/-- The body to its last block. -/
theorem part2_runs (H : Room c R x arg0 arg1 arg2 arg3) (hx : Below x) (st : Bufs) :
    Runs c R (k0_part2 (F := Ideal) arg0 harg0 arg1 harg1 arg2 harg2 arg3 harg3) st (fun a st' =>
      a = isLane 512#32 ∧ ∃ v : IVec S16x1 32, Searched x 31 v ∧ Trip x (fun r => (v (ix2 r 0)).toNat) (left x v) 512 st') := by
  unfold k0_part2
  refine Does.bind (Does.forKeep (fun k a => Searched x k a) (searched_zero hx) (fun k a hS => ?_)) ?_
  · have hk : k.val < 31 := lt_of_lt_of_eq k.isLt (by decide)
    have hv := tried_lt hk hS _ (bit1 k)
    refine Does.bind (Does.forKeep (fun t acc => Tallied x (ori a (broadcast S16x1 (Scalar.shli 1#32 (Scalar.subi 30#32 (Scf.iv 0#32 1#32 k))))) t acc) (tallied_zero _) (fun t acc hT => ?_)) ?_
    · have ht : t.val < 32 := lt_of_lt_of_eq t.isLt (by decide)
      refine Does.load H.h0 ?_; rintro _ rfl
      refine Does.pure ⟨rfl, ?_⟩
      exact tallied_step hx hv ht hT (k0_off1 t) (off1_eq t) (k0_off1_inb t)
    · rintro acc st' ⟨rfl, hT⟩
      refine Does.pure ⟨rfl, ?_⟩
      exact searched_step hk hS _ (bit1 k) hT
  rintro v st' ⟨rfl, hS⟩
  have hS : Searched x 31 v := hS
  have hv : ∀ r, (addi v (broadcast S16x1 1#32) (ix2 r 0)).toNat < 2 ^ 31 := fun r => by
    have := thr_lt hx hS r
    rw [thr_succ hx hS r]; omega
  refine Does.bind (Does.forKeep (fun t acc => Tallied x (addi v (broadcast S16x1 1#32)) t acc) (tallied_zero _) (fun t acc hT => ?_)) ?_
  · have ht : t.val < 32 := lt_of_lt_of_eq t.isLt (by decide)
    refine Does.load H.h0 ?_; rintro _ rfl
    refine Does.pure ⟨rfl, ?_⟩
    exact tallied_step hx hv ht hT (k0_off2 t) (off2_eq t) (k0_off2_inb t)
  rintro acc st' ⟨rfl, hT⟩
  have hT : Tallied x (addi v (broadcast S16x1 1#32)) 32 acc := hT
  have hN := need_eq hx hS hT
  refine Does.load (H.h3.gets (fun _ => rfl)) ?_; rintro _ rfl
  refine Does.store H.h3 ?_
  refine Does.load (H.h2.gets (fun _ => rfl)) ?_; rintro _ rfl
  refine Does.store H.h2 ?_
  refine Does.bind (Does.for (fun n _ st => Trip x (fun r => (v (ix2 r 0)).toNat) (left x v) n st) (trip_zero _ _ _ ?_ ?_) (fun k _ st hM => ?_)) ?_
  · intro y
    dsimp only
    rw [put_all]
    exact Ideal.ofBits_zero_f32
  · intro y
    dsimp only
    rw [put_offs]
    rfl
  · have hk : k.val < 512 := lt_of_lt_of_eq k.isLt (by decide)
    refine Does.bind (part1_runs H v (need acc) _ k st) ?_
    rintro _ st' ⟨W, c0, c1, hW, hc0, hc1, rfl, rfl⟩
    refine Does.load (H.h2.gets (fun _ => rfl)) ?_; rintro _ rfl
    refine Does.load (H.h2.gets (fun _ => rfl)) ?_; rintro _ rfl
    refine Does.store H.h2 ?_
    refine Does.load (H.h3.gets (fun _ => rfl)) ?_; rintro _ rfl
    refine Does.store H.h3 ?_
    refine Does.load (H.h3.gets (fun _ => rfl)) ?_; rintro _ rfl
    refine Does.store H.h3 ?_
    refine Does.pure ?_
    exact trip_step hx hk hM (fun _ => rfl) hN (fun r => lt_trans (thr_lt hx hS r) (by norm_num)) (k0_off3 k) (off3_eq k) (k0_off3_inb k) _ _ inb_S16x640_S16x640_0_0 _ (iv4 k) hW hc0 hc1
  · rintro _ st' hM
    refine Does.pure ⟨rfl, v, hS, hM⟩

set_option maxHeartbeats 8000000 in
set_option maxRecDepth 16384 in
/-- The whole body: the positions of the chosen and the counts before each chunk. -/
theorem cc0_select_runs (H : Room c R x arg0 arg1 arg2 arg3) (hx : Below x) (st : Bufs) :
    Runs c R (cc0_select (F := Ideal) arg0 harg0 arg1 harg1 arg2 harg2 arg3 harg3) st (fun _ st' =>
      (∀ r (i : Fin 65536), st'.pos (ix2 r i) = posOf x r i.val) ∧ ∀ r (l : Fin 640), st'.offs (ix2 r l) = offOf x r l.val) := by
  unfold cc0_select
  refine Does.bind (part2_runs H hx st) ?_
  rintro _ st ⟨rfl, v, hS, hM⟩
  refine Does.load (H.h3.gets (fun _ => rfl)) ?_; rintro _ rfl
  refine Does.load (H.h2.gets (fun _ => rfl)) ?_; rintro _ rfl
  refine Does.load (H.h2.gets (fun _ => rfl)) ?_; rintro _ rfl
  refine Does.store H.h2 ?_
  refine Does.pure ⟨fun r i => trip_pos hS hM r i, fun r l => ?_⟩
  exact trip_offs hS hM inb_S2x16x128_S1x16x128_1_0_0 inb_S16x640_S16x640_0_0 r l

end Cert.SelectIdeal.Pick

end
-- ==== Proof.SelValue.lean ====
/- The selection's pipeline at known contents: the body, run at the words, leaves the positions and the chunk counts in the
   output blocks, so the run ends with them in the output arrays. -/
module

public import proofs.«01_k».proof.Proof.SelIdealFrame
public import proofs.«01_k».proof.Proof.SelRun
public import proofs.«01_k».proof.Pre_words_in_range
public import Idealize.ShloMosaic.Lib.Pipeline.ValueKit

@[expose] public section

set_option maxRecDepth 16384

noncomputable section

namespace Cert.SelectIdeal.PickValue

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg Window BodyObligation cellOf)
open Cert.SelectIdeal Cert.SelectIdeal.Gen Cert.SelectIdeal.Pick Cert.ScanRun

variable (m : (ℓ : Loc nD τ sig) → Buf (Elt Ideal) ℓ) (ρ : Dev nD → PrngReg)

/-- The words the program is given on core `c`. -/
def words (c : Dev nD) : Vec Ideal S16x65536 .i32 := m ((c.tc : Thread nD τ).loc main_arg0)

/-- Each window holds its whole array. -/
theorem idx : ∀ t : Fin cfg0.N, win0_0.index t = ![0, 0] ∧ win0_1.index t = ![0, 0] ∧ win0_2.index t = ![0, 0] :=
  (by decide +kernel : ∀ t : Fin grid0.N, _)

/-- The words' staged block is all of them. -/
theorem block0 (c : Dev nD) (t : Fin cfg0.N) : iblk m c 0 t = words m c := by
  funext y
  blk_ext [iblk, V, words, idx t]

/-- The positions of the chosen, as an array. -/
def posArr (c : Dev nD) : Vec Ideal S16x65536 .i32 := fun y => posOf (words m c) (y 0) (y 1).val

/-- The counts before each chunk, as an array. -/
def offArr (c : Dev nD) : Vec Ideal S16x640 .i32 := fun y => offOf (words m c) (y 0) (y 1).val

/-! ## The proof data -/

/-- The proof data of the pipeline on core `c`: the input's buffer at its block after the point, the outputs' at the
    positions and at the chunk counts. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => posArr m c
    | ⟨2, _⟩ => offArr m c
    | ⟨_ + 3, h⟩ => absurd h (Nat.not_lt.2 (Nat.le_add_left _ _))
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- The input's buffer holds its block after the body, -/
theorem after0 (c : Dev nD) (t : Fin cfg0.N) : (dats m 0 c).after 0 t = iblk m c 0 t := by dsimp only [dats]

/-- and before it. -/
theorem before0 (c : Dev nD) (t : Fin cfg0.N) (d) : (dats m 0 c).before 0 t d = iblk m c 0 t :=
  before0_0_of m (dats m 0 c) (A_eq m c 0) (after0 m c) t d

/-- The first output's buffer holds the positions after the body. -/
theorem after1 (c : Dev nD) (t : Fin cfg0.N) : (dats m 0 c).after 1 t = posArr m c := by dsimp only [dats]

/-- The second output's buffer holds the chunk counts after the body. -/
theorem after2 (c : Dev nD) (t : Fin cfg0.N) : (dats m 0 c).after 2 t = offArr m c := by dsimp only [dats]

/-! ## The body at a point -/

/-- What the body works in, its scratch and its output blocks at the state's contents. -/
def roomAt (c : Dev nD) (t : Fin cfg0.N) : Bufs → sProp Res := fun st =>
  iprop((owns (c : Thread nD τ) (Memref.whole cc0_scratch0) fullShare st.scr ∗ (∃ r, prngReg c r)) ∗ (dats m 0 c).owesAt () t.castSucc
    ∗ owns (c : Thread nD τ) (win0_0.stage (cfg0.slots t 0)) fullShare (iblk m c 0 t)
    ∗ owns (c : Thread nD τ) (win0_1.stage (cfg0.slots t 1)) fullShare st.pos
    ∗ owns (c : Thread nD τ) (win0_2.stage (cfg0.slots t 2)) fullShare st.offs)

/-- The body's loads and stores read and write the blocks and the scratch. -/
theorem room_ok (c : Dev nD) (t : Fin cfg0.N) :
    Room c (roomAt m c t) (iblk m c 0 t) (win0_0.stage (cfg0.slots t 0)) (win0_1.stage (cfg0.slots t 1)) (win0_2.stage (cfg0.slots t 2))
      (Memref.whole cc0_scratch0) := by
  unfold roomAt
  exact {
    h0 := .right (.right (.left .owns))
    h1 := .right (.right (.right (.left (.owns fun _ _ => rfl) fun _ _ => rfl) fun _ _ => rfl) fun _ _ => rfl) fun _ _ => rfl
    h2 := .right (.right (.right (.right (.owns fun _ _ => rfl) fun _ _ => rfl) fun _ _ => rfl) fun _ _ => rfl) fun _ _ => rfl
    h3 := .left (.left (.owns fun _ _ => rfl) fun _ _ => rfl) fun _ _ => rfl }

/-- The body at a point leaves the positions and the chunk counts in the output blocks. -/
theorem body_runs (c : Dev nD) (hx : Below (words m c)) (t : Fin cfg0.N) (st : Bufs) :
    Runs c (roomAt m c t) (bodyAt0 t) st (fun _ st' => st'.pos = posArr m c ∧ st'.offs = offArr m c) := by
  have hw : Below (iblk m c 0 t) := by rw [block0]; exact hx
  refine Does.mono (cc0_select_runs (room_ok m c t) hw st) fun _ st' h => ?_
  rw [block0] at h
  refine ⟨funext fun y => ?_, funext fun y => ?_⟩
  · have hy : y = ix2 (y 0 : Fin 16) (y 1 : Fin 65536) := funext fun a => by
      match a with
      | ⟨0, _⟩ => rfl
      | ⟨1, _⟩ => rfl
    exact (congrArg st'.pos hy).trans (h.1 (y 0) (y 1))
  · have hy : y = ix2 (y 0 : Fin 16) (y 1 : Fin 640) := funext fun a => by
      match a with
      | ⟨0, _⟩ => rfl
      | ⟨1, _⟩ => rfl
    exact (congrArg st'.offs hy).trans (h.2 (y 0) (y 1))

/-- The pipeline's demand on the body: handed the words at their block and the outputs' buffers at anything, it gives the
    words back so and the outputs' buffers at the positions and the chunk counts. -/
theorem body_obligation (hx : ∀ c, Below (words m c)) (c : Dev nD) :
    BodyObligation (dats m 0 c) (defs₀ (F := Ideal)) Variants.none () Set.univ := fun t => by
  rw [bigSep_W0, bigSep_W0, Foot.row_eq]
  have hb : iprop(∃ st, roomAt m c t st) ⊢ wp Idealize.ShloMosaic.frame (wpE (defs₀ (F := Ideal)) Variants.none (c : Thread nD τ) none) Set.univ (bodyAt0 (F := Ideal) t) (fun _ => iprop(∃ st, ⌜st.pos = posArr m c ∧ st.offs = offArr m c⌝ ∗ roomAt m c t st)) := by
    iintro ⟨%st, H⟩
    have hw := body_runs m c (hx c) t st
    unfold Runs Does at hw
    iapply hw
    iexact H
  refine triple_restated (P := iprop(∃ st, roomAt m c t st)) (Q := fun _ => iprop(∃ st, ⌜st.pos = posArr m c ∧ st.offs = offArr m c⌝ ∗ roomAt m c t st)) hb rfl ?_ fun _ => ?_
  · show iprop(Pipeline.ΦA spec0 c ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))) ⊢ iprop(∃ st, roomAt m c t st)
    simp only [before0]
    rw [Foot.PhiA_eq]; unfold roomAt
    iintro ⟨⟨⟨%s0, S0⟩, Hr⟩, Ho, ⟨%d0, H0⟩, ⟨%d1, H1⟩, ⟨%d2, H2⟩⟩
    iexists (⟨(dats m 0 c).before 1 t d1, (dats m 0 c).before 2 t d2, s0⟩ : Bufs)
    isplitl [S0 Hr]
    · isplitl [S0]; · iexact S0
      iexact Hr
    isplitl [Ho]; · iexact Ho
    isplitl [H0]; · iexact H0
    isplitl [H1]; · iexact H1
    iexact H2
  · show iprop(∃ st, ⌜st.pos = posArr m c ∧ st.offs = offArr m c⌝ ∗ roomAt m c t st) ⊢ iprop(Pipeline.ΦA spec0 c ∗ (dats m 0 c).owesAt () t.castSucc
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t))
    rw [after0, after1, after2, Foot.PhiA_eq]; unfold roomAt
    iintro ⟨%st, %ho, ⟨S0, Hr⟩, Ho, H0, H1, H2⟩
    rw [← ho.1, ← ho.2]
    isplitl [S0 Hr]
    · isplitl [S0]; · iexists st.scr; iexact S0
      iexact Hr
    isplitl [Ho]; · iexact Ho
    isplitl [H0]; · iexact H0
    isplitl [H1]; · iexact H1
    iexact H2

/-! ## The run -/

set_option backward.isDefEq.respectTransparency.types false in
/-- The program runs to the end, every windowed array as the proof data say and every other array as the region found it. -/
theorem run_data (hx : ∀ c, Below (words m c)) : θ_run defs (onTc (τ := τ) (main (F := Ideal))) (s₀ m ρ)
    (fun r => Pipeline.FramePost cfgs (dats m) 0 (V m) r) :=
  Pipeline.θ_run_frame_shared cfgs (dats m) (0 : Fin 1) (Pipeline.LaunchFacts.to₀ launch0) defs₀ Variants.none m ρ main
    (hbody := fun c => (body_obligation m hx c).loose) (hq := fun _ _ _ => rfl)
    (howed := fun _ _ => rfl) (V := V m) (hmain := hmain m Variants.none) (hA := A_eq m) (hΦ := fun _ _ => rfl)

/-- The first output array after the run is the positions. -/
theorem final1 (c : Dev nD) : (dats m 0 c).arrAt 1 (cfgs 0).N = posArr m c := by
  refine (dats m 0 c).arrAt_eq_of_covers 1 _ (by decide +kernel) fun t hf y => ?_
  blk_simp; rw [after1]
  generalize posArr m c = X
  blk_ext [idx t]

/-- The second output array after the run is the chunk counts. -/
theorem final2 (c : Dev nD) : (dats m 0 c).arrAt 2 (cfgs 0).N = offArr m c := by
  refine (dats m 0 c).arrAt_eq_of_covers 2 _ (by decide +kernel) fun t hf y => ?_
  blk_simp; rw [after2]
  generalize offArr m c = X
  blk_ext [idx t]

/-- The program ends with the positions and the chunk counts in its output arrays and its argument array unchanged. -/
theorem run (hx : ∀ c, Below (words m c)) : θ_run defs (onTc (τ := τ) (main (F := Ideal))) ⟨m, fun _ => 0, ρ⟩ (fun r => ∀ c : Dev nD,
      r.2.mem ((c.tc : Thread nD τ).loc main_v0_0) = posArr m c
      ∧ r.2.mem ((c.tc : Thread nD τ).loc main_v0_1) = offArr m c
      ∧ r.2.mem ((c.tc : Thread nD τ).loc main_arg0) = m ((c.tc : Thread nD τ).loc main_arg0)) :=
  (θ_run defs _ _).mono (fun r h c =>
    ⟨((h c).1 1).trans (final1 m c), ((h c).1 2).trans (final2 m c),
      ((h c).1 0).trans (((dats m 0 c).arrAt_in 0 rfl _).trans ((A_eq m c 0).trans (V_main_arg0 m c)))⟩)
    (run_data m ρ hx)

end Cert.SelectIdeal.PickValue

namespace Cert.Pre_words_in_range

open Idealize.ShloMosaic Cert.SelectIdeal.Pick

/-- The shape relation of the precondition's operations. -/
instance facts : Facts where
  bcast_S_S16x65536 := by decide

/-- A word found neither negative nor the largest is below the largest. -/
theorem below_of (v : BitVec 32) (h : IntOp.andi (IntOp.cmpi .sge v 0#32) (IntOp.cmpi .slt v 2147483647#32) = 1#1) : v.toNat < 2147483647 := by
  obtain ⟨h0, h1⟩ := (and_one _ _).1 h
  have hv : v.toNat < 2 ^ 31 := by
    have h0' : 0 ≤ v.toInt := by
      by_contra hn
      simp [IntOp.cmpi, BitVec.sle, hn] at h0
    have e := BitVec.toInt_eq_toNat_cond v
    have hlt := v.isLt
    split at e <;> omega
  exact (Cert.SelMath.slt_iff v 2147483647#32 hv (by decide)).1 h1

/-- The precondition, read: every word is below the largest signed word. -/
theorem real (x0 : IVec S16x65536 32) (h : fn (F := Ideal) x0 = fun _ => 1#1) : Below x0 := fun i => below_of _ (congrFun h i)

end Cert.Pre_words_in_range

end
-- ==== Proof.SelRef.lean ====
/- The selection's reference, read: its positions and chunk counts are the numbers the body leaves. -/
module

public import proofs.«01_k».proof.Proof.SelTrip
public import proofs.«01_k».proof.Proof.Gen.SelectRefIdeal.Read

@[expose] public section

set_option maxRecDepth 16384

noncomputable section

namespace Cert.SelectRefIdeal.Count

open Idealize.ShloMosaic Idealize.ShloMosaic.TcCoe
open Cert.SelectRefIdeal Cert.SelectRefIdeal.Gen Cert.SelectRefIdeal.Read
open Cert.SelMath Cert.SelectIdeal.Pick

variable (x : Vec Ideal S16x65536 .i32)

/-- A small number as a word. -/
theorem toNat_small {n : ℕ} (h : n < 2 ^ 31) : (BitVec.ofNat 32 n).toNat = n := by
  rw [BitVec.toNat_ofNat]; omega

/-- The order of places, as a bit. -/
theorem lt_words (k i : Fin 65536) : IntOp.cmpi .slt (BitVec.ofNat 32 k.val) (BitVec.ofNat 32 i.val) = 1#1 ↔ k.val < i.val := by
  have hk := toNat_small (lt_trans k.isLt (by norm_num))
  have hi := toNat_small (lt_trans i.isLt (by norm_num))
  refine (slt_iff _ _ ?_ ?_).trans ?_
  · rw [hk]; exact lt_trans k.isLt (by norm_num)
  · rw [hi]; exact lt_trans i.isLt (by norm_num)
  · rw [hk, hi]

/-- A bit widened is one or zero. -/
theorem widen_of {v : BitVec 1} {p : Prop} [Decidable p] (h : v = 1#1 ↔ p) : v.setWidth 32 = BitVec.ofNat 32 (if p then 1 else 0) := by
  rw [bit_of h]
  split <;> rfl

/-- Adding up widened bits along the last axis counts. -/
theorem sum_count (p : ℕ → Prop) [DecidablePred p] (f : Fin 65536 → BitVec 32) (hf : ∀ k, f k = BitVec.ofNat 32 (if p k.val then 1 else 0)) :
    (Finset.univ : Finset (Fin 65536)).fold IntOp.addi (0#32) f = BitVec.ofNat 32 (Nat.count p 65536) := by
  rw [funext hf, fold_ofNat, ← Finset.card_filter, card_fin]

/-- Of two places of a row, whether the second goes before the first. -/
theorem before_at (hx : Below x) (r : Fin 16) (i k : Fin 65536) : val_main_v17 (F := Ideal) x (ix3 r i k) = 1#1 ↔ Before (wd x r) i.val k.val := by
  have mine : val_main_v10 (F := Ideal) x (ix3 r i k) = x (ix2 r i) := by
    rw [val_main_v10_apply, val_main_v1_apply]
    exact congrArg x (funext fun a => by match a with | ⟨0, _⟩ => rfl | ⟨1, _⟩ => rfl)
  have other : val_main_v9 (F := Ideal) x (ix3 r i k) = x (ix2 r k) := by
    rw [val_main_v9_apply, val_main_v2_apply]
    exact congrArg x (funext fun a => by match a with | ⟨0, _⟩ => rfl | ⟨1, _⟩ => rfl)
  have mine' : val_main_v13 (F := Ideal) x (ix3 r i k) = x (ix2 r i) := by
    rw [val_main_v13_apply, val_main_v1_apply]
    exact congrArg x (funext fun a => by match a with | ⟨0, _⟩ => rfl | ⟨1, _⟩ => rfl)
  have other' : val_main_v12 (F := Ideal) x (ix3 r i k) = x (ix2 r k) := by
    rw [val_main_v12_apply, val_main_v2_apply]
    exact congrArg x (funext fun a => by match a with | ⟨0, _⟩ => rfl | ⟨1, _⟩ => rfl)
  have hb : ∀ j, (x (ix2 r j)).toNat < 2 ^ 31 := fun j => lt_trans (hx _) (by norm_num)
  have earlier : val_main_v15 (F := Ideal) (ix3 r i k) = 1#1 ↔ k.val < i.val := by
    rw [val_main_v15_apply, val_main_v8_apply, val_main_v7_apply, val_main_v5_apply, val_main_v3_apply, val_main_v6_apply, val_main_v4_apply]
    exact lt_words k i
  rw [val_main_v17_apply, val_main_v11_apply, val_main_v16_apply, val_main_v14_apply, mine, other, mine', other', or_one, and_one, earlier,
    sgt_iff _ _ (hb k) (hb i), eq_iff]
  unfold Before
  rw [wd_at x r i.isLt, wd_at x r k.isLt]

/-- A place's rank: how many places of its row go before it. -/
theorem rank_at (hx : Below x) (r : Fin 16) (i : Fin 65536) : val_main_v19 (F := Ideal) x (ix2 r i) = BitVec.ofNat 32 (Nat.count (Before (wd x r) i.val) 65536) := by
  unfold val_main_v19
  rw [Host.reduce_eq_fold]
  refine (Shape.ReducesTo.fold_fiber_r3_a2 _ _ _ _ _).trans ?_
  exact sum_count (Before (wd x r) i.val) _ fun k => (val_main_v18_apply x _).trans (widen_of (before_at x hx r i k))

/-- Whether a place is chosen. -/
theorem chosen_at (hx : Below x) (r : Fin 16) (i : Fin 65536) : val_main_v21 (F := Ideal) x (ix2 r i) = 1#1 ↔ Chosen x r i.val := by
  rw [val_main_v21_apply, rank_at x hx, val_main_v20_apply]
  refine (slt_iff _ (8192#32) ?_ (by decide)).trans ?_
  · rw [count_small]; exact lt_of_le_of_lt (Nat.count_le _) (by norm_num)
  · rw [count_small]; rfl

/-- How many chosen places come before a place. -/
theorem slot_at (hx : Below x) (r : Fin 16) (i : Fin 65536) : val_main_v27 (F := Ideal) x (ix2 r i) = BitVec.ofNat 32 (Nat.count (Chosen x r) i.val) := by
  unfold val_main_v27
  rw [Host.reduce_eq_fold]
  refine (Shape.ReducesTo.fold_fiber_r3_a2 _ _ _ _ _).trans ?_
  have hk : ∀ k : Fin 65536, val_main_v26 (F := Ideal) x (ix3 r i k) = BitVec.ofNat 32 (if (fun j => Chosen x r j ∧ j < i.val) k.val then 1 else 0) := fun k => by
    refine (val_main_v26_apply x _).trans (widen_of ?_)
    have hc : val_main_v23 (F := Ideal) x (ix3 r i k) = val_main_v21 (F := Ideal) x (ix2 r k) := by
      rw [val_main_v23_apply, val_main_v22_apply]
      exact congrArg (val_main_v21 (F := Ideal) x) (funext fun a => by match a with | ⟨0, _⟩ => rfl | ⟨1, _⟩ => rfl)
    have hs : val_main_v24 (F := Ideal) (ix3 r i k) = 1#1 ↔ k.val < i.val := by
      rw [val_main_v24_apply, val_main_v8_apply, val_main_v7_apply, val_main_v5_apply, val_main_v3_apply, val_main_v6_apply, val_main_v4_apply]
      exact lt_words k i
    show val_main_v25 (F := Ideal) x (ix3 r i k) = 1#1 ↔ _
    rw [val_main_v25_apply, hc, and_one, hs, chosen_at x hx]
  exact (sum_count (fun j => Chosen x r j ∧ j < i.val) _ hk).trans (by rw [count_and_lt (le_of_lt i.isLt)])

/-- The reference's positions. -/
theorem pos_at (hx : Below x) (r : Fin 16) (i : Fin 65536) : val_main_v28 (F := Ideal) x (ix2 r i) = posOf x r i.val := by
  rw [val_main_v28_apply, select_of (chosen_at x hx r i), slot_at x hx]
  rfl

/-- How many chosen places come before a chunk. -/
theorem start_at (hx : Below x) (r : Fin 16) (l : Fin 640) (hl : l.val ≤ 512) : val_main_v43 (F := Ideal) x (ix2 r l) = BitVec.ofNat 32 (Nat.count (Chosen x r) (128 * l.val)) := by
  unfold val_main_v43
  rw [Host.reduce_eq_fold]
  refine (Shape.ReducesTo.fold_fiber_r3_a2 _ _ _ _ _).trans ?_
  have hk : ∀ k : Fin 65536, val_main_v42 (F := Ideal) x (ix3 r l k) = BitVec.ofNat 32 (if (fun j => Chosen x r j ∧ j < 128 * l.val) k.val then 1 else 0) := fun k => by
    refine (val_main_v42_apply x _).trans (widen_of ?_)
    have hc : val_main_v39 (F := Ideal) x (ix3 r l k) = val_main_v21 (F := Ideal) x (ix2 r k) := by
      rw [val_main_v39_apply, val_main_v30_apply]
      exact congrArg (val_main_v21 (F := Ideal) x) (funext fun a => by match a with | ⟨0, _⟩ => rfl | ⟨1, _⟩ => rfl)
    have hs : val_main_v40 (F := Ideal) (ix3 r l k) = 1#1 ↔ k.val < 128 * l.val := by
      have h128 : (128#32 * BitVec.ofNat 32 l.val).toNat = 128 * l.val := by
        rw [BitVec.toNat_mul, toNat_small (lt_trans l.isLt (by norm_num))]
        show 128 * l.val % 2 ^ 32 = _
        omega
      rw [val_main_v40_apply, val_main_v38_apply, val_main_v37_apply, val_main_v35_apply, val_main_v31_apply, val_main_v36_apply, val_main_v34_apply, val_main_v33_apply, val_main_v32_apply]
      refine (slt_iff (BitVec.ofNat 32 k.val) (128#32 * BitVec.ofNat 32 l.val) ?_ ?_).trans ?_
      · rw [toNat_small (lt_trans k.isLt (by norm_num))]; exact lt_trans k.isLt (by norm_num)
      · rw [h128]; omega
      · rw [h128, toNat_small (lt_trans k.isLt (by norm_num))]
    show val_main_v41 (F := Ideal) x (ix3 r l k) = 1#1 ↔ _
    rw [val_main_v41_apply, hc, and_one, hs, chosen_at x hx]
  exact (sum_count (fun j => Chosen x r j ∧ j < 128 * l.val) _ hk).trans (by rw [count_and_lt (by omega)])

/-- The reference's chunk counts. -/
theorem off_at (hx : Below x) (r : Fin 16) (l : Fin 640) : val_main_v47 (F := Ideal) x (ix2 r l) = offOf x r l.val := by
  have hs : val_main_call1_v1 (F := Ideal) (ix2 r l) = 1#1 ↔ l.val ≤ 512 := by
    rw [val_main_call1_v1_apply, val_main_v46_apply, val_main_v44_apply, val_main_v45_apply]
    refine (sle_iff (BitVec.ofNat 32 l.val) (512#32) ?_ (by decide)).trans ?_
    · rw [toNat_small (lt_trans l.isLt (by norm_num))]; exact lt_trans l.isLt (by norm_num)
    · rw [toNat_small (lt_trans l.isLt (by norm_num))]; rfl
  rw [val_main_v47_apply, select_of hs]
  unfold offOf
  by_cases hl : l.val ≤ 512
  · rw [if_pos hl, if_pos hl, start_at x hx r l hl]
  · rw [if_neg hl, if_neg hl]
    rfl

/-- The reference's positions, as an array. -/
theorem pos_all (hx : Below x) : val_main_v28 (F := Ideal) x = fun y => posOf x (y 0) (y 1).val := funext fun y => by
  have hy : y = ix2 (y 0 : Fin 16) (y 1 : Fin 65536) := funext fun a => by
    match a with
    | ⟨0, _⟩ => rfl
    | ⟨1, _⟩ => rfl
  exact (congrArg (val_main_v28 (F := Ideal) x) hy).trans (pos_at x hx (y 0) (y 1))

/-- The reference's chunk counts, as an array. -/
theorem off_all (hx : Below x) : val_main_v47 (F := Ideal) x = fun y => offOf x (y 0) (y 1).val := funext fun y => by
  have hy : y = ix2 (y 0 : Fin 16) (y 1 : Fin 640) := funext fun a => by
    match a with
    | ⟨0, _⟩ => rfl
    | ⟨1, _⟩ => rfl
  exact (congrArg (val_main_v47 (F := Ideal) x) hy).trans (off_at x hx (y 0) (y 1))

end Cert.SelectRefIdeal.Count

end
-- ==== Proof.ScanTrips.lean ====
/- The recurrence's body run at real contents: the gates' loop, then one of the two recurrences, then the norm. Each trip is
   followed (ScanExact.lean, ScanBody.lean) through its loads and stores to its end, where what the buffers hold is the next
   trip's beginning. Here: where the buffers are, and what a chunk of them holds. -/
module

public import proofs.«01_k».proof.Proof.ScanPlace
public import proofs.«01_k».proof.Proof.ScanRun
public import proofs.«01_k».proof.Proof.Gen.HgrnIdeal.Frame

@[expose] public section

noncomputable section

namespace Cert.HgrnIdeal.Scan

open Idealize.ShloMosaic Idealize.ShloMosaic.TcCoe Idealize.ShloMosaic.Tactic
open Idealize.SL Idealize.SL.RA
open Idealize.SL.BI (sProp)
open Idealize.SL.Sem
open Cert.HgrnIdeal Cert.HgrnIdeal.Gen Cert.ScanRun Cert.ScanSeq

/-- The resources of one core, at the pipeline's user algebra. -/
abbrev Res := MT nD τ sig Unit (Elt Ideal) ℕ (UR sig nD τ) ℕ

/-- What the body finds in its input blocks. -/
structure Ins where
  x2 : Vec Ideal S1x2048x128 .bf16
  x3 : Vec Ideal S1x2048x128 .bf16
  x4 : Vec Ideal S1x2048x128 .bf16
  x5 : Vec Ideal S1x2048x128 .bf16
  x6 : Vec Ideal S1x2048x128 .bf16
  x7 : Vec Ideal S2x128 .f32
  x8 : Vec Ideal S1x128 .f32

/-- The inputs hold a grid point's real contents. -/
structure Ins.On (x : Ins) (p : Pt) : Prop where
  q : Holds x.x2 p.q
  v : Holds x.x3 p.v
  zf : Holds x.x4 p.zf
  zb : Holds x.x5 p.zb
  lf : ∀ d, x.x7 (ix2 0 d) = ((p.lf d : ℝ) : EReal)
  lb : ∀ d, x.x7 (ix2 1 d) = ((p.lb d : ℝ) : EReal)

/-- Where the body's buffers are: the inputs may be read, the rest replaced. -/
structure Room (c : Dev nD) (R : Bufs → sProp Res) (x : Ins) (arg2 arg3 arg4 arg5 arg6 : Memref sig .tc .vmem S1x2048x128 .bf16)
    (arg7 : Memref sig .tc .vmem S2x128 .f32) (arg8 : Memref sig .tc .vmem S1x128 .f32) (arg9 : Memref sig .tc .vmem S1x2048x128 .bf16)
    (arg10 arg11 arg12 : Memref sig .tc .vmem S2048x128 .f32) (arg13 arg14 arg15 : Memref sig .tc .vmem S128x128 .f32) : Prop where
  h2 : Gets (c : Thread nD τ) R arg2 (fun _ => x.x2)
  h3 : Gets (c : Thread nD τ) R arg3 (fun _ => x.x3)
  h4 : Gets (c : Thread nD τ) R arg4 (fun _ => x.x4)
  h5 : Gets (c : Thread nD τ) R arg5 (fun _ => x.x5)
  h6 : Gets (c : Thread nD τ) R arg6 (fun _ => x.x6)
  h7 : Gets (c : Thread nD τ) R arg7 (fun _ => x.x7)
  h8 : Gets (c : Thread nD τ) R arg8 (fun _ => x.x8)
  h9 : Sets (c : Thread nD τ) R arg9 (fun st => st.o) (fun st X => { st with o := X })
  h10 : Sets (c : Thread nD τ) R arg10 (fun st => st.gf) (fun st X => { st with gf := X })
  h11 : Sets (c : Thread nD τ) R arg11 (fun st => st.gb) (fun st X => { st with gb := X })
  h12 : Sets (c : Thread nD τ) R arg12 (fun st => st.acc) (fun st X => { st with acc := X })
  h13 : Sets (c : Thread nD τ) R arg13 (fun st => st.gs) (fun st X => { st with gs := X })
  h14 : Sets (c : Thread nD τ) R arg14 (fun st => st.ks) (fun st X => { st with ks := X })
  h15 : Sets (c : Thread nD τ) R arg15 (fun st => st.vs) (fun st X => { st with vs := X })

variable {c : Dev nD} {R : Bufs → sProp Res} {x : Ins} {p : Pt}

/-- What the body's program does with its buffers. -/
abbrev Runs (c : Dev nD) (R : Bufs → sProp Res) {α : Type} (P : Prog (TpuEff nD τ sig (Elt Ideal) Λ₀ .tc) α) (st : Bufs) (Q : α → Bufs → Prop) : Prop :=
  Does (defs₀ (F := Ideal)) Variants.none (c : Thread nD τ) none Set.univ R P st Q

/-- The number of a trip. -/
def tr1 (k : Fin k0_t1_loop.trips) : Fin 16 := ⟨k.val, lt_of_lt_of_eq k.isLt (by decide)⟩

/-- The chunk of the second loop's trip. -/
def tr2 (k : Fin k0_t2_loop.trips) : Fin 16 := ⟨k.val, lt_of_lt_of_eq k.isLt (by decide)⟩

/-- The row of the third loop's trip. -/
def tr3 (k : Fin k0_t3_loop.trips) : Fin 128 := ⟨k.val, lt_of_lt_of_eq k.isLt (by decide)⟩

/-- The row of the fourth loop's trip. -/
def tr4 (k : Fin k0_t4_loop.trips) : Fin 128 := ⟨k.val, lt_of_lt_of_eq k.isLt (by decide)⟩

/-- The chunk of the fifth loop's trip. -/
def tr5 (k : Fin k0_t5_loop.trips) : Fin 16 := ⟨k.val, lt_of_lt_of_eq k.isLt (by decide)⟩

/-- The chunk of the sixth loop's trip. -/
def tr6 (k : Fin k0_t6_loop.trips) : Fin 16 := ⟨k.val, lt_of_lt_of_eq k.isLt (by decide)⟩

/-- A chunk recast to its own shape, a sum of three, and zeros, element by element. -/
theorem cast_at (X : FVec Ideal S128x128 .f32) (h) (r d : Fin 128) : shapeCast S128x128 X h (ix2 r d) = X (ix2 r d) := by
  pointwise []

/-- The sum of three squares, entry by entry. -/
theorem add3_at (A B C : FVec Ideal S128x128 .f32) (h) (r d : Fin 128) : shapeCast S128x128 (addf A (addf B C)) h (ix2 r d) = A (ix2 r d) + (B (ix2 r d) + C (ix2 r d)) := by
  pointwise []

/-- The zero square's entries are zero. -/
theorem zero_at (r d : Fin 128) : (broadcast S128x128 (Scalar.ofBits .f32 0x00000000#32 : Ideal .f32) : FVec Ideal S128x128 .f32) (ix2 r d) = 0 := by
  pointwise []

/-- A widened square's entries are its own. -/
theorem ext_at (X : FVec Ideal S128x128 .bf16) (r d : Fin 128) : (extf .f32 X bitsLt_bf16_f32 : FVec Ideal S128x128 .f32) (ix2 r d) = X (ix2 r d) := by
  pointwise []

/-- The number of an inner trip, as the body counts it. -/
theorem iv3 : ∀ k : Fin k0_t3_loop.trips, (Scf.iv 0#32 1#32 k : BitVec 32) = BitVec.ofNat 32 k.val := by decide +kernel

/-- The number of a backward inner trip, as the body counts it. -/
theorem iv4 : ∀ k : Fin k0_t4_loop.trips, (Scf.iv 0#32 1#32 k : BitVec 32) = BitVec.ofNat 32 k.val := by decide +kernel

/-- A bit widened and compared with zero is the bit. -/
theorem bit_one (v : BitVec 1) (h : Scalar.cmpi .ne (Scalar.extui v : BitVec 32) 0#32 = 1#1) : v = 1#1 := by
  revert v; decide

/-- A bit that does not pass the comparison is zero. -/
theorem bit_zero (v : BitVec 1) (h : ¬ Scalar.cmpi .ne (Scalar.extui v : BitVec 32) 0#32 = 1#1) : v = 0#1 := by
  revert v; decide

/-- The backward chunk's place, as the printed offset has it. -/
theorem rev_off2 {off : Fin 2 → ℕ} (n : Fin 16) (h : off = ![1920 - 128 * n.val, 0]) : off = ![128 * n.rev.val, 0] := by
  rw [h, Fin.val_rev, show 1920 - 128 * n.val = 128 * (16 - (n.val + 1)) by omega]

/-- The backward chunk's place in a staged block, as the printed offset has it. -/
theorem rev_off3 {off : Fin 3 → ℕ} (n : Fin 16) (h : off = ![0, 1920 - 128 * n.val, 0]) : off = ![0, 128 * n.rev.val, 0] := by
  rw [h, Fin.val_rev, show 1920 - 128 * n.val = 128 * (16 - (n.val + 1)) by omega]

/-- A forward chunk of the buffers. -/
theorem chunk_fw (hx : x.On p) {gf : Vec Ideal S2048x128 .f32} (hg : ∀ (c : Fin 16) r d, gf (ix2 (rowix c r) d) = ((loc (gOf p.lf p.zf) (128 * c.val) r d : ℝ) : EReal))
    (n : Fin 16) (o3 : Fin 3 → ℕ) (h3 : o3 = ![0, 128 * n.val, 0]) (i3) (o2 : Fin 2 → ℕ) (h2 : o2 = ![128 * n.val, 0]) (i2) (i7) :
    Chunk p.q (kOf p.lf p.zf) p.v (gOf p.lf p.zf) (128 * n.val) fw (up (VecWindow.window (s := S1x2048x128) x.x2 o3 S1x128x128.size i3))
      (VecWindow.window (s := S2048x128) gf o2 S128x128.size i2)
      (key (rest (VecWindow.window (s := S2x128) x.x7 ![0, 0] S1x128.size i7)) (VecWindow.window (s := S1x2048x128) x.x4 o3 S1x128x128.size i3))
      (lastRow (VecWindow.window (s := S2048x128) gf o2 S128x128.size i2)) (lo (VecWindow.window (s := S1x2048x128) x.x3 o3 S1x128x128.size i3)) where
  hq r d := (up_at _ r d).trans (win_fw hx.q o3 i3 n h3 r d)
  hk r d := key_at _ _ (p.lf d) _ r d ((winl0 _ i7 d).trans (hx.lf d)) (win_fw hx.zf o3 i3 n h3 r d)
  hv r d := (lo_at _ r d).trans (win_fw hx.v o3 i3 n h3 r d)
  hG r d := (win2 gf o2 i2 n h2 r d).trans (hg n r d)
  hgt d := (lastRow_at _ d).trans ((win2 gf o2 i2 n h2 127 d).trans (hg n 127 d))

/-- A backward chunk. -/
theorem chunk_bw (hx : x.On p) {gb : Vec Ideal S2048x128 .f32} (hg : ∀ (c : Fin 16) r d, gb (ix2 (rowix c r) d) = ((loc (gOf p.lb (rv p.zb)) (128 * c.rev.val) r.rev d : ℝ) : EReal))
    (n : Fin 16) (o3 : Fin 3 → ℕ) (h3 : o3 = ![0, 128 * n.rev.val, 0]) (i3) (o2 : Fin 2 → ℕ) (h2 : o2 = ![128 * n.rev.val, 0]) (i2) (i7) :
    Chunk (rv p.q) (kOf p.lb (rv p.zb)) (rv p.v) (gOf p.lb (rv p.zb)) (128 * n.val) bw (up (VecWindow.window (s := S1x2048x128) x.x2 o3 S1x128x128.size i3))
      (VecWindow.window (s := S2048x128) gb o2 S128x128.size i2)
      (key (rest (VecWindow.window (s := S2x128) x.x7 ![1, 0] S1x128.size i7)) (VecWindow.window (s := S1x2048x128) x.x5 o3 S1x128x128.size i3))
      (firstRow (VecWindow.window (s := S2048x128) gb o2 S128x128.size i2)) (lo (VecWindow.window (s := S1x2048x128) x.x3 o3 S1x128x128.size i3)) where
  hq r d := (up_at _ r d).trans (win_bw hx.q o3 i3 n h3 r d)
  hk r d := key_at _ _ (p.lb d) _ r d ((winl1 _ i7 d).trans (hx.lb d)) (win_bw hx.zb o3 i3 n h3 r d)
  hv r d := (lo_at _ r d).trans (win_bw hx.v o3 i3 n h3 r d)
  hG r d := (win2 gb o2 i2 n.rev h2 r d).trans (by rw [hg n.rev r d, Fin.rev_rev]; rfl)
  hgt d := (firstRow_at _ d).trans ((win2 gb o2 i2 n.rev h2 0 d).trans (by rw [hg n.rev 0 d, Fin.rev_rev]; rfl))

end Cert.HgrnIdeal.Scan

end
-- ==== Proof.ScanExact.lean ====
/- The first part of the recurrence's body run at real contents: the gates' loop and, where some decay is great, the exact
   recurrence, one position of a chunk after another. -/
module

public import proofs.«01_k».proof.Proof.ScanTrips

@[expose] public section

noncomputable section

namespace Cert.HgrnIdeal.Scan

open Idealize.ShloMosaic Idealize.ShloMosaic.TcCoe Idealize.ShloMosaic.Tactic
open Idealize.SL Idealize.SL.RA
open Idealize.SL.BI (sProp)
open Idealize.SL.Sem
open Cert.HgrnIdeal Cert.HgrnIdeal.Gen Cert.ScanRun Cert.ScanSeq

variable {c : Dev nD} {R : Bufs → sProp Res} {x : Ins} {p : Pt}

set_option maxHeartbeats 8000000 in
set_option maxRecDepth 16384 in
/-- One trip of the gates' loop and, where some decay is great, the exact recurrence: it ends with both directions' sums, or
    with the gates alone, as the bit it returns says. -/
theorem part7_runs (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (H : Room c R x arg2 arg3 arg4 arg5 arg6 arg7 arg8 arg9 arg10 arg11 arg12 arg13 arg14 arg15) (hx : x.On p) (st : Bufs) :
    Runs c R (k0_part7 i arg2 harg2 arg3 harg3 arg4 harg4 arg5 harg5 arg6 harg6 arg7 harg7 arg8 harg8 arg9 harg9 arg10 harg10 arg11 harg11 arg12 harg12 arg13 harg13 arg14 harg14 arg15 harg15 : Prog (TpuEff nD τ sig (Elt Ideal) Λ₀ .tc) _) st (fun a st' =>
      ∃ v : BitVec 1, a = ⟨rest (VecWindow.window (s := S2x128) x.x7 ![0, 0] S1x128.size inb_S2x128_S1x128_0_0), keepF,
        rest (VecWindow.window (s := S2x128) x.x7 ![1, 0] S1x128.size inb_S2x128_S1x128_1_0), keepB, v⟩
        ∧ (v = 1#1 ∧ Done p st' ∨ v = 0#1 ∧ Gates p 16 st')) := by
  unfold k0_part7 k0_part1 k0_part2 k0_part3 k0_part4
  repeat' with_reducible first
    | (refine Does.load H.h2 ?_; rintro _ rfl)
    | (refine Does.load H.h3 ?_; rintro _ rfl)
    | (refine Does.load H.h4 ?_; rintro _ rfl)
    | (refine Does.load H.h5 ?_; rintro _ rfl)
    | (refine Does.load H.h6 ?_; rintro _ rfl)
    | (refine Does.load H.h7 ?_; rintro _ rfl)
    | (refine Does.load H.h8 ?_; rintro _ rfl)
    | (refine Does.load (H.h9.gets (fun _ => rfl)) ?_; rintro _ rfl)
    | (refine Does.load (H.h10.gets (fun _ => rfl)) ?_; rintro _ rfl)
    | (refine Does.load (H.h11.gets (fun _ => rfl)) ?_; rintro _ rfl)
    | (refine Does.load (H.h12.gets (fun _ => rfl)) ?_; rintro _ rfl)
    | (refine Does.load (H.h13.gets (fun _ => rfl)) ?_; rintro _ rfl)
    | (refine Does.load (H.h14.gets (fun _ => rfl)) ?_; rintro _ rfl)
    | (refine Does.load (H.h15.gets (fun _ => rfl)) ?_; rintro _ rfl)
    | refine Does.store H.h9 ?_
    | refine Does.store H.h10 ?_
    | refine Does.store H.h11 ?_
    | refine Does.store H.h12 ?_
    | refine Does.store H.h13 ?_
    | refine Does.store H.h14 ?_
    | refine Does.store H.h15 ?_
    | refine Does.assoc ?_
    | refine Does.pure_bind ?_

  refine Does.bind (Does.for (fun k _ st => Gates p k st) (fun c hc => absurd hc (Nat.not_lt_zero _)) (fun k mn st hG => ?_)) (fun mn st hG => ?_)
  · skip
    repeat' with_reducible first
      | (refine Does.load H.h2 ?_; rintro _ rfl)
      | (refine Does.load H.h3 ?_; rintro _ rfl)
      | (refine Does.load H.h4 ?_; rintro _ rfl)
      | (refine Does.load H.h5 ?_; rintro _ rfl)
      | (refine Does.load H.h6 ?_; rintro _ rfl)
      | (refine Does.load H.h7 ?_; rintro _ rfl)
      | (refine Does.load H.h8 ?_; rintro _ rfl)
      | (refine Does.load (H.h9.gets (fun _ => rfl)) ?_; rintro _ rfl)
      | (refine Does.load (H.h10.gets (fun _ => rfl)) ?_; rintro _ rfl)
      | (refine Does.load (H.h11.gets (fun _ => rfl)) ?_; rintro _ rfl)
      | (refine Does.load (H.h12.gets (fun _ => rfl)) ?_; rintro _ rfl)
      | (refine Does.load (H.h13.gets (fun _ => rfl)) ?_; rintro _ rfl)
      | (refine Does.load (H.h14.gets (fun _ => rfl)) ?_; rintro _ rfl)
      | (refine Does.load (H.h15.gets (fun _ => rfl)) ?_; rintro _ rfl)
      | refine Does.store H.h9 ?_
      | refine Does.store H.h10 ?_
      | refine Does.store H.h11 ?_
      | refine Does.store H.h12 ?_
      | refine Does.store H.h13 ?_
      | refine Does.store H.h14 ?_
      | refine Does.store H.h15 ?_
      | refine Does.assoc ?_
      | refine Does.pure_bind ?_
    refine Does.pure ?_
    refine gates_step p (tr1 k) hG (k0_off2 k) (k0_off2 k) (k0_off2 k) (k0_off2_eq k) (k0_off2_eq k) (k0_off2_eq k) _ _ _ ?_ ?_ ?_ _ rfl rfl rfl
    · exact fun r d => (cast_at _ _ r d).trans (gate_real (b := 128 * (tr1 k).val) (σ := fw) p.hlf keepF keepF_at _ (fun d => (winl0 _ _ d).trans (hx.lf d)) _
        (win_fw hx.zf _ (k0_off1_inb k) (tr1 k) (k0_off1_eq k)) r d)
    · exact fun r d => (cast_at _ _ r d).trans (gate_real (b := 128 * (tr1 k).rev.val) (σ := bw) p.hlb keepB keepB_at _ (fun d => (winl1 _ _ d).trans (hx.lb d)) _
        (win_bw hx.zb _ (k0_off1_inb k) (tr1 k).rev (by rw [Fin.rev_rev]; exact k0_off1_eq k)) r d)
    · exact fun r d => (cast_at _ _ r d).trans (zero_at r d)
  · have hG : Gates p 16 st := hG
    refine Does.ite (fun h => ?_) (fun h => ?_)
    · have h1 := bit_one _ h
      clear h
      repeat' with_reducible first
        | (refine Does.load H.h2 ?_; rintro _ rfl)
        | (refine Does.load H.h3 ?_; rintro _ rfl)
        | (refine Does.load H.h4 ?_; rintro _ rfl)
        | (refine Does.load H.h5 ?_; rintro _ rfl)
        | (refine Does.load H.h6 ?_; rintro _ rfl)
        | (refine Does.load H.h7 ?_; rintro _ rfl)
        | (refine Does.load H.h8 ?_; rintro _ rfl)
        | (refine Does.load (H.h9.gets (fun _ => rfl)) ?_; rintro _ rfl)
        | (refine Does.load (H.h10.gets (fun _ => rfl)) ?_; rintro _ rfl)
        | (refine Does.load (H.h11.gets (fun _ => rfl)) ?_; rintro _ rfl)
        | (refine Does.load (H.h12.gets (fun _ => rfl)) ?_; rintro _ rfl)
        | (refine Does.load (H.h13.gets (fun _ => rfl)) ?_; rintro _ rfl)
        | (refine Does.load (H.h14.gets (fun _ => rfl)) ?_; rintro _ rfl)
        | (refine Does.load (H.h15.gets (fun _ => rfl)) ?_; rintro _ rfl)
        | refine Does.store H.h9 ?_
        | refine Does.store H.h10 ?_
        | refine Does.store H.h11 ?_
        | refine Does.store H.h12 ?_
        | refine Does.store H.h13 ?_
        | refine Does.store H.h14 ?_
        | refine Does.store H.h15 ?_
        | refine Does.assoc ?_
        | refine Does.pure_bind ?_
      refine Does.bind (Does.for (fun k a st => Mid p k a.1 a.2 st) (mid_zero p hG _ _ zero_at zero_at) (fun k a st hM => ?_)) (fun a st hM => ?_)
      · obtain ⟨sf, sb⟩ := a
        have hM : Mid p (tr2 k).val sf sb st := hM
        have cF := chunk_fw hx (fun c r d => (hM.gates c r d).1) (tr2 k) (k0_off3 k) (k0_off3_eq k) (k0_off3_inb k) (k0_off4 k) (k0_off4_eq k) (k0_off4_inb k) inb_S2x128_S1x128_0_0
        have cB := chunk_bw hx (fun c r d => (hM.gates c r d).2) (tr2 k) (k0_off6 k) (rev_off3 (tr2 k) (k0_off6_eq k)) (k0_off6_inb k) (k0_off7 k) (rev_off2 (tr2 k) (k0_off7_eq k)) (k0_off7_inb k) inb_S2x128_S1x128_1_0
        repeat' with_reducible first
          | (refine Does.load H.h2 ?_; rintro _ rfl)
          | (refine Does.load H.h3 ?_; rintro _ rfl)
          | (refine Does.load H.h4 ?_; rintro _ rfl)
          | (refine Does.load H.h5 ?_; rintro _ rfl)
          | (refine Does.load H.h6 ?_; rintro _ rfl)
          | (refine Does.load H.h7 ?_; rintro _ rfl)
          | (refine Does.load H.h8 ?_; rintro _ rfl)
          | (refine Does.load (H.h9.gets (fun _ => rfl)) ?_; rintro _ rfl)
          | (refine Does.load (H.h10.gets (fun _ => rfl)) ?_; rintro _ rfl)
          | (refine Does.load (H.h11.gets (fun _ => rfl)) ?_; rintro _ rfl)
          | (refine Does.load (H.h12.gets (fun _ => rfl)) ?_; rintro _ rfl)
          | (refine Does.load (H.h13.gets (fun _ => rfl)) ?_; rintro _ rfl)
          | (refine Does.load (H.h14.gets (fun _ => rfl)) ?_; rintro _ rfl)
          | (refine Does.load (H.h15.gets (fun _ => rfl)) ?_; rintro _ rfl)
          | refine Does.store H.h9 ?_
          | refine Does.store H.h10 ?_
          | refine Does.store H.h11 ?_
          | refine Does.store H.h12 ?_
          | refine Does.store H.h13 ?_
          | refine Does.store H.h14 ?_
          | refine Does.store H.h15 ?_
          | refine Does.assoc ?_
          | refine Does.pure_bind ?_
        refine Does.bind (Does.forKeep (fun j a => ∀ r e, a (ix2 r e) = ((some p.q (kOf p.lf p.zf) p.v (gOf p.lf p.zf) (128 * (tr2 k).val) fw j r e : ℝ) : EReal))
          (fun r e => (zero_at r e).trans (by unfold some; simp)) (fun j a ha => ?_)) ?_
        · skip
          repeat' with_reducible first
            | (refine Does.load H.h2 ?_; rintro _ rfl)
            | (refine Does.load H.h3 ?_; rintro _ rfl)
            | (refine Does.load H.h4 ?_; rintro _ rfl)
            | (refine Does.load H.h5 ?_; rintro _ rfl)
            | (refine Does.load H.h6 ?_; rintro _ rfl)
            | (refine Does.load H.h7 ?_; rintro _ rfl)
            | (refine Does.load H.h8 ?_; rintro _ rfl)
            | (refine Does.load (H.h9.gets (fun _ => rfl)) ?_; rintro _ rfl)
            | (refine Does.load (H.h10.gets (fun _ => rfl)) ?_; rintro _ rfl)
            | (refine Does.load (H.h11.gets (fun _ => rfl)) ?_; rintro _ rfl)
            | (refine Does.load (H.h12.gets (fun _ => rfl)) ?_; rintro _ rfl)
            | (refine Does.load (H.h13.gets (fun _ => rfl)) ?_; rintro _ rfl)
            | (refine Does.load (H.h14.gets (fun _ => rfl)) ?_; rintro _ rfl)
            | (refine Does.load (H.h15.gets (fun _ => rfl)) ?_; rintro _ rfl)
            | refine Does.store H.h9 ?_
            | refine Does.store H.h10 ?_
            | refine Does.store H.h11 ?_
            | refine Does.store H.h12 ?_
            | refine Does.store H.h13 ?_
            | refine Does.store H.h14 ?_
            | refine Does.store H.h15 ?_
            | refine Does.assoc ?_
            | refine Does.pure_bind ?_
          refine Does.pure ⟨rfl, fun r e => ?_⟩
          exact cF.pair (gOf_nonpos p.hlf p.zf) _ (tr3 j) (fun r => by
              show cmpi .sge rid1 (broadcast S128x1 (Scf.iv 0#32 1#32 j)) (ix2 r 0) = _
              rw [iv3 j]; exact keepF1_at r (tr3 j)) _ _ _ a
            (fun d => (winr _ _ _ (tr3 j) (k0_off5_eq j) d).trans ((congrFun (putw _ _) _).trans (cast_at _ _ _ d)))
            (fun d => (winr _ _ _ (tr3 j) (k0_off5_eq j) d).trans ((congrFun (putw _ _) _).trans (cast_at _ _ _ d)))
            (fun d => (winr _ _ _ (tr3 j) (k0_off5_eq j) d).trans ((congrFun (putw _ _) _).trans ((cast_at _ _ _ d).trans (ext_at _ _ d)))) ha r e
        rintro aF _ ⟨rfl, hF⟩
        repeat' with_reducible first
          | (refine Does.load H.h2 ?_; rintro _ rfl)
          | (refine Does.load H.h3 ?_; rintro _ rfl)
          | (refine Does.load H.h4 ?_; rintro _ rfl)
          | (refine Does.load H.h5 ?_; rintro _ rfl)
          | (refine Does.load H.h6 ?_; rintro _ rfl)
          | (refine Does.load H.h7 ?_; rintro _ rfl)
          | (refine Does.load H.h8 ?_; rintro _ rfl)
          | (refine Does.load (H.h9.gets (fun _ => rfl)) ?_; rintro _ rfl)
          | (refine Does.load (H.h10.gets (fun _ => rfl)) ?_; rintro _ rfl)
          | (refine Does.load (H.h11.gets (fun _ => rfl)) ?_; rintro _ rfl)
          | (refine Does.load (H.h12.gets (fun _ => rfl)) ?_; rintro _ rfl)
          | (refine Does.load (H.h13.gets (fun _ => rfl)) ?_; rintro _ rfl)
          | (refine Does.load (H.h14.gets (fun _ => rfl)) ?_; rintro _ rfl)
          | (refine Does.load (H.h15.gets (fun _ => rfl)) ?_; rintro _ rfl)
          | refine Does.store H.h9 ?_
          | refine Does.store H.h10 ?_
          | refine Does.store H.h11 ?_
          | refine Does.store H.h12 ?_
          | refine Does.store H.h13 ?_
          | refine Does.store H.h14 ?_
          | refine Does.store H.h15 ?_
          | refine Does.assoc ?_
          | refine Does.pure_bind ?_
        refine Does.bind (Does.forKeep (fun j a => ∀ r e, a (ix2 r e) = ((some (rv p.q) (kOf p.lb (rv p.zb)) (rv p.v) (gOf p.lb (rv p.zb)) (128 * (tr2 k).val) bw j r e : ℝ) : EReal))
          (fun r e => (zero_at r e).trans (by unfold some; simp)) (fun j a ha => ?_)) ?_
        · skip
          repeat' with_reducible first
            | (refine Does.load H.h2 ?_; rintro _ rfl)
            | (refine Does.load H.h3 ?_; rintro _ rfl)
            | (refine Does.load H.h4 ?_; rintro _ rfl)
            | (refine Does.load H.h5 ?_; rintro _ rfl)
            | (refine Does.load H.h6 ?_; rintro _ rfl)
            | (refine Does.load H.h7 ?_; rintro _ rfl)
            | (refine Does.load H.h8 ?_; rintro _ rfl)
            | (refine Does.load (H.h9.gets (fun _ => rfl)) ?_; rintro _ rfl)
            | (refine Does.load (H.h10.gets (fun _ => rfl)) ?_; rintro _ rfl)
            | (refine Does.load (H.h11.gets (fun _ => rfl)) ?_; rintro _ rfl)
            | (refine Does.load (H.h12.gets (fun _ => rfl)) ?_; rintro _ rfl)
            | (refine Does.load (H.h13.gets (fun _ => rfl)) ?_; rintro _ rfl)
            | (refine Does.load (H.h14.gets (fun _ => rfl)) ?_; rintro _ rfl)
            | (refine Does.load (H.h15.gets (fun _ => rfl)) ?_; rintro _ rfl)
            | refine Does.store H.h9 ?_
            | refine Does.store H.h10 ?_
            | refine Does.store H.h11 ?_
            | refine Does.store H.h12 ?_
            | refine Does.store H.h13 ?_
            | refine Does.store H.h14 ?_
            | refine Does.store H.h15 ?_
            | refine Does.assoc ?_
            | refine Does.pure_bind ?_
          refine Does.pure ⟨rfl, fun r e => ?_⟩
          exact cB.pair (gOf_nonpos p.hlb (rv p.zb)) _ (tr4 j) (fun r => by
              show cmpi .sle rid1 (broadcast S128x1 (Scf.iv 0#32 1#32 j)) (ix2 r 0) = _
              rw [iv4 j]; exact keepB1_at r (tr4 j)) _ _ _ a
            (fun d => (winr _ _ _ (tr4 j) (k0_off8_eq j) d).trans ((congrFun (putw _ _) _).trans (cast_at _ _ _ d)))
            (fun d => (winr _ _ _ (tr4 j) (k0_off8_eq j) d).trans ((congrFun (putw _ _) _).trans (cast_at _ _ _ d)))
            (fun d => (winr _ _ _ (tr4 j) (k0_off8_eq j) d).trans ((congrFun (putw _ _) _).trans ((cast_at _ _ _ d).trans (ext_at _ _ d)))) ha r e
        rintro aB _ ⟨rfl, hB⟩
        repeat' with_reducible first
          | (refine Does.load H.h2 ?_; rintro _ rfl)
          | (refine Does.load H.h3 ?_; rintro _ rfl)
          | (refine Does.load H.h4 ?_; rintro _ rfl)
          | (refine Does.load H.h5 ?_; rintro _ rfl)
          | (refine Does.load H.h6 ?_; rintro _ rfl)
          | (refine Does.load H.h7 ?_; rintro _ rfl)
          | (refine Does.load H.h8 ?_; rintro _ rfl)
          | (refine Does.load (H.h9.gets (fun _ => rfl)) ?_; rintro _ rfl)
          | (refine Does.load (H.h10.gets (fun _ => rfl)) ?_; rintro _ rfl)
          | (refine Does.load (H.h11.gets (fun _ => rfl)) ?_; rintro _ rfl)
          | (refine Does.load (H.h12.gets (fun _ => rfl)) ?_; rintro _ rfl)
          | (refine Does.load (H.h13.gets (fun _ => rfl)) ?_; rintro _ rfl)
          | (refine Does.load (H.h14.gets (fun _ => rfl)) ?_; rintro _ rfl)
          | (refine Does.load (H.h15.gets (fun _ => rfl)) ?_; rintro _ rfl)
          | refine Does.store H.h9 ?_
          | refine Does.store H.h10 ?_
          | refine Does.store H.h11 ?_
          | refine Does.store H.h12 ?_
          | refine Does.store H.h13 ?_
          | refine Does.store H.h14 ?_
          | refine Does.store H.h15 ?_
          | refine Does.assoc ?_
          | refine Does.pure_bind ?_
        refine Does.pure ?_
        refine mid_step p (tr2 k) hM (k0_off4 k) (k0_off7 k) (k0_off4_eq k) (rev_off2 (tr2 k) (k0_off7_eq k)) _ _ _ _ ?_ ?_ ?_ ?_ _ rfl rfl rfl
        · exact fun r e => (add3_at _ _ _ _ r e).trans (congrArg₂ (fun a b : EReal => a + b) (win2 _ _ _ (tr2 k) (k0_off4_eq k) r e) (cF.exact hM.hsf _ hF r e))
        · exact fun r e => (add3_at _ _ _ _ r e).trans (congrArg₂ (fun a b : EReal => a + b) (win2 _ _ _ (tr2 k).rev (rev_off2 (tr2 k) (k0_off7_eq k)) r e) (cB.exact hM.hsb _ hB r e))
        · exact cF.step hM.hsf
        · exact cB.step hM.hsb
      · obtain ⟨sf, sb⟩ := a
        repeat' with_reducible first
          | (refine Does.load H.h2 ?_; rintro _ rfl)
          | (refine Does.load H.h3 ?_; rintro _ rfl)
          | (refine Does.load H.h4 ?_; rintro _ rfl)
          | (refine Does.load H.h5 ?_; rintro _ rfl)
          | (refine Does.load H.h6 ?_; rintro _ rfl)
          | (refine Does.load H.h7 ?_; rintro _ rfl)
          | (refine Does.load H.h8 ?_; rintro _ rfl)
          | (refine Does.load (H.h9.gets (fun _ => rfl)) ?_; rintro _ rfl)
          | (refine Does.load (H.h10.gets (fun _ => rfl)) ?_; rintro _ rfl)
          | (refine Does.load (H.h11.gets (fun _ => rfl)) ?_; rintro _ rfl)
          | (refine Does.load (H.h12.gets (fun _ => rfl)) ?_; rintro _ rfl)
          | (refine Does.load (H.h13.gets (fun _ => rfl)) ?_; rintro _ rfl)
          | (refine Does.load (H.h14.gets (fun _ => rfl)) ?_; rintro _ rfl)
          | (refine Does.load (H.h15.gets (fun _ => rfl)) ?_; rintro _ rfl)
          | refine Does.store H.h9 ?_
          | refine Does.store H.h10 ?_
          | refine Does.store H.h11 ?_
          | refine Does.store H.h12 ?_
          | refine Does.store H.h13 ?_
          | refine Does.store H.h14 ?_
          | refine Does.store H.h15 ?_
          | refine Does.assoc ?_
          | refine Does.pure_bind ?_
        refine Does.pure ⟨_, rfl, .inl ⟨h1, mid_done p hM⟩⟩
    · have h1 := bit_zero _ h
      clear h
      repeat' with_reducible first
        | (refine Does.load H.h2 ?_; rintro _ rfl)
        | (refine Does.load H.h3 ?_; rintro _ rfl)
        | (refine Does.load H.h4 ?_; rintro _ rfl)
        | (refine Does.load H.h5 ?_; rintro _ rfl)
        | (refine Does.load H.h6 ?_; rintro _ rfl)
        | (refine Does.load H.h7 ?_; rintro _ rfl)
        | (refine Does.load H.h8 ?_; rintro _ rfl)
        | (refine Does.load (H.h9.gets (fun _ => rfl)) ?_; rintro _ rfl)
        | (refine Does.load (H.h10.gets (fun _ => rfl)) ?_; rintro _ rfl)
        | (refine Does.load (H.h11.gets (fun _ => rfl)) ?_; rintro _ rfl)
        | (refine Does.load (H.h12.gets (fun _ => rfl)) ?_; rintro _ rfl)
        | (refine Does.load (H.h13.gets (fun _ => rfl)) ?_; rintro _ rfl)
        | (refine Does.load (H.h14.gets (fun _ => rfl)) ?_; rintro _ rfl)
        | (refine Does.load (H.h15.gets (fun _ => rfl)) ?_; rintro _ rfl)
        | refine Does.store H.h9 ?_
        | refine Does.store H.h10 ?_
        | refine Does.store H.h11 ?_
        | refine Does.store H.h12 ?_
        | refine Does.store H.h13 ?_
        | refine Does.store H.h14 ?_
        | refine Does.store H.h15 ?_
        | refine Does.assoc ?_
        | refine Does.pure_bind ?_
      refine Does.pure ⟨_, rfl, .inr ⟨h1, hG⟩⟩

end Cert.HgrnIdeal.Scan

end
-- ==== Proof.ScanBody.lean ====
/- The whole body run at real contents: its first part, the quick recurrence, a chunk at a time, and the norm. -/
module

public import proofs.«01_k».proof.Proof.ScanExact

@[expose] public section

noncomputable section

namespace Cert.HgrnIdeal.Scan

open Idealize.ShloMosaic Idealize.ShloMosaic.TcCoe Idealize.ShloMosaic.Tactic
open Idealize.SL Idealize.SL.RA
open Idealize.SL.BI (sProp)
open Idealize.SL.Sem
open Cert.HgrnIdeal Cert.HgrnIdeal.Gen Cert.ScanRun Cert.ScanSeq

variable {c : Dev nD} {R : Bufs → sProp Res} {x : Ins} {p : Pt}

/-- The other branch's bit. -/
theorem not_one (h : Scalar.cmpi .ne (Scalar.extui (Scalar.xori 1#1 1#1 : BitVec 1) : BitVec 32) 0#32 = 1#1) : False := by revert h; decide

/-- The quick road's condition fails only if the flag is set. -/
theorem not_zero (h : ¬ Scalar.cmpi .ne (Scalar.extui (Scalar.xori 0#1 1#1 : BitVec 1) : BitVec 32) 0#32 = 1#1) : False := by revert h; decide

set_option maxHeartbeats 8000000 in
set_option maxRecDepth 16384 in
/-- The whole body: whichever recurrence runs, the output block ends as the two directions' sums, normed and gated. -/
theorem cc0_hgrn_runs (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (H : Room c R x arg2 arg3 arg4 arg5 arg6 arg7 arg8 arg9 arg10 arg11 arg12 arg13 arg14 arg15) (hx : x.On p) (st : Bufs) :
    Runs c R (cc0_hgrn i arg2 harg2 arg3 harg3 arg4 harg4 arg5 harg5 arg6 harg6 arg7 harg7 arg8 harg8 arg9 harg9 arg10 harg10 arg11 harg11 arg12 harg12 arg13 harg13 arg14 harg14 arg15 harg15 : Prog (TpuEff nD τ sig (Elt Ideal) Λ₀ .tc) _) st (fun _ st' =>
      ∀ (c : Fin 16) r e, st'.o (ix3 0 (rowix c r) e) = fin p (fun d => x.x8 (ix2 0 d)) (x.x6 (ix3 0 (rowix c r) e)) (rowix c r).val e) := by
  unfold cc0_hgrn k0_part5 k0_part6
  refine Does.bind (part7_runs i arg2 harg2 arg3 harg3 arg4 harg4 arg5 harg5 arg6 harg6 arg7 harg7 arg8 harg8 arg9 harg9 arg10 harg10 arg11 harg11 arg12 harg12 arg13 harg13 arg14 harg14 arg15 harg15 H hx st) ?_
  rintro _ st ⟨v, rfl, hv⟩
  refine Does.ite (fun h => ?_) (fun h => ?_)
  · have hG : Gates p 16 st := by
      rcases hv with ⟨rfl, _⟩ | ⟨_, hG⟩
      · exact (not_one h).elim
      · exact hG
    clear h
    repeat' with_reducible first
      | (refine Does.load H.h2 ?_; rintro _ rfl)
      | (refine Does.load H.h3 ?_; rintro _ rfl)
      | (refine Does.load H.h4 ?_; rintro _ rfl)
      | (refine Does.load H.h5 ?_; rintro _ rfl)
      | (refine Does.load H.h6 ?_; rintro _ rfl)
      | (refine Does.load H.h7 ?_; rintro _ rfl)
      | (refine Does.load H.h8 ?_; rintro _ rfl)
      | (refine Does.load (H.h9.gets (fun _ => rfl)) ?_; rintro _ rfl)
      | (refine Does.load (H.h10.gets (fun _ => rfl)) ?_; rintro _ rfl)
      | (refine Does.load (H.h11.gets (fun _ => rfl)) ?_; rintro _ rfl)
      | (refine Does.load (H.h12.gets (fun _ => rfl)) ?_; rintro _ rfl)
      | (refine Does.load (H.h13.gets (fun _ => rfl)) ?_; rintro _ rfl)
      | (refine Does.load (H.h14.gets (fun _ => rfl)) ?_; rintro _ rfl)
      | (refine Does.load (H.h15.gets (fun _ => rfl)) ?_; rintro _ rfl)
      | refine Does.store H.h9 ?_
      | refine Does.store H.h10 ?_
      | refine Does.store H.h11 ?_
      | refine Does.store H.h12 ?_
      | refine Does.store H.h13 ?_
      | refine Does.store H.h14 ?_
      | refine Does.store H.h15 ?_
      | refine Does.assoc ?_
      | refine Does.pure_bind ?_
    refine Does.bind (Does.for (fun k a st => Mid p k a.1 a.2 st) (mid_zero p hG _ _ zero_at zero_at) (fun k a st hM => ?_)) (fun a st hM => ?_)
    · obtain ⟨sf, sb⟩ := a
      have hM : Mid p (tr5 k).val sf sb st := hM
      have cF := chunk_fw hx (fun c r d => (hM.gates c r d).1) (tr5 k) (k0_off9 k) (k0_off9_eq k) (k0_off9_inb k) (k0_off10 k) (k0_off10_eq k) (k0_off10_inb k) inb_S2x128_S1x128_0_0
      have cB := chunk_bw hx (fun c r d => (hM.gates c r d).2) (tr5 k) (k0_off11 k) (rev_off3 (tr5 k) (k0_off11_eq k)) (k0_off11_inb k) (k0_off12 k) (rev_off2 (tr5 k) (k0_off12_eq k)) (k0_off12_inb k) inb_S2x128_S1x128_1_0
      repeat' with_reducible first
        | (refine Does.load H.h2 ?_; rintro _ rfl)
        | (refine Does.load H.h3 ?_; rintro _ rfl)
        | (refine Does.load H.h4 ?_; rintro _ rfl)
        | (refine Does.load H.h5 ?_; rintro _ rfl)
        | (refine Does.load H.h6 ?_; rintro _ rfl)
        | (refine Does.load H.h7 ?_; rintro _ rfl)
        | (refine Does.load H.h8 ?_; rintro _ rfl)
        | (refine Does.load (H.h9.gets (fun _ => rfl)) ?_; rintro _ rfl)
        | (refine Does.load (H.h10.gets (fun _ => rfl)) ?_; rintro _ rfl)
        | (refine Does.load (H.h11.gets (fun _ => rfl)) ?_; rintro _ rfl)
        | (refine Does.load (H.h12.gets (fun _ => rfl)) ?_; rintro _ rfl)
        | (refine Does.load (H.h13.gets (fun _ => rfl)) ?_; rintro _ rfl)
        | (refine Does.load (H.h14.gets (fun _ => rfl)) ?_; rintro _ rfl)
        | (refine Does.load (H.h15.gets (fun _ => rfl)) ?_; rintro _ rfl)
        | refine Does.store H.h9 ?_
        | refine Does.store H.h10 ?_
        | refine Does.store H.h11 ?_
        | refine Does.store H.h12 ?_
        | refine Does.store H.h13 ?_
        | refine Does.store H.h14 ?_
        | refine Does.store H.h15 ?_
        | refine Does.assoc ?_
        | refine Does.pure_bind ?_
      refine Does.pure ?_
      refine mid_step p (tr5 k) hM (k0_off10 k) (k0_off12 k) (k0_off10_eq k) (rev_off2 (tr5 k) (k0_off12_eq k)) _ _ _ _ ?_ ?_ ?_ ?_ _ rfl rfl rfl
      · exact fun r e => (add3_at _ _ _ _ r e).trans (congrArg₂ (fun a b : EReal => a + b) (win2 _ _ _ (tr5 k) (k0_off10_eq k) r e) (cF.quick hM.hsf keepF keepF_at r e))
      · exact fun r e => (add3_at _ _ _ _ r e).trans (congrArg₂ (fun a b : EReal => a + b) (win2 _ _ _ (tr5 k).rev (rev_off2 (tr5 k) (k0_off12_eq k)) r e) (cB.quick hM.hsb keepB keepB_at r e))
      · exact cF.step hM.hsf
      · exact cB.step hM.hsb
    · obtain ⟨sf, sb⟩ := a
      repeat' with_reducible first
        | (refine Does.load H.h2 ?_; rintro _ rfl)
        | (refine Does.load H.h3 ?_; rintro _ rfl)
        | (refine Does.load H.h4 ?_; rintro _ rfl)
        | (refine Does.load H.h5 ?_; rintro _ rfl)
        | (refine Does.load H.h6 ?_; rintro _ rfl)
        | (refine Does.load H.h7 ?_; rintro _ rfl)
        | (refine Does.load H.h8 ?_; rintro _ rfl)
        | (refine Does.load (H.h9.gets (fun _ => rfl)) ?_; rintro _ rfl)
        | (refine Does.load (H.h10.gets (fun _ => rfl)) ?_; rintro _ rfl)
        | (refine Does.load (H.h11.gets (fun _ => rfl)) ?_; rintro _ rfl)
        | (refine Does.load (H.h12.gets (fun _ => rfl)) ?_; rintro _ rfl)
        | (refine Does.load (H.h13.gets (fun _ => rfl)) ?_; rintro _ rfl)
        | (refine Does.load (H.h14.gets (fun _ => rfl)) ?_; rintro _ rfl)
        | (refine Does.load (H.h15.gets (fun _ => rfl)) ?_; rintro _ rfl)
        | refine Does.store H.h9 ?_
        | refine Does.store H.h10 ?_
        | refine Does.store H.h11 ?_
        | refine Does.store H.h12 ?_
        | refine Does.store H.h13 ?_
        | refine Does.store H.h14 ?_
        | refine Does.store H.h15 ?_
        | refine Does.assoc ?_
        | refine Does.pure_bind ?_
      have hD : Done p st := mid_done p hM
      clear hM hv
      repeat' with_reducible first
        | (refine Does.load H.h2 ?_; rintro _ rfl)
        | (refine Does.load H.h3 ?_; rintro _ rfl)
        | (refine Does.load H.h4 ?_; rintro _ rfl)
        | (refine Does.load H.h5 ?_; rintro _ rfl)
        | (refine Does.load H.h6 ?_; rintro _ rfl)
        | (refine Does.load H.h7 ?_; rintro _ rfl)
        | (refine Does.load H.h8 ?_; rintro _ rfl)
        | (refine Does.load (H.h9.gets (fun _ => rfl)) ?_; rintro _ rfl)
        | (refine Does.load (H.h10.gets (fun _ => rfl)) ?_; rintro _ rfl)
        | (refine Does.load (H.h11.gets (fun _ => rfl)) ?_; rintro _ rfl)
        | (refine Does.load (H.h12.gets (fun _ => rfl)) ?_; rintro _ rfl)
        | (refine Does.load (H.h13.gets (fun _ => rfl)) ?_; rintro _ rfl)
        | (refine Does.load (H.h14.gets (fun _ => rfl)) ?_; rintro _ rfl)
        | (refine Does.load (H.h15.gets (fun _ => rfl)) ?_; rintro _ rfl)
        | refine Does.store H.h9 ?_
        | refine Does.store H.h10 ?_
        | refine Does.store H.h11 ?_
        | refine Does.store H.h12 ?_
        | refine Does.store H.h13 ?_
        | refine Does.store H.h14 ?_
        | refine Does.store H.h15 ?_
        | refine Does.assoc ?_
        | refine Does.pure_bind ?_
      refine Does.bind (Does.for (fun k _ st => Ends p (fun d => x.x8 (ix2 0 d)) x.x6 k st) ⟨hD, fun c hc => absurd hc (Nat.not_lt_zero _)⟩ (fun k _ st hE => ?_)) (fun _ st hE => ?_)
      · skip
        repeat' with_reducible first
          | (refine Does.load H.h2 ?_; rintro _ rfl)
          | (refine Does.load H.h3 ?_; rintro _ rfl)
          | (refine Does.load H.h4 ?_; rintro _ rfl)
          | (refine Does.load H.h5 ?_; rintro _ rfl)
          | (refine Does.load H.h6 ?_; rintro _ rfl)
          | (refine Does.load H.h7 ?_; rintro _ rfl)
          | (refine Does.load H.h8 ?_; rintro _ rfl)
          | (refine Does.load (H.h9.gets (fun _ => rfl)) ?_; rintro _ rfl)
          | (refine Does.load (H.h10.gets (fun _ => rfl)) ?_; rintro _ rfl)
          | (refine Does.load (H.h11.gets (fun _ => rfl)) ?_; rintro _ rfl)
          | (refine Does.load (H.h12.gets (fun _ => rfl)) ?_; rintro _ rfl)
          | (refine Does.load (H.h13.gets (fun _ => rfl)) ?_; rintro _ rfl)
          | (refine Does.load (H.h14.gets (fun _ => rfl)) ?_; rintro _ rfl)
          | (refine Does.load (H.h15.gets (fun _ => rfl)) ?_; rintro _ rfl)
          | refine Does.store H.h9 ?_
          | refine Does.store H.h10 ?_
          | refine Does.store H.h11 ?_
          | refine Does.store H.h12 ?_
          | refine Does.store H.h13 ?_
          | refine Does.store H.h14 ?_
          | refine Does.store H.h15 ?_
          | refine Does.assoc ?_
          | refine Does.pure_bind ?_
        refine Does.pure ?_
        exact ends_step p (tr6 k) hE (k0_off13 k) (k0_off13_eq k) (k0_off13_inb k) (k0_off14 k) (k0_off14_eq k) (k0_off14_inb k)
          (VecWindow.window (s := S1x128) x.x8 ![0, 0] S1x128.size inb_S1x128_S1x128_0_0) (fun e => winog _ _ e) _ rfl rfl
      · exact Does.pure (fun c r e => hE.2 c c.isLt r e)
  · have hD : Done p st := by
      rcases hv with ⟨_, hD⟩ | ⟨rfl, _⟩
      · exact hD
      · exact (not_zero h).elim
    clear hv h
    repeat' with_reducible first
      | (refine Does.load H.h2 ?_; rintro _ rfl)
      | (refine Does.load H.h3 ?_; rintro _ rfl)
      | (refine Does.load H.h4 ?_; rintro _ rfl)
      | (refine Does.load H.h5 ?_; rintro _ rfl)
      | (refine Does.load H.h6 ?_; rintro _ rfl)
      | (refine Does.load H.h7 ?_; rintro _ rfl)
      | (refine Does.load H.h8 ?_; rintro _ rfl)
      | (refine Does.load (H.h9.gets (fun _ => rfl)) ?_; rintro _ rfl)
      | (refine Does.load (H.h10.gets (fun _ => rfl)) ?_; rintro _ rfl)
      | (refine Does.load (H.h11.gets (fun _ => rfl)) ?_; rintro _ rfl)
      | (refine Does.load (H.h12.gets (fun _ => rfl)) ?_; rintro _ rfl)
      | (refine Does.load (H.h13.gets (fun _ => rfl)) ?_; rintro _ rfl)
      | (refine Does.load (H.h14.gets (fun _ => rfl)) ?_; rintro _ rfl)
      | (refine Does.load (H.h15.gets (fun _ => rfl)) ?_; rintro _ rfl)
      | refine Does.store H.h9 ?_
      | refine Does.store H.h10 ?_
      | refine Does.store H.h11 ?_
      | refine Does.store H.h12 ?_
      | refine Does.store H.h13 ?_
      | refine Does.store H.h14 ?_
      | refine Does.store H.h15 ?_
      | refine Does.assoc ?_
      | refine Does.pure_bind ?_
    refine Does.bind (Does.for (fun k _ st => Ends p (fun d => x.x8 (ix2 0 d)) x.x6 k st) ⟨hD, fun c hc => absurd hc (Nat.not_lt_zero _)⟩ (fun k _ st hE => ?_)) (fun _ st hE => ?_)
    · skip
      repeat' with_reducible first
        | (refine Does.load H.h2 ?_; rintro _ rfl)
        | (refine Does.load H.h3 ?_; rintro _ rfl)
        | (refine Does.load H.h4 ?_; rintro _ rfl)
        | (refine Does.load H.h5 ?_; rintro _ rfl)
        | (refine Does.load H.h6 ?_; rintro _ rfl)
        | (refine Does.load H.h7 ?_; rintro _ rfl)
        | (refine Does.load H.h8 ?_; rintro _ rfl)
        | (refine Does.load (H.h9.gets (fun _ => rfl)) ?_; rintro _ rfl)
        | (refine Does.load (H.h10.gets (fun _ => rfl)) ?_; rintro _ rfl)
        | (refine Does.load (H.h11.gets (fun _ => rfl)) ?_; rintro _ rfl)
        | (refine Does.load (H.h12.gets (fun _ => rfl)) ?_; rintro _ rfl)
        | (refine Does.load (H.h13.gets (fun _ => rfl)) ?_; rintro _ rfl)
        | (refine Does.load (H.h14.gets (fun _ => rfl)) ?_; rintro _ rfl)
        | (refine Does.load (H.h15.gets (fun _ => rfl)) ?_; rintro _ rfl)
        | refine Does.store H.h9 ?_
        | refine Does.store H.h10 ?_
        | refine Does.store H.h11 ?_
        | refine Does.store H.h12 ?_
        | refine Does.store H.h13 ?_
        | refine Does.store H.h14 ?_
        | refine Does.store H.h15 ?_
        | refine Does.assoc ?_
        | refine Does.pure_bind ?_
      refine Does.pure ?_
      exact ends_step p (tr6 k) hE (k0_off13 k) (k0_off13_eq k) (k0_off13_inb k) (k0_off14 k) (k0_off14_eq k) (k0_off14_inb k)
        (VecWindow.window (s := S1x128) x.x8 ![0, 0] S1x128.size inb_S1x128_S1x128_0_0) (fun e => winog _ _ e) _ rfl rfl
    · exact Does.pure (fun c r e => hE.2 c c.isLt r e)

end Cert.HgrnIdeal.Scan

end
-- ==== Proof.ScanValue.lean ====
/- The recurrence's pipeline at known contents: at every grid point the body, run at the point's blocks, leaves in the output
   block what the reference computes there, so the run ends with the reference's result in the output array. -/
module

public import proofs.«01_k».proof.Proof.Gen.HgrnIdeal.Frame
public import proofs.«01_k».proof.Proof.HgrnIdealFrame
public import proofs.«01_k».proof.Proof.ScanBody
public import proofs.«01_k».proof.Proof.ScanRef
public import proofs.«01_k».proof.Pre_bounds_in_unit
public import Idealize.ShloMosaic.Lib.Pipeline.ValueKit

@[expose] public section

set_option maxRecDepth 16384

noncomputable section

namespace Cert.HgrnIdeal.ScanValue

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg Window BodyObligation cellOf)
open Cert.HgrnIdeal Cert.HgrnIdeal.Gen Cert.HgrnIdeal.Scan Cert.ScanRun Cert.MixRefIdeal.Finite

variable (m : (ℓ : Loc nD τ sig) → Buf (Elt Ideal) ℓ) (ρ : Dev nD → PrngReg)

/-! ## The arguments and the blocks -/

/-- The projected sequences, the lower bounds and the norm's weights, as device `c` is launched with them. -/
abbrev zOf (c : Dev nD) : Vec Ideal S32x2048x9216 .bf16 := m ((c : Thread nD τ).loc main_arg0)

/-- The lower bounds, as device `c` is launched with them. -/
abbrev lOf (c : Dev nD) : Vec Ideal S2x1024 .f32 := m ((c : Thread nD τ).loc main_arg1)

/-- The norm's weights, as device `c` is launched with them. -/
abbrev nOf (c : Dev nD) : Vec Ideal S128 .f32 := m ((c : Thread nD τ).loc main_arg2)

/-- The reference's result of device `c`'s arguments. -/
def res (c : Dev nD) : Vec Ideal S32x2048x1024 .bf16 :=
  Cert.HgrnRefIdeal.Read.val_main_v137 (F := Ideal) (zOf m c) (lOf m c) (nOf m c)

/-- From equal arguments, the same result. -/
theorem res_of (c : Dev nD) {z : Vec Ideal S32x2048x9216 .bf16} {l : Vec Ideal S2x1024 .f32} {n : Vec Ideal S128 .f32} (hz : z = zOf m c) (hl : l = lOf m c) (hn : n = nOf m c) :
    Cert.HgrnRefIdeal.Read.val_main_v137 (F := Ideal) z l n = res m c := by
  subst hz; subst hl; subst hn; rfl

/-- What the values are claimed for: real queries, values and gates, and lower bounds that are real numbers from 0 to 1. -/
structure Good (c : Dev nD) : Prop where
  z : ∀ (b : Fin 32) (t : Fin 2048) (j : Fin 4096), IsReal (zOf m c (ix3 b t ⟨2048 + j.val, by omega⟩))
  l : ∀ i, IsReal (lOf m c i)
  unit : ∀ i, 0 ≤ (lOf m c i : EReal).toReal ∧ (lOf m c i : EReal).toReal ≤ 1

/-- The batch row and the head of a grid point. -/
def brow (t : Fin cfg0.N) : Fin 32 := ⟨t.val / 8, by have : t.val < 256 := lt_of_lt_of_eq t.isLt N_0; omega⟩

/-- The head of a grid point. -/
def head (t : Fin cfg0.N) : Fin 8 := ⟨t.val % 8, by omega⟩

/-- Which block of its array each window holds at a grid point. -/
theorem idx : ∀ t : Fin cfg0.N, win0_0.index t = ![t.val / 8, 0, 16 + t.val % 8]
    ∧ win0_1.index t = ![t.val / 8, 0, 24 + t.val % 8]
    ∧ win0_2.index t = ![t.val / 8, 0, 32 + t.val % 8]
    ∧ win0_3.index t = ![t.val / 8, 0, 40 + t.val % 8]
    ∧ win0_4.index t = ![t.val / 8, 0, 48 + t.val % 8]
    ∧ win0_5.index t = ![0, t.val % 8]
    ∧ win0_6.index t = ![0, 0]
    ∧ win0_7.index t = ![t.val / 8, 0, t.val % 8] :=
  (by decide +kernel : ∀ t : Fin grid0.N, _)

/-- The first staged block holds the head's queries. -/
theorem block0 (c : Dev nD) (t : Fin cfg0.N) (r : Fin 2048) (d : Fin 128) : iblk m c 0 t (ix3 0 r d) = zOf m c (ix3 (brow t) r (col 0 (head t) d)) := by
  blk_ext [iblk, V, idx t, brow, head, col]

/-- The second staged block holds the head's values. -/
theorem block1 (c : Dev nD) (t : Fin cfg0.N) (r : Fin 2048) (d : Fin 128) : iblk m c 1 t (ix3 0 r d) = zOf m c (ix3 (brow t) r (col 1 (head t) d)) := by
  blk_ext [iblk, V, idx t, brow, head, col]

/-- The third staged block holds the head's forward gate arguments. -/
theorem block2 (c : Dev nD) (t : Fin cfg0.N) (r : Fin 2048) (d : Fin 128) : iblk m c 2 t (ix3 0 r d) = zOf m c (ix3 (brow t) r (col 2 (head t) d)) := by
  blk_ext [iblk, V, idx t, brow, head, col]

/-- The fourth staged block holds the head's backward gate arguments. -/
theorem block3 (c : Dev nD) (t : Fin cfg0.N) (r : Fin 2048) (d : Fin 128) : iblk m c 3 t (ix3 0 r d) = zOf m c (ix3 (brow t) r (col 3 (head t) d)) := by
  blk_ext [iblk, V, idx t, brow, head, col]

/-- The fifth staged block holds the head's output gate. -/
theorem block4 (c : Dev nD) (t : Fin cfg0.N) (r : Fin 2048) (d : Fin 128) : iblk m c 4 t (ix3 0 r d) = zOf m c (ix3 (brow t) r (col 4 (head t) d)) := by
  blk_ext [iblk, V, idx t, brow, head, col]

/-- The sixth staged block holds the head's lower bounds, both directions. -/
theorem block5 (c : Dev nD) (t : Fin cfg0.N) (i : Fin 2) (d : Fin 128) : iblk m c 5 t (ix2 i d) = lOf m c (ix2 i (hcol (head t) d)) := by
  blk_ext [iblk, V, idx t, brow, head, hcol]

/-- The seventh staged block holds the norm's weights. -/
theorem block6 (c : Dev nD) (t : Fin cfg0.N) (d : Fin 128) : iblk m c 6 t (ix2 0 d) = nOf m c (ix1 d) := by
  blk_ext! [iblk, V, idx t]

/-- The reference's result in the output block of grid point `t`. -/
def resAt (c : Dev nD) (t : Fin cfg0.N) : Vec Ideal S1x2048x128 .bf16 := fun y => res m c (ix3 (brow t) (y 1) (hcol (head t) (y 2)))

/-! ## The proof data -/

/-- The proof data of the pipeline on core `c`: each input's buffer at its block after every point, the output's at the
    reference's result there. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resAt m c t
    | ⟨_ + 8, h⟩ => absurd h (Nat.not_lt.2 (Nat.le_add_left _ _))
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- Input 0's buffer holds its block after the body, -/
theorem after0 (c : Dev nD) (t : Fin cfg0.N) : (dats m 0 c).after 0 t = iblk m c 0 t := by dsimp only [dats]

/-- and before it. -/
theorem before0 (c : Dev nD) (t : Fin cfg0.N) (d) : (dats m 0 c).before 0 t d = iblk m c 0 t :=
  before0_0_of m (dats m 0 c) (A_eq m c 0) (after0 m c) t d

/-- Input 1's buffer holds its block after the body, -/
theorem after1 (c : Dev nD) (t : Fin cfg0.N) : (dats m 0 c).after 1 t = iblk m c 1 t := by dsimp only [dats]

/-- and before it. -/
theorem before1 (c : Dev nD) (t : Fin cfg0.N) (d) : (dats m 0 c).before 1 t d = iblk m c 1 t :=
  before0_1_of m (dats m 0 c) (A_eq m c 1) (after1 m c) t d

/-- Input 2's buffer holds its block after the body, -/
theorem after2 (c : Dev nD) (t : Fin cfg0.N) : (dats m 0 c).after 2 t = iblk m c 2 t := by dsimp only [dats]

/-- and before it. -/
theorem before2 (c : Dev nD) (t : Fin cfg0.N) (d) : (dats m 0 c).before 2 t d = iblk m c 2 t :=
  before0_2_of m (dats m 0 c) (A_eq m c 2) (after2 m c) t d

/-- Input 3's buffer holds its block after the body, -/
theorem after3 (c : Dev nD) (t : Fin cfg0.N) : (dats m 0 c).after 3 t = iblk m c 3 t := by dsimp only [dats]

/-- and before it. -/
theorem before3 (c : Dev nD) (t : Fin cfg0.N) (d) : (dats m 0 c).before 3 t d = iblk m c 3 t :=
  before0_3_of m (dats m 0 c) (A_eq m c 3) (after3 m c) t d

/-- Input 4's buffer holds its block after the body, -/
theorem after4 (c : Dev nD) (t : Fin cfg0.N) : (dats m 0 c).after 4 t = iblk m c 4 t := by dsimp only [dats]

/-- and before it. -/
theorem before4 (c : Dev nD) (t : Fin cfg0.N) (d) : (dats m 0 c).before 4 t d = iblk m c 4 t :=
  before0_4_of m (dats m 0 c) (A_eq m c 4) (after4 m c) t d

/-- Input 5's buffer holds its block after the body, -/
theorem after5 (c : Dev nD) (t : Fin cfg0.N) : (dats m 0 c).after 5 t = iblk m c 5 t := by dsimp only [dats]

/-- and before it. -/
theorem before5 (c : Dev nD) (t : Fin cfg0.N) (d) : (dats m 0 c).before 5 t d = iblk m c 5 t :=
  before0_5_of m (dats m 0 c) (A_eq m c 5) (after5 m c) t d

/-- Input 6's buffer holds its block after the body, -/
theorem after6 (c : Dev nD) (t : Fin cfg0.N) : (dats m 0 c).after 6 t = iblk m c 6 t := by dsimp only [dats]

/-- and before it. -/
theorem before6 (c : Dev nD) (t : Fin cfg0.N) (d) : (dats m 0 c).before 6 t d = iblk m c 6 t :=
  before0_6_of m (dats m 0 c) (A_eq m c 6) (after6 m c) t d

/-- The output's buffer holds the reference's result after the body. -/
theorem after7 (c : Dev nD) (t : Fin cfg0.N) : (dats m 0 c).after 7 t = resAt m c t := by dsimp only [dats]

/-! ## The body at a point -/

/-- What the body finds in its input blocks at point `t`. -/
def insAt (c : Dev nD) (t : Fin cfg0.N) : Ins := ⟨iblk m c 0 t, iblk m c 1 t, iblk m c 2 t, iblk m c 3 t, iblk m c 4 t, iblk m c 5 t, iblk m c 6 t⟩

/-- What the body works in at point `t`, its scratch and its output block at the state's contents. -/
def roomAt (c : Dev nD) (t : Fin cfg0.N) : Bufs → sProp Res := fun st =>
  iprop(((owns (c : Thread nD τ) (Memref.whole cc0_scratch0) fullShare st.gf ∗ owns (c : Thread nD τ) (Memref.whole cc0_scratch1) fullShare st.gb ∗ owns (c : Thread nD τ) (Memref.whole cc0_scratch2) fullShare st.acc ∗ owns (c : Thread nD τ) (Memref.whole cc0_scratch3) fullShare st.gs ∗ owns (c : Thread nD τ) (Memref.whole cc0_scratch4) fullShare st.ks ∗ owns (c : Thread nD τ) (Memref.whole cc0_scratch5) fullShare st.vs)
      ∗ (∃ r, prngReg c r)) ∗ (dats m 0 c).owesAt () t.castSucc
    ∗ owns (c : Thread nD τ) (win0_0.stage (cfg0.slots t 0)) fullShare (insAt m c t).x2
    ∗ owns (c : Thread nD τ) (win0_1.stage (cfg0.slots t 1)) fullShare (insAt m c t).x3
    ∗ owns (c : Thread nD τ) (win0_2.stage (cfg0.slots t 2)) fullShare (insAt m c t).x4
    ∗ owns (c : Thread nD τ) (win0_3.stage (cfg0.slots t 3)) fullShare (insAt m c t).x5
    ∗ owns (c : Thread nD τ) (win0_4.stage (cfg0.slots t 4)) fullShare (insAt m c t).x6
    ∗ owns (c : Thread nD τ) (win0_5.stage (cfg0.slots t 5)) fullShare (insAt m c t).x7
    ∗ owns (c : Thread nD τ) (win0_6.stage (cfg0.slots t 6)) fullShare (insAt m c t).x8
    ∗ owns (c : Thread nD τ) (win0_7.stage (cfg0.slots t 7)) fullShare st.o)

/-- The body's loads and stores read and write the blocks and scratches of the grid point. -/
theorem room_ok (c : Dev nD) (t : Fin cfg0.N) :
    Room c (roomAt m c t) (insAt m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7))
      (Memref.whole cc0_scratch0) (Memref.whole cc0_scratch1) (Memref.whole cc0_scratch2) (Memref.whole cc0_scratch3) (Memref.whole cc0_scratch4) (Memref.whole cc0_scratch5) := by
  unfold roomAt
  exact {
    h2 := .right (.right (.left .owns))
    h3 := .right (.right (.right (.left .owns)))
    h4 := .right (.right (.right (.right (.left .owns))))
    h5 := .right (.right (.right (.right (.right (.left .owns)))))
    h6 := .right (.right (.right (.right (.right (.right (.left .owns))))))
    h7 := .right (.right (.right (.right (.right (.right (.right (.left .owns)))))))
    h8 := .right (.right (.right (.right (.right (.right (.right (.right (.left .owns))))))))
    h9 := .right (.right (.right (.right (.right (.right (.right (.right (.right (.owns fun _ _ => rfl) fun _ _ => rfl) fun _ _ => rfl) fun _ _ => rfl) fun _ _ => rfl) fun _ _ => rfl) fun _ _ => rfl) fun _ _ => rfl) fun _ _ => rfl) fun _ _ => rfl
    h10 := .left (.left (.left (.owns fun _ _ => rfl) fun _ _ => rfl) fun _ _ => rfl) fun _ _ => rfl
    h11 := .left (.left (.right (.left (.owns fun _ _ => rfl) fun _ _ => rfl) fun _ _ => rfl) fun _ _ => rfl) fun _ _ => rfl
    h12 := .left (.left (.right (.right (.left (.owns fun _ _ => rfl) fun _ _ => rfl) fun _ _ => rfl) fun _ _ => rfl) fun _ _ => rfl) fun _ _ => rfl
    h13 := .left (.left (.right (.right (.right (.left (.owns fun _ _ => rfl) fun _ _ => rfl) fun _ _ => rfl) fun _ _ => rfl) fun _ _ => rfl) fun _ _ => rfl) fun _ _ => rfl
    h14 := .left (.left (.right (.right (.right (.right (.left (.owns fun _ _ => rfl) fun _ _ => rfl) fun _ _ => rfl) fun _ _ => rfl) fun _ _ => rfl) fun _ _ => rfl) fun _ _ => rfl) fun _ _ => rfl
    h15 := .left (.left (.right (.right (.right (.right (.right (.owns fun _ _ => rfl) fun _ _ => rfl) fun _ _ => rfl) fun _ _ => rfl) fun _ _ => rfl) fun _ _ => rfl) fun _ _ => rfl) fun _ _ => rfl }

/-- The real arguments of a grid point. -/
abbrev ptAt (c : Dev nD) (hg : Good m c) (t : Fin cfg0.N) : Pt := pt (zOf m c) (lOf m c) (brow t) (head t) (fun i d => hg.unit _)

/-- The point's blocks hold its real arguments. -/
theorem ins_on (c : Dev nD) (hg : Good m c) (t : Fin cfg0.N) : (insAt m c t).On (ptAt m c hg t) where
  q r d := (block0 m c t r d).trans (colAt_coe hg.z _ _ 0 r d)
  v r d := (block1 m c t r d).trans (colAt_coe hg.z _ _ 1 r d)
  zf r d := (block2 m c t r d).trans (colAt_coe hg.z _ _ 2 r d)
  zb r d := (block3 m c t r d).trans (colAt_coe hg.z _ _ 3 r d)
  lf d := (block5 m c t 0 d).trans (IsReal.coe_toReal (hg.l _))
  lb d := (block5 m c t 1 d).trans (IsReal.coe_toReal (hg.l _))

/-- The body at a point leaves the reference's result in the output block. -/
theorem body_runs (c : Dev nD) (hg : Good m c) (t : Fin cfg0.N) (st : Bufs) :
    Runs c (roomAt m c t) (bodyAt0 t) st (fun _ st' => st'.o = resAt m c t) := by
  refine Does.mono (cc0_hgrn_runs _ _ _ _ _ _ _ _ _ _ _ _ _ _ _ _ _ _ _ _ _ _ _ _ _ _ _ _ _ (room_ok m c t) (ins_on m c hg t) st) fun _ st' h => ?_
  have key : ∀ (a : Fin 2048) (e : Fin 128), st'.o (ix3 0 a e) = resAt m c t (ix3 0 a e) := fun a e => by
    obtain ⟨k, r, rfl⟩ := rowix_surj a
    refine (h k r e).trans ?_
    refine Eq.trans ?_ (result (z := zOf m c) (l := lOf m c) (og := nOf m c) hg.z hg.l (brow t) (head t) (fun i d => hg.unit _) (rowix k r) e).symm
    exact congrArg₂ (fun (f : Fin 128 → EReal) (g : EReal) => fin (ptAt m c hg t) f g (rowix k r).val e) (funext fun d => block6 m c t d) (block4 m c t (rowix k r) e)
  funext y
  have hy0 : (y 0 : ℕ) < 1 := (y 0).isLt
  have hy : y = ix3 (0 : Fin 1) (y 1 : Fin 2048) (y 2 : Fin 128) := by
    refine funext fun a => ?_
    match a with
    | ⟨0, _⟩ => exact Fin.ext (by show (y 0 : ℕ) = 0; omega)
    | ⟨1, _⟩ => rfl
    | ⟨2, _⟩ => rfl
  exact (congrArg st'.o hy).trans ((key (y 1) (y 2)).trans (congrArg (resAt m c t) hy.symm))

/-- The pipeline's demand on the body, at every point: handed the inputs at their blocks and the output's buffer at
    anything, it gives the inputs back so and the output's buffer at the reference's result. -/
theorem body_obligation (hg : ∀ c, Good m c) (c : Dev nD) :
    BodyObligation (dats m 0 c) (defs₀ (F := Ideal)) Variants.none () Set.univ := fun t => by
  rw [bigSep_W0, bigSep_W0, Foot.row_eq]
  have hb : iprop(∃ st, roomAt m c t st) ⊢ wp Idealize.ShloMosaic.frame (wpE (defs₀ (F := Ideal)) Variants.none (c : Thread nD τ) none) Set.univ (bodyAt0 (F := Ideal) t) (fun _ => iprop(∃ st, ⌜st.o = resAt m c t⌝ ∗ roomAt m c t st)) := by
    iintro ⟨%st, H⟩
    have hw := body_runs m c (hg c) t st
    unfold Runs Does at hw
    iapply hw
    iexact H
  refine triple_restated (P := iprop(∃ st, roomAt m c t st)) (Q := fun _ => iprop(∃ st, ⌜st.o = resAt m c t⌝ ∗ roomAt m c t st)) hb rfl ?_ fun _ => ?_
  · show iprop(Pipeline.ΦA spec0 c ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))) ⊢ iprop(∃ st, roomAt m c t st)
    simp only [before0, before1, before2, before3, before4, before5, before6]
    rw [Foot.PhiA_eq]; unfold roomAt insAt
    iintro ⟨⟨⟨⟨%s0, S0⟩, ⟨%s1, S1⟩, ⟨%s2, S2⟩, ⟨%s3, S3⟩, ⟨%s4, S4⟩, ⟨%s5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iexists (⟨(dats m 0 c).before 7 t d7, s0, s1, s2, s3, s4, s5⟩ : Bufs)
    isplitl [S0 S1 S2 S3 S4 S5 Hr]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · show iprop(∃ st, ⌜st.o = resAt m c t⌝ ∗ roomAt m c t st) ⊢ iprop(Pipeline.ΦA spec0 c ∗ (dats m 0 c).owesAt () t.castSucc
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t))
    rw [after0, after1, after2, after3, after4, after5, after6, after7, Foot.PhiA_eq]; unfold roomAt insAt
    iintro ⟨%st, %ho, ⟨⟨S0, S1, S2, S3, S4, S5⟩, Hr⟩, Ho, H0, H1, H2, H3, H4, H5, H6, H7⟩
    rw [← ho]
    isplitl [S0 S1 S2 S3 S4 S5 Hr]
    · isplitl [S0 S1 S2 S3 S4 S5]
      · isplitl [S0]; · iexists st.gf; iexact S0
        isplitl [S1]; · iexists st.gb; iexact S1
        isplitl [S2]; · iexists st.acc; iexact S2
        isplitl [S3]; · iexists st.gs; iexact S3
        isplitl [S4]; · iexists st.ks; iexact S4
        iexists st.vs; iexact S5
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The run -/

set_option backward.isDefEq.respectTransparency.types false in
/-- The program runs to the end, every windowed array as the proof data say and every other array as the region found it. -/
theorem run_data (hg : ∀ c, Good m c) : θ_run defs (onTc (τ := τ) (main (F := Ideal))) (s₀ m ρ)
    (fun r => Pipeline.FramePost cfgs (dats m) 0 (V m) r) :=
  Pipeline.θ_run_frame_shared cfgs (dats m) (0 : Fin 1) launch₀0 defs₀ Variants.none m ρ main
    (hbody := fun c => (body_obligation m hg c).loose) (hq := fun _ _ _ => rfl)
    (howed := fun _ _ => rfl) (V := V m) (hmain := hmain m Variants.none) (hA := A_eq m) (hΦ := fun _ _ => rfl)

/-- The output array after the run is the reference's result. -/
theorem final (c : Dev nD) : (dats m 0 c).arrAt 7 (cfgs 0).N = res m c := by
  refine (dats m 0 c).arrAt_eq_of_covers 7 _ (by decide +kernel) fun t hf y => ?_
  blk_simp; rw [after7]
  unfold resAt
  blk_ext [idx t, brow, head, hcol]

/-- The program ends with the reference's result in its output array and its three argument arrays unchanged. -/
theorem run (hg : ∀ c, Good m c) : θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 7).trans (final m c),
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c)⟩)
    (run_data m ρ hg)

end Cert.HgrnIdeal.ScanValue

namespace Cert.Pre_bounds_in_unit

open Idealize.ShloMosaic Cert.MixRefIdeal.Finite

/-- The shape relations of the precondition's operations. -/
instance facts : Facts where
  slices_S32x2048x9216_S32x2048x4096_0_0_2048 := by decide
  bcast_S_S32x2048x4096 := by decide
  bcast_S_S2x1024 := by decide

/-- A number from 0 to 1 is real, and its real value lies there. -/
theorem unit_of {x a b : EReal} (ha : a = 0) (hb : b = 1) (h0 : Ideal.cmp .oge x a = 1#1) (h1 : Ideal.cmp .ole x b = 1#1) :
    IsReal x ∧ 0 ≤ x.toReal ∧ x.toReal ≤ 1 := by
  subst ha; subst hb
  have g0 : (0 : EReal) ≤ x := by
    by_contra hn
    simp [Ideal.cmp, hn] at h0
  have g1 : x ≤ 1 := by
    by_contra hn
    simp [Ideal.cmp, hn] at h1
  have hx : x ≠ ⊤ := fun h => by rw [h] at g1; exact absurd g1 (by decide)
  have hx' : x ≠ ⊥ := fun h => by rw [h] at g0; exact absurd g0 (by decide)
  have e : x = (x.toReal : EReal) := (EReal.coe_toReal hx hx').symm
  rw [e] at g0 g1
  exact ⟨⟨_, e⟩, by exact_mod_cast g0, by exact_mod_cast g1⟩

/-- The precondition, read: the queries, values and gates are real, and the lower bounds are real numbers from 0 to 1. -/
theorem real (x0 : FVec Ideal S32x2048x9216 .bf16) (x1 : FVec Ideal S2x1024 .f32) (x2 : FVec Ideal S128 .f32)
    (h : (fn (F := Ideal) x0 x1 x2).1 = (fun _ => 1#1) ∧ (fn (F := Ideal) x0 x1 x2).2.1 = (fun _ => 1#1) ∧ (fn (F := Ideal) x0 x1 x2).2.2 = fun _ => 1#1) :
    (∀ (b : Fin 32) (t : Fin 2048) (j : Fin 4096), IsReal (x0 (ix3 b t ⟨2048 + j.val, by omega⟩))) ∧ ∀ i, IsReal (x1 i) ∧ 0 ≤ (x1 i : EReal).toReal ∧ (x1 i : EReal).toReal ≤ 1 :=
  ⟨fun b t j => by
      have e : extractStridedSlice S32x2048x4096 ![0, 0, 2048] x0 Facts.slices_S32x2048x9216_S32x2048x4096_0_0_2048 (ix3 b t j) = x0 (ix3 b t ⟨2048 + j.val, by omega⟩) :=
        congrArg x0 (funext fun a => Fin.ext (by
          match a with
          | ⟨0, _⟩ => show 0 + b.val = b.val; omega
          | ⟨1, _⟩ => show 0 + t.val = t.val; omega
          | ⟨2, _⟩ => rfl))
      have h0 := congrFun h.1 (ix3 b t j)
      rw [← e]
      exact isReal_of_abs Cert.Pre_finite_args.top_bf16 h0,
    fun i => unit_of Ideal.ofBits_zero_f32 Cert.HgrnIdeal.Scan.ofBits_one (congrFun h.2.1 i) (congrFun h.2.2 i)⟩

end Cert.Pre_bounds_in_unit

end
-- ==== Proof.InprojValue.lean ====
module

public import proofs.«01_k».proof.Proof.Gen.InprojIdeal.Frame
public import proofs.«01_k».proof.Proof.Gen.InprojRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InprojIdeal.Value

open Cert.InprojIdeal Cert.InprojIdeal.Gen
open Cert.InprojRefIdeal.Read

variable (m : (ℓ : Loc nD τ sig) → Buf (Elt Ideal) ℓ)

/-- Which block of its array each window holds at a grid point: the row block is the point's number over 9, the column block the remainder. -/
theorem idx : ∀ t : Fin cfg0.N, win0_0.index t = ![t.val / 9, 0]
    ∧ win0_1.index t = ![0, 0]
    ∧ win0_2.index t = ![0, t.val % 9]
    ∧ win0_3.index t = ![0, 0]
    ∧ win0_4.index t = ![t.val / 9, t.val % 9] :=
  (by decide +kernel : ∀ t : Fin grid0.N, _)

/-- The first column of a row block normalises the block's rows: the payload is the reference's normalised rows. -/
theorem norm_rows (c : Dev nD) (t : Fin cfg0.N) (y : S1024x1024.Idx) (j : S65536x1024.Idx)
    (h0 : (j 0 : ℕ) = t.val / 9 * 1024 + y 0) (h1 : (j 1 : ℕ) = y 1) :
    k0_pay1 (F := Ideal) (iblk m c 0 t) (iblk m c 1 t) y
    = val_main_v12 (F := Ideal) (m ((c : Thread nD τ).loc main_arg0)) (m ((c : Thread nD τ).loc main_arg1)) j := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

/-- Columns 0 to 1023: the payload is the gelu of the projected rows, the reference's first piece. -/
theorem tileA (c : Dev nD) (t : Fin cfg0.N) (h : t.val % 9 = 0) (S : Vec Ideal S1024x1024 .bf16)
    (hS : ∀ (y : S1024x1024.Idx) (j : S65536x1024.Idx), (j 0 : ℕ) = t.val / 9 * 1024 + y 0 → (j 1 : ℕ) = y 1 →
      S y = val_main_v12 (F := Ideal) (m ((c : Thread nD τ).loc main_arg0)) (m ((c : Thread nD τ).loc main_arg1)) j)
    (y : S1024x1024.Idx) (j : S65536x9216.Idx) (h0 : (j 0 : ℕ) = t.val / 9 * 1024 + y 0) (h1 : (j 1 : ℕ) = t.val % 9 * 1024 + y 1) :
    k0_pay2 (F := Ideal) S (iblk m c 2 t) y
    = val_main_v66 (F := Ideal) (m ((c : Thread nD τ).loc main_arg0)) (m ((c : Thread nD τ).loc main_arg1)) (m ((c : Thread nD τ).loc main_arg2)) (m ((c : Thread nD τ).loc main_arg3)) j := by
  have hy : (y 1 : ℕ) < 1024 := (y 1).isLt
  pointwise [val_main_v65, val_main_v66]
  rw [dif_pos (show (j 1 : ℕ) < 1024 by omega)]
  have hS' : ∀ (k : Fin 1024), S (ix2 (y 0) k) = val_main_v12 (F := Ideal) (m ((c : Thread nD τ).loc main_arg0)) (m ((c : Thread nD τ).loc main_arg1)) (ix2 (j 0) k) := fun k => hS _ _ h0 rfl
  pointwise [k0_pay2, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_cst_5, val_main_v29, val_main_v30, val_main_v31, val_main_v32, val_main_v33, val_main_cst_6, val_main_v34, val_main_v35, val_main_v36, val_main_cst_7, val_main_v37, val_main_v38, val_main_v39, val_main_cst_8, val_main_v40, val_main_v41, val_main_cst_9, val_main_v42, val_main_v43, val_main_v44, val_main_v45, val_main_cst_10, val_main_v46, val_main_v47, val_main_cst_11, val_main_v48, val_main_v49, val_main_cst_12, val_main_v50, val_main_v51, val_main_v52, val_main_v53, val_main_v54, val_main_v55, val_main_v56, val_main_v57, val_main_call0_v0, val_main_call0_v1, val_main_call0_cst, val_main_call0_v2, val_main_call0_v3, val_main_call0_cst_0, val_main_call0_v4, val_main_call0_v5, val_main_v58, val_main_v59, val_main_v60, val_main_cst_13, val_main_v61, val_main_v62, val_main_cst_14, val_main_v63, val_main_v64, val_main_v65, zero_sub]
  simp only [hS']
  blk_point [iblk, V, idx t]

/-- Columns 1024 to 2047: the payload is the root-mean-square normalised gelu of the projected rows times its gain. -/
theorem tileB (c : Dev nD) (t : Fin cfg0.N) (h : t.val % 9 = 1) (S : Vec Ideal S1024x1024 .bf16)
    (hS : ∀ (y : S1024x1024.Idx) (j : S65536x1024.Idx), (j 0 : ℕ) = t.val / 9 * 1024 + y 0 → (j 1 : ℕ) = y 1 →
      S y = val_main_v12 (F := Ideal) (m ((c : Thread nD τ).loc main_arg0)) (m ((c : Thread nD τ).loc main_arg1)) j)
    (y : S1024x1024.Idx) (j : S65536x9216.Idx) (h0 : (j 0 : ℕ) = t.val / 9 * 1024 + y 0) (h1 : (j 1 : ℕ) = t.val % 9 * 1024 + y 1) :
    k0_pay3 (F := Ideal) S (iblk m c 2 t) (iblk m c 3 t) y
    = val_main_v66 (F := Ideal) (m ((c : Thread nD τ).loc main_arg0)) (m ((c : Thread nD τ).loc main_arg1)) (m ((c : Thread nD τ).loc main_arg2)) (m ((c : Thread nD τ).loc main_arg3)) j := by
  have hy : (y 1 : ℕ) < 1024 := (y 1).isLt
  pointwise [val_main_v65, val_main_v66]
  rw [dif_neg (show ¬(j 1 : ℕ) < 1024 by omega), dif_pos (show (j 1 : ℕ) - 1024 < 1024 by omega)]
  have hS' : ∀ (k : Fin 1024), S (ix2 (y 0) k) = val_main_v12 (F := Ideal) (m ((c : Thread nD τ).loc main_arg0)) (m ((c : Thread nD τ).loc main_arg1)) (ix2 (j 0) k) := fun k => hS _ _ h0 rfl
  pointwise [k0_pay3, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_cst_5, val_main_v29, val_main_v30, val_main_v31, val_main_v32, val_main_v33, val_main_cst_6, val_main_v34, val_main_v35, val_main_v36, val_main_cst_7, val_main_v37, val_main_v38, val_main_v39, val_main_cst_8, val_main_v40, val_main_v41, val_main_cst_9, val_main_v42, val_main_v43, val_main_v44, val_main_v45, val_main_cst_10, val_main_v46, val_main_v47, val_main_cst_11, val_main_v48, val_main_v49, val_main_cst_12, val_main_v50, val_main_v51, val_main_v52, val_main_v53, val_main_v54, val_main_v55, val_main_v56, val_main_v57, val_main_call0_v0, val_main_call0_v1, val_main_call0_cst, val_main_call0_v2, val_main_call0_v3, val_main_call0_cst_0, val_main_call0_v4, val_main_call0_v5, val_main_v58, val_main_v59, val_main_v60, val_main_cst_13, val_main_v61, val_main_v62, val_main_cst_14, val_main_v63, val_main_v64, val_main_v65, zero_sub]
  simp only [hS']
  blk_point [iblk, V, idx t]

/-- Columns 2048 to 6143: the payload is the projected rows themselves. -/
theorem tileC (c : Dev nD) (t : Fin cfg0.N) (h : 2 ≤ t.val % 9 ∧ t.val % 9 ≤ 5) (S : Vec Ideal S1024x1024 .bf16)
    (hS : ∀ (y : S1024x1024.Idx) (j : S65536x1024.Idx), (j 0 : ℕ) = t.val / 9 * 1024 + y 0 → (j 1 : ℕ) = y 1 →
      S y = val_main_v12 (F := Ideal) (m ((c : Thread nD τ).loc main_arg0)) (m ((c : Thread nD τ).loc main_arg1)) j)
    (y : S1024x1024.Idx) (j : S65536x9216.Idx) (h0 : (j 0 : ℕ) = t.val / 9 * 1024 + y 0) (h1 : (j 1 : ℕ) = t.val % 9 * 1024 + y 1) :
    k0_pay4 (F := Ideal) S (iblk m c 2 t) y
    = val_main_v66 (F := Ideal) (m ((c : Thread nD τ).loc main_arg0)) (m ((c : Thread nD τ).loc main_arg1)) (m ((c : Thread nD τ).loc main_arg2)) (m ((c : Thread nD τ).loc main_arg3)) j := by
  have hy : (y 1 : ℕ) < 1024 := (y 1).isLt
  pointwise [val_main_v65, val_main_v66]
  rw [dif_neg (show ¬(j 1 : ℕ) < 1024 by omega), dif_neg (show ¬(j 1 : ℕ) - 1024 < 1024 by omega), dif_pos (show (j 1 : ℕ) - 1024 - 1024 < 4096 by omega)]
  have hS' : ∀ (k : Fin 1024), S (ix2 (y 0) k) = val_main_v12 (F := Ideal) (m ((c : Thread nD τ).loc main_arg0)) (m ((c : Thread nD τ).loc main_arg1)) (ix2 (j 0) k) := fun k => hS _ _ h0 rfl
  pointwise [k0_pay4, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_cst_5, val_main_v29, val_main_v30, val_main_v31, val_main_v32, val_main_v33, val_main_cst_6, val_main_v34, val_main_v35, val_main_v36, val_main_cst_7, val_main_v37, val_main_v38, val_main_v39, val_main_cst_8, val_main_v40, val_main_v41, val_main_cst_9, val_main_v42, val_main_v43, val_main_v44, val_main_v45, val_main_cst_10, val_main_v46, val_main_v47, val_main_cst_11, val_main_v48, val_main_v49, val_main_cst_12, val_main_v50, val_main_v51, val_main_v52, val_main_v53, val_main_v54, val_main_v55, val_main_v56, val_main_v57, val_main_call0_v0, val_main_call0_v1, val_main_call0_cst, val_main_call0_v2, val_main_call0_v3, val_main_call0_cst_0, val_main_call0_v4, val_main_call0_v5, val_main_v58, val_main_v59, val_main_v60, val_main_cst_13, val_main_v61, val_main_v62, val_main_cst_14, val_main_v63, val_main_v64, val_main_v65, zero_sub]
  simp only [hS']
  blk_point [iblk, V, idx t]

/-- Columns 6144 to 7167: the payload is the projected rows times their sigmoid. -/
theorem tileD (c : Dev nD) (t : Fin cfg0.N) (h : t.val % 9 = 6) (S : Vec Ideal S1024x1024 .bf16)
    (hS : ∀ (y : S1024x1024.Idx) (j : S65536x1024.Idx), (j 0 : ℕ) = t.val / 9 * 1024 + y 0 → (j 1 : ℕ) = y 1 →
      S y = val_main_v12 (F := Ideal) (m ((c : Thread nD τ).loc main_arg0)) (m ((c : Thread nD τ).loc main_arg1)) j)
    (y : S1024x1024.Idx) (j : S65536x9216.Idx) (h0 : (j 0 : ℕ) = t.val / 9 * 1024 + y 0) (h1 : (j 1 : ℕ) = t.val % 9 * 1024 + y 1) :
    k0_pay5 (F := Ideal) S (iblk m c 2 t) y
    = val_main_v66 (F := Ideal) (m ((c : Thread nD τ).loc main_arg0)) (m ((c : Thread nD τ).loc main_arg1)) (m ((c : Thread nD τ).loc main_arg2)) (m ((c : Thread nD τ).loc main_arg3)) j := by
  have hy : (y 1 : ℕ) < 1024 := (y 1).isLt
  pointwise [val_main_v65, val_main_v66]
  rw [dif_neg (show ¬(j 1 : ℕ) < 1024 by omega), dif_neg (show ¬(j 1 : ℕ) - 1024 < 1024 by omega), dif_neg (show ¬(j 1 : ℕ) - 1024 - 1024 < 4096 by omega), dif_pos (show (j 1 : ℕ) - 1024 - 1024 - 4096 < 1024 by omega)]
  have hS' : ∀ (k : Fin 1024), S (ix2 (y 0) k) = val_main_v12 (F := Ideal) (m ((c : Thread nD τ).loc main_arg0)) (m ((c : Thread nD τ).loc main_arg1)) (ix2 (j 0) k) := fun k => hS _ _ h0 rfl
  pointwise [k0_pay5, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_cst_5, val_main_v29, val_main_v30, val_main_v31, val_main_v32, val_main_v33, val_main_cst_6, val_main_v34, val_main_v35, val_main_v36, val_main_cst_7, val_main_v37, val_main_v38, val_main_v39, val_main_cst_8, val_main_v40, val_main_v41, val_main_cst_9, val_main_v42, val_main_v43, val_main_v44, val_main_v45, val_main_cst_10, val_main_v46, val_main_v47, val_main_cst_11, val_main_v48, val_main_v49, val_main_cst_12, val_main_v50, val_main_v51, val_main_v52, val_main_v53, val_main_v54, val_main_v55, val_main_v56, val_main_v57, val_main_call0_v0, val_main_call0_v1, val_main_call0_cst, val_main_call0_v2, val_main_call0_v3, val_main_call0_cst_0, val_main_call0_v4, val_main_call0_v5, val_main_v58, val_main_v59, val_main_v60, val_main_cst_13, val_main_v61, val_main_v62, val_main_cst_14, val_main_v63, val_main_v64, val_main_v65, zero_sub]
  simp only [hS']
  blk_point [iblk, V, idx t]

/-- Columns 7168 to 9215: the payload is the sigmoid of the projected rows. -/
theorem tileE (c : Dev nD) (t : Fin cfg0.N) (h : 7 ≤ t.val % 9) (S : Vec Ideal S1024x1024 .bf16)
    (hS : ∀ (y : S1024x1024.Idx) (j : S65536x1024.Idx), (j 0 : ℕ) = t.val / 9 * 1024 + y 0 → (j 1 : ℕ) = y 1 →
      S y = val_main_v12 (F := Ideal) (m ((c : Thread nD τ).loc main_arg0)) (m ((c : Thread nD τ).loc main_arg1)) j)
    (y : S1024x1024.Idx) (j : S65536x9216.Idx) (h0 : (j 0 : ℕ) = t.val / 9 * 1024 + y 0) (h1 : (j 1 : ℕ) = t.val % 9 * 1024 + y 1) :
    k0_pay6 (F := Ideal) S (iblk m c 2 t) y
    = val_main_v66 (F := Ideal) (m ((c : Thread nD τ).loc main_arg0)) (m ((c : Thread nD τ).loc main_arg1)) (m ((c : Thread nD τ).loc main_arg2)) (m ((c : Thread nD τ).loc main_arg3)) j := by
  have hy : (y 1 : ℕ) < 1024 := (y 1).isLt
  pointwise [val_main_v65, val_main_v66]
  rw [dif_neg (show ¬(j 1 : ℕ) < 1024 by omega), dif_neg (show ¬(j 1 : ℕ) - 1024 < 1024 by omega), dif_neg (show ¬(j 1 : ℕ) - 1024 - 1024 < 4096 by omega), dif_neg (show ¬(j 1 : ℕ) - 1024 - 1024 - 4096 < 1024 by omega)]
  have hS' : ∀ (k : Fin 1024), S (ix2 (y 0) k) = val_main_v12 (F := Ideal) (m ((c : Thread nD τ).loc main_arg0)) (m ((c : Thread nD τ).loc main_arg1)) (ix2 (j 0) k) := fun k => hS _ _ h0 rfl
  pointwise [k0_pay6, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_cst_5, val_main_v29, val_main_v30, val_main_v31, val_main_v32, val_main_v33, val_main_cst_6, val_main_v34, val_main_v35, val_main_v36, val_main_cst_7, val_main_v37, val_main_v38, val_main_v39, val_main_cst_8, val_main_v40, val_main_v41, val_main_cst_9, val_main_v42, val_main_v43, val_main_v44, val_main_v45, val_main_cst_10, val_main_v46, val_main_v47, val_main_cst_11, val_main_v48, val_main_v49, val_main_cst_12, val_main_v50, val_main_v51, val_main_v52, val_main_v53, val_main_v54, val_main_v55, val_main_v56, val_main_v57, val_main_call0_v0, val_main_call0_v1, val_main_call0_cst, val_main_call0_v2, val_main_call0_v3, val_main_call0_cst_0, val_main_call0_v4, val_main_call0_v5, val_main_v58, val_main_v59, val_main_v60, val_main_cst_13, val_main_v61, val_main_v62, val_main_cst_14, val_main_v63, val_main_v64, val_main_v65, zero_sub]
  simp only [hS']
  blk_point [iblk, V, idx t]

/-- The scratch block after any grid point holds the normalised rows of that point's row block: the first column stores them and the others keep them. -/
theorem scratch (c : Dev nD) : ∀ (n : ℕ) (hn : n < cfg0.N) (y : S1024x1024.Idx) (j : S65536x1024.Idx),
    (j 0 : ℕ) = n / 9 * 1024 + y 0 → (j 1 : ℕ) = y 1 →
    (outsAt0 m c n hn).2 y
    = val_main_v12 (F := Ideal) (m ((c : Thread nD τ).loc main_arg0)) (m ((c : Thread nD τ).loc main_arg1)) j := by
  intro n
  induction n with
  | zero =>
    intro hn y j h0 h1
    rw [outsAt0_A m c ⟨0, hn⟩ rfl rfl (Nat.zero_ne_one) (fun h => absurd h.1 (by decide : ¬2 ≤ 0 % 9)) (by decide : ¬0 % 9 = 6) (by decide : ¬7 ≤ 0 % 9)]
    frame_out
    exact norm_rows m c ⟨0, hn⟩ y j h0 h1
  | succ n ih =>
    intro hn y j h0 h1
    by_cases h : (n + 1) % 9 = 0
    · rw [outsAt0_A m c ⟨n + 1, hn⟩ h h (by show ¬(n + 1) % 9 = 1; omega) (by show ¬(2 ≤ (n + 1) % 9 ∧ (n + 1) % 9 ≤ 5); omega) (by show ¬(n + 1) % 9 = 6; omega) (by show ¬7 ≤ (n + 1) % 9; omega)]
      frame_out
      exact norm_rows m c ⟨n + 1, hn⟩ y j h0 h1
    · have keep := ih (Nat.lt_of_succ_lt hn) y j (h0.trans (by congr 2; omega)) h1
      rcases (by omega : (n + 1) % 9 = 1 ∨ (2 ≤ (n + 1) % 9 ∧ (n + 1) % 9 ≤ 5) ∨ (n + 1) % 9 = 6 ∨ 7 ≤ (n + 1) % 9) with h2 | h2 | h2 | h2
      · rw [outsAt0_B m c ⟨n + 1, hn⟩ h h h2 (by show ¬(2 ≤ (n + 1) % 9 ∧ (n + 1) % 9 ≤ 5); omega) (by show ¬(n + 1) % 9 = 6; omega) (by show ¬7 ≤ (n + 1) % 9; omega)]
        exact keep
      · rw [outsAt0_C m c ⟨n + 1, hn⟩ h h (by show ¬(n + 1) % 9 = 1; omega) h2 (by show ¬(n + 1) % 9 = 6; omega) (by show ¬7 ≤ (n + 1) % 9; omega)]
        exact keep
      · rw [outsAt0_D m c ⟨n + 1, hn⟩ h h (by show ¬(n + 1) % 9 = 1; omega) (by show ¬(2 ≤ (n + 1) % 9 ∧ (n + 1) % 9 ≤ 5); omega) h2 (by show ¬7 ≤ (n + 1) % 9; omega)]
        exact keep
      · rw [outsAt0_E m c ⟨n + 1, hn⟩ h h (by show ¬(n + 1) % 9 = 1; omega) (by show ¬(2 ≤ (n + 1) % 9 ∧ (n + 1) % 9 ≤ 5); omega) (by show ¬(n + 1) % 9 = 6; omega) h2]
        exact keep

/-- The scratch block a later column reads, left by the grid point before, holds the same row block's normalised rows. -/
theorem carried (c : Dev nD) (t : Fin cfg0.N) (h : ¬t.val % 9 = 0) (hn : t.val - 1 < cfg0.N) (y : S1024x1024.Idx) (j : S65536x1024.Idx)
    (h0 : (j 0 : ℕ) = t.val / 9 * 1024 + y 0) (h1 : (j 1 : ℕ) = y 1) :
    (outsAt0 m c (t.val - 1) hn).2 y
    = val_main_v12 (F := Ideal) (m ((c : Thread nD τ).loc main_arg0)) (m ((c : Thread nD τ).loc main_arg1)) j :=
  scratch m c _ hn y j (h0.trans (by congr 2; omega)) h1

/-- The kernel's result array is the reference's: every row block and every column block of it. -/
theorem final (c : Dev nD) : (dats m 0 c).arrAt 4 (cfgs 0).N
    = val_main_v66 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 9 = 0
  · rw [outsAt0_A m c t h h (by omega) (by omega) (by omega) (by omega)]
    frame_out
    refine tileA m c t h _ (norm_rows m c t) y _ ?_ ?_ <;> blk_simp [idx t]
  rcases (by omega : t.val % 9 = 1 ∨ (2 ≤ t.val % 9 ∧ t.val % 9 ≤ 5) ∨ t.val % 9 = 6 ∨ 7 ≤ t.val % 9) with h2 | h2 | h2 | h2
  · rw [outsAt0_B m c t h h h2 (by omega) (by omega) (by omega)]
    frame_out
    rw [read_unread_whole]
    refine tileB m c t h2 _ (carried m c t h _) y _ ?_ ?_ <;> blk_simp [idx t]
  · rw [outsAt0_C m c t h h (by omega) h2 (by omega) (by omega)]
    frame_out
    rw [read_unread_whole]
    refine tileC m c t h2 _ (carried m c t h _) y _ ?_ ?_ <;> blk_simp [idx t]
  · rw [outsAt0_D m c t h h (by omega) (by omega) h2 (by omega)]
    frame_out
    rw [read_unread_whole]
    refine tileD m c t h2 _ (carried m c t h _) y _ ?_ ?_ <;> blk_simp [idx t]
  · rw [outsAt0_E m c t h h (by omega) (by omega) (by omega) h2]
    frame_out
    rw [read_unread_whole]
    refine tileE m c t h2 _ (carried m c t h _) y _ ?_ ?_ <;> blk_simp [idx t]

end Cert.InprojIdeal.Value

end
-- ==== Proof.MixValue.lean ====
module

public import proofs.«01_k».proof.Proof.Gen.MixIdeal.Frame
public import proofs.«01_k».proof.Proof.Gen.MixRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MixIdeal.Value

open Cert.MixIdeal Cert.MixIdeal.Gen
open Cert.MixRefIdeal.Read

variable (m : (ℓ : Loc nD τ sig) → Buf (Elt Ideal) ℓ)

/-- Which block of its array each window holds at a grid point. -/
theorem idx : ∀ t : Fin cfg0.N, win0_0.index t = ![t.val, 0]
    ∧ win0_1.index t = ![t.val, 1]
    ∧ win0_2.index t = ![t.val, 7]
    ∧ win0_3.index t = ![t.val, 8]
    ∧ win0_4.index t = ![t.val, 0]
    ∧ win0_5.index t = ![t.val, 0]
    ∧ win0_6.index t = ![0, 0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val, 0]
    ∧ win0_14.index t = ![t.val, 0]
    ∧ win0_15.index t = ![0, t.val] :=
  (by decide +kernel : ∀ t : Fin grid0.N, _)

/-- Rows of the merged and projected tokens: where the gated rows are the reference's, so are the rows plus their update. -/
theorem xo_rows (c : Dev nD) (t : Fin cfg0.N) (Y : Vec Ideal S512x1024 .bf16)
    (hY : ∀ (r : Fin 512) (k : Fin 1024), Y (ix2 r k) = val_main_v13 (F := Ideal) (m ((c : Thread nD τ).loc main_arg0)) (m ((c : Thread nD τ).loc main_arg3)) (m ((c : Thread nD τ).loc main_arg4)) (ix2 ⟨t.val * 512 + r.val, by have := lt_of_lt_of_eq t.isLt N_0; omega⟩ k))
    (y : S512x1024.Idx) (j : S65536x1024.Idx) (h0 : (j 0 : ℕ) = t.val * 512 + y 0) (h1 : (j 1 : ℕ) = y 1) :
    k0_pay48 (F := Ideal) Y (iblk m c 8 t) (iblk m c 4 t) (iblk m c 9 t) (iblk m c 2 t) (iblk m c 3 t) (iblk m c 5 t) (iblk m c 10 t) y
    = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  have ht : t.val < 128 := lt_of_lt_of_eq t.isLt N_0
  pointwise [k0_pay48, val_main_v0, val_main_v3, val_main_v4, val_main_v14, val_main_v15, val_main_v16, val_main_v17, val_main_v18, val_main_v19, val_main_v20, val_main_v21, zero_sub, id_eq]
  have hY' := hY (y 0)
  simp only [hY']
  blk_point [iblk, V, idx t]

/-- The staged spatial bias is the argument's, rows and columns exchanged. -/
theorem bias_at (c : Dev nD) (t : Fin cfg0.N) (x : S128x8.Idx) (j : S8x128.Idx) (h0 : (j 0 : ℕ) = x 1) (h1 : (j 1 : ℕ) = x 0) :
    iblk m c 7 t x = m ((c : Thread nD τ).loc main_arg4) j := by
  blk_point [iblk, V, idx t]

/-- One tile of the gated rows: the spatial projection of a group of 128 positions and 128 columns, with its bias, times the
    other branch. -/
theorem gated (c : Dev nD) (t : Fin cfg0.N) (g a b : ℕ) (hg : g < 8) (ha : a % 128 = 0) (ha' : a < 512) (hb : b = 128 * g)
   (x : S128x128.Idx) (j : S65536x1024.Idx) (h0 : (j 0 : ℕ) = t.val * 512 + (a + x 0)) (h1 : (j 1 : ℕ) = b + x 1)
   (i6 i1 i7 i0) :
    k0_pay4 (F := Ideal) (View.ld (iblk m c 6 t) (Rect.unit (s := S8x128x128) ![g, 0, 0] ![1, 128, 128] i6))
      (View.ld (iblk m c 1 t) (Rect.unit (s := S512x1024) ![a, b] ![128, 128] i1))
      (View.ld (iblk m c 7 t) (Rect.unit (s := S128x8) ![0, g] ![128, 1] i7))
      (View.ld (iblk m c 0 t) (Rect.unit (s := S512x1024) ![a, b] ![128, 128] i0)) x
    = val_main_v13 (F := Ideal) (m ((c : Thread nD τ).loc main_arg0)) (m ((c : Thread nD τ).loc main_arg3)) (m ((c : Thread nD τ).loc main_arg4)) j := by
  have ht : t.val < 128 := lt_of_lt_of_eq t.isLt N_0
  have hx0 : (x 0 : ℕ) < 128 := (x 0).isLt
  have hx1 : (x 1 : ℕ) < 128 := (x 1).isLt
  obtain ⟨n, rfl⟩ : ∃ n, a = 128 * n := ⟨a / 128, by omega⟩
  subst hb
  pointwise [k0_pay4, val_main_v0, val_main_v1, val_main_v2, val_main_v5, val_main_v6, val_main_v7, val_main_v8, val_main_v9, val_main_v10, val_main_v11, val_main_v12, val_main_v13, zero_sub, id_eq]
  refine Ideal.mul_congr ?_ (Ideal.add_congr (Fin.sum_fin_congr fun k => (mul_comm _ _).trans (Ideal.mul_congr ?_ ?_)) ?_)
  · blk_point [iblk, V, idx t]
  · blk_point [iblk, V, idx t]
  · blk_point [iblk, V, idx t]
  · refine bias_at m c t _ _ ?_ ?_
    · show (j 1 : ℕ) / 128 = g; omega
    · show (j 0 : ℕ) % 128 = x 0; omega

/-- Rows of the normalised tokens: where the gated rows are the reference's, so are the normalised rows. -/
theorem xn_rows (c : Dev nD) (t : Fin cfg0.N) (Y : Vec Ideal S512x1024 .bf16)
    (hY : ∀ (r : Fin 512) (k : Fin 1024), Y (ix2 r k) = val_main_v13 (F := Ideal) (m ((c : Thread nD τ).loc main_arg0)) (m ((c : Thread nD τ).loc main_arg3)) (m ((c : Thread nD τ).loc main_arg4)) (ix2 ⟨t.val * 512 + r.val, by have := lt_of_lt_of_eq t.isLt N_0; omega⟩ k))
    (y : S512x1024.Idx) (j : S65536x1024.Idx) (h0 : (j 0 : ℕ) = t.val * 512 + y 0) (h1 : (j 1 : ℕ) = y 1) :
    k0_pay49 (F := Ideal) Y (iblk m c 8 t) (iblk m c 4 t) (iblk m c 9 t) (iblk m c 2 t) (iblk m c 3 t) (iblk m c 5 t) (iblk m c 10 t) (iblk m c 11 t) y
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  have ht : t.val < 128 := lt_of_lt_of_eq t.isLt N_0
  have hX : ∀ k : Fin 1024, k0_pay48 (F := Ideal) Y (iblk m c 8 t) (iblk m c 4 t) (iblk m c 9 t) (iblk m c 2 t) (iblk m c 3 t) (iblk m c 5 t) (iblk m c 10 t) (ix2 (y 0) k)
      = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (j 0) k) := fun k => xo_rows m c t Y hY _ _ h0 rfl
  have hX1 : k0_pay48 (F := Ideal) Y (iblk m c 8 t) (iblk m c 4 t) (iblk m c 9 t) (iblk m c 2 t) (iblk m c 3 t) (iblk m c 5 t) (iblk m c 10 t) y
      = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := xo_rows m c t Y hY _ _ h0 h1
  pointwise [k0_pay49, val_main_v22, val_main_cst, val_main_v23, val_main_v24, val_main_cst_0, val_main_v25, val_main_v26, val_main_cst_1, val_main_v27, val_main_v28, val_main_v29, val_main_v30, val_main_v31, val_main_v32, val_main_v33, val_main_v34, zero_sub, id_eq]
  simp only [hX, hX1]
  blk_point [iblk, V, idx t]

/-- The staged router weights are the argument's, rows and columns exchanged. -/
theorem router_at (c : Dev nD) (t : Fin cfg0.N) (x : S16x1024.Idx) (j : S1024x16.Idx) (h0 : (j 0 : ℕ) = x 1) (h1 : (j 1 : ℕ) = x 0) :
    iblk m c 12 t x = m ((c : Thread nD τ).loc main_arg9) j := by
  blk_point [iblk, V, idx t]

/-- The router's weights, transposed: where the normalised rows are the reference's, so are the softmax weights of their tokens. -/
theorem aff_rows (c : Dev nD) (t : Fin cfg0.N) (X : Vec Ideal S512x1024 .f32)
    (hX : ∀ (i : S512x1024.Idx) (j : S65536x1024.Idx), (j 0 : ℕ) = t.val * 512 + i 0 → (j 1 : ℕ) = i 1 → X i = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j)
    (y : S16x512.Idx) (j : Cert.MixRefIdeal.S65536x16.Idx) (h0 : (j 0 : ℕ) = t.val * 512 + y 1) (h1 : (j 1 : ℕ) = y 0) :
    k0_pay1 (F := Ideal) X (iblk m c 12 t) y
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j := by
  have hX' : ∀ k : Fin 1024, X (ix2 (y 1) k) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (j 0) k) := fun k => hX _ _ h0 rfl
  have hL : ∀ (p q : Fin 16), (p : ℕ) = q → (∑ k : Fin 1024, HMul.hMul (α := EReal) (β := EReal) (γ := EReal) (iblk m c 12 t (ix2 p k)) (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (j 0) k)))
      = ∑ k : Fin 1024, HMul.hMul (α := EReal) (β := EReal) (γ := EReal) (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (j 0) k)) (m ((c : Thread nD τ).loc main_arg9) (ix2 k q)) :=
    fun p q hpq => Fin.sum_fin_congr fun k => (mul_comm _ _).trans (Ideal.mul_congr rfl (router_at m c t _ _ rfl hpq.symm))
  pointwise [k0_pay1, val_main_v35, val_main_cst_2, val_main_v36, val_main_cst_3, val_main_v37, val_main_v38, val_main_v39, val_main_v40, val_main_v41, val_main_v42, val_main_cst_4, val_main_v43, val_main_v44, val_main_v45, val_main_v46, zero_sub, id_eq]
  simp only [hX']
  rw [max_eq_right ((Finset.le_fold_max _).mpr (Or.inl le_rfl))]
  have hL' := fun q => hL q q rfl
  simp only [hL']
  exact congrArg (fun z => Ideal.div (Ideal.exp (z - _)) _) (hL _ _ h1.symm)

/-- The output rows after the run are the reference's. -/
theorem final13 (c : Dev nD) : (dats m 0 c).arrAt 13 (cfgs 0).N
    = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp; rw [after0_13]
  unfold outsAt0
  frame_out
  refine xo_rows m c t _ (fun r k => ?_) y _ ?_ ?_
  · rw [View.readCov_eq_canon']
    canon_tiles x h
    all_goals
      have e0 : 0 + 1 * r.val = _ := h0
      have e1 : 0 + 1 * k.val = _ := h1
      refine gated m c t _ _ _ (by decide) (by decide) (by decide) (by decide) x _ ?_ ?_ _ _ _ _
      · show t.val * 512 + r.val = _; omega
      · show k.val = _; omega
  all_goals blk_simp [idx t]

/-- The router's weights after the run are the reference's. -/
theorem final15 (c : Dev nD) : (dats m 0 c).arrAt 15 (cfgs 0).N
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp; rw [after0_15]
  unfold outsAt0
  frame_out
  rw [val_main_v50_apply]
  refine aff_rows m c t _ (xn_rows m c t _ (fun r k => ?_)) y _ ?_ ?_
  · rw [View.readCov_eq_canon']
    canon_tiles x h
    all_goals
      have e0 : 0 + 1 * r.val = _ := h0
      have e1 : 0 + 1 * k.val = _ := h1
      refine gated m c t _ _ _ (by decide) (by decide) (by decide) (by decide) x _ ?_ ?_ _ _ _ _
      · show t.val * 512 + r.val = _; omega
      · show k.val = _; omega
  · show (((win0_15.blk t).view.emb y) 1 : ℕ) = _
    blk_simp [idx t]
  · show (((win0_15.blk t).view.emb y) 0 : ℕ) = _
    blk_simp [idx t]

end Cert.MixIdeal.Value

end
-- ==== Proof.MixGates.lean ====
module

public import proofs.«01_k».proof.Proof.MixValue
public import proofs.«01_k».proof.Proof.MixFinite

@[expose] public section

set_option maxRecDepth 16384

noncomputable section

open Idealize.ShloMosaic Idealize.ShloMosaic.TcCoe Idealize.SL.Sem
open Idealize.ShloMosaic.Pipeline (Dat)
open scoped BigOperators

namespace Cert.MixIdeal.Value

open Cert.MixIdeal Cert.MixIdeal.Gen
open Cert.MixRefIdeal.Read
open Cert.MixRefIdeal.Finite (IsReal)

variable (m : (ℓ : Loc nD τ sig) → Buf (Elt Ideal) ℓ)

/-- The reference's packed row holds the normalised row in its first 1024 columns, then the row's sixteen gates, then
zeros. -/
theorem packed_xn (c : Dev nD) (j : Cert.MixRefIdeal.S65536x1152.Idx) (i : S65536x1024.Idx) (hj : (j 1 : ℕ) < 1024)
    (h0 : (i 0 : ℕ) = j 0) (h1 : (i 1 : ℕ) = j 1) :
    val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  pointwise [val_main_v48, val_main_v49, zero_sub, id_eq]
  rw [dif_pos (show (j 1 : ℕ) < 1024 by omega)]
  exact congrArg _ (Shape.idx_ext₂ h0.symm h1.symm)

theorem packed_gate (c : Dev nD) (j : Cert.MixRefIdeal.S65536x1152.Idx) (i : Cert.MixRefIdeal.S65536x16.Idx) (hj : 1024 ≤ (j 1 : ℕ))
    (hj' : (j 1 : ℕ) < 1040) (h0 : (i 0 : ℕ) = j 0) (h1 : 1024 + (i 1 : ℕ) = j 1) :
    val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i := by
  pointwise [val_main_v48, val_main_v49, zero_sub, id_eq]
  rw [dif_neg (show ¬(j 1 : ℕ) < 1024 by omega), dif_pos (show (j 1 : ℕ) - 1024 < 16 by omega)]
  exact congrArg _ (Shape.idx_ext₂ h0.symm (by show (j 1 : ℕ) - 1024 = i 1; omega))

theorem packed_zero (c : Dev nD) (j : Cert.MixRefIdeal.S65536x1152.Idx) (hj : 1040 ≤ (j 1 : ℕ)) :
    val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j = 0 := by
  pointwise [val_main_v48, val_main_v49, val_main_v47, val_main_cst_5, zero_sub, id_eq]
  rw [dif_neg (show ¬(j 1 : ℕ) < 1024 by omega), dif_neg (show ¬(j 1 : ℕ) - 1024 < 16 by omega)]

/-- The gates of a block as the kernel packs them: sixteen lanes of gates and, the gates being real numbers, zeros in the
lanes of the second and third terms. -/
theorem packed_rows (c : Dev nD) (t : Fin cfg0.N) (X : Vec Ideal S512x1024 .f32)
    (hX : ∀ (i : S512x1024.Idx) (j : S65536x1024.Idx), (j 0 : ℕ) = t.val * 512 + i 0 → (j 1 : ℕ) = i 1 → X i = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j)
    (hfin : ∀ i, IsReal (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i))
    (y : S512x128.Idx) (j : Cert.MixRefIdeal.S65536x1152.Idx) (h0 : (j 0 : ℕ) = t.val * 512 + y 0) (h1 : (j 1 : ℕ) = 1024 + y 1) :
    k0_pay3 (F := Ideal) X (iblk m c 12 t) y = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j := by
  have ht : t.val < 128 := lt_of_lt_of_eq t.isLt N_0
  have hy0 : (y 0 : ℕ) < 512 := (y 0).isLt
  have hy1 : (y 1 : ℕ) < 128 := (y 1).isLt
  have haff : ∀ (e : Fin 16), k0_pay1 (F := Ideal) X (iblk m c 12 t) (ix2 e (y 0)) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (j 0) e) :=
    fun e => aff_rows m c t X hX _ _ h0 rfl
  pointwise [k0_pay3, zero_sub, id_eq]
  by_cases c0 : (y 1 : ℕ) < 16
  · rw [dif_pos c0, packed_gate m c j (ix2 (j 0) ⟨y 1, c0⟩) (by omega) (by omega) rfl h1.symm]
    exact haff _
  rw [dif_neg c0, packed_zero m c j (by omega)]
  by_cases c1 : (y 1 : ℕ) - 16 < 16
  · rw [dif_pos c1, haff]; exact (hfin _).sub_self
  rw [dif_neg c1]
  by_cases c2 : (y 1 : ℕ) - 16 - 16 < 16
  · rw [dif_pos c2, haff, (hfin _).sub_self]; exact sub_zero 0
  rw [dif_neg c2]

/-- A block's normalised rows and its packed gates side by side are the reference's packed rows. -/
theorem packed_block (c : Dev nD) (t : Fin cfg0.N) (X : Vec Ideal S512x1024 .f32)
    (hX : ∀ (i : S512x1024.Idx) (j : S65536x1024.Idx), (j 0 : ℕ) = t.val * 512 + i 0 → (j 1 : ℕ) = i 1 → X i = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j)
    (hfin : ∀ i, IsReal (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i))
    (y : S512x1152.Idx) (j : Cert.MixRefIdeal.S65536x1152.Idx) (i0 : (j 0 : ℕ) = t.val * 512 + y 0) (i1 : (j 1 : ℕ) = y 1) :
    View.canon (Val := Elt Ideal) (s := S512x1152) (e := .bf16)
      [⟨Rect.unit ![0, 1024] ![512, 128] inb_S512x1152_S512x128_0_1024, k0_pay3 (F := Ideal) X (iblk m c 12 t)⟩,
       ⟨Rect.unit ![0, 0] ![512, 1024] inb_S512x1152_S512x1024_0_0, k0_pay2 (F := Ideal) X⟩] y = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j := by
  have hy0 : (y 0 : ℕ) < 512 := (y 0).isLt
  have hy1 : (y 1 : ℕ) < 1152 := (y 1).isLt
  have hc : ∃ p ∈ ([⟨Rect.unit ![0, 1024] ![512, 128] inb_S512x1152_S512x128_0_1024, k0_pay3 (F := Ideal) X (iblk m c 12 t)⟩,
       ⟨Rect.unit ![0, 0] ![512, 1024] inb_S512x1152_S512x1024_0_0, k0_pay2 (F := Ideal) X⟩] : List (View.Piece (Elt Ideal) S512x1152 .bf16)), y ∈ p.1.set := by
    by_cases hy : (y 1 : ℕ) < 1024
    · exact ⟨_, List.mem_cons_of_mem _ List.mem_cons_self, (Rect.mem_set_unit (inb := inb_S512x1152_S512x1024_0_0)).mpr (Fin.forall_fin_two.mpr
        ⟨⟨Nat.zero_le _, by show (y 0 : ℕ) < 0 + 512; omega⟩, ⟨Nat.zero_le _, by show (y 1 : ℕ) < 0 + 1024; omega⟩⟩)⟩
    · exact ⟨_, List.mem_cons_self, (Rect.mem_set_unit (inb := inb_S512x1152_S512x128_0_1024)).mpr (Fin.forall_fin_two.mpr
        ⟨⟨Nat.zero_le _, by show (y 0 : ℕ) < 0 + 512; omega⟩, ⟨by show 1024 ≤ (y 1 : ℕ); omega, by show (y 1 : ℕ) < 1024 + 128; omega⟩⟩)⟩
  canon_tiles x h using hc
  · exact packed_rows m c t X hX hfin x j (by omega) (by omega)
  · have hx : (x 1 : ℕ) < 1024 := (x 1).isLt
    refine (hX x (ix2 (j 0) ⟨x 1, hx⟩) (by show (j 0 : ℕ) = _; omega) rfl).trans (packed_xn m c j _ (by omega) rfl ?_).symm
    show (x 1 : ℕ) = _
    omega

/-- The packed rows after the run are the reference's, where the reference's gates are real numbers. -/
theorem final14 (c : Dev nD) (hfin : ∀ i, IsReal (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i)) : (dats m 0 c).arrAt 14 (cfgs 0).N = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp; rw [after0_14]
  unfold outsAt0
  frame_out
  refine packed_block m c t _ (xn_rows m c t _ (fun r k => ?_)) hfin y _ ?_ ?_
  · rw [View.readCov_eq_canon']
    canon_tiles x h
    all_goals
      have e0 : 0 + 1 * r.val = _ := h0
      have e1 : 0 + 1 * k.val = _ := h1
      refine gated m c t _ _ _ (by decide) (by decide) (by decide) (by decide) x _ ?_ ?_ _ _ _ _
      · show t.val * 512 + r.val = _; omega
      · show k.val = _; omega
  all_goals blk_simp [idx t]

end Cert.MixIdeal.Value

end
-- ==== Proof.FfnValue.lean ====
module

public import proofs.«01_k».proof.Proof.Gen.FfnIdeal.Frame
public import proofs.«01_k».proof.Proof.Gen.FfnRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen
open Cert.FfnRefIdeal.Read

variable (m : (ℓ : Loc nD τ sig) → Buf (Elt Ideal) ℓ)

/-- Which block of its array each window holds at a grid point: the expert, and for the rows the row block too. -/
theorem idx : ∀ t : Fin cfg0.N, win0_0.index t = ![t.val / 16, t.val % 16, 0]
    ∧ win0_1.index t = ![t.val / 16, 0, 0]
    ∧ win0_2.index t = ![t.val / 16, 0, 0]
    ∧ win0_3.index t = ![t.val / 16, 0, 0]
    ∧ win0_4.index t = ![t.val / 16, t.val % 16, 0] ∧ ((grid0.coords t) 0).val = t.val / 16 :=
  (by decide +kernel : ∀ t : Fin grid0.N, _)

/-- The staged row block is the array's rows at the block's place. -/
theorem rows (c : Dev nD) (t : Fin cfg0.N) (x : S1x512x1152.Idx) (j : S16x8336x1152.Idx)
    (h0 : (j 0 : ℕ) = t.val / 16) (h1 : (j 1 : ℕ) = t.val % 16 * 512 + x 1) (h2 : (j 2 : ℕ) = x 2) :
    X0_0 m c t x = m ((c : Thread nD τ).loc main_arg0) j := by
  unfold X0_0 Pipeline.Window.fill
  rw [dif_pos (moved0_0 t x)]
  blk_ext [iblk, V, idx t]

/-- The lanes that carry the terms of one expert's gate: those below 48 whose number modulo 16 is the expert's. -/
theorem lane_bit (e : Fin 16) (l : Fin 128) :
    IntOp.andi (IntOp.cmpi CmpIPredicate.eq (IntOp.andi (BitVec.ofNat 32 l.val) 15#32) (BitVec.ofNat 32 e.val))
      (IntOp.cmpi CmpIPredicate.slt (BitVec.ofNat 32 l.val) 48#32)
    = if l.val / 16 < 3 ∧ l.val % 16 = e.val then 1#1 else 0#1 := by
  revert e l; decide +kernel

theorem own_bit (e q : Fin 16) :
    IntOp.cmpi CmpIPredicate.eq (BitVec.ofNat 32 e.val) (BitVec.ofNat 32 q.val) = if q = e then 1#1 else 0#1 := by
  revert e q; decide +kernel

/-- A row's gate: the sum over all lanes of those that carry a term of the expert is the sum over the experts, the other
    experts' left out, of the three terms. -/
theorem gate_sum (e : ℕ) (he : e < 16) (f : Fin 128 → EReal) :
    (∑ l : Fin 128, Scalar.select
      (IntOp.andi (IntOp.cmpi CmpIPredicate.eq (IntOp.andi (BitVec.ofNat 32 l.val) 15#32) (BitVec.ofNat 32 e))
        (IntOp.cmpi CmpIPredicate.slt (BitVec.ofNat 32 l.val) 48#32)) (f l) 0)
    = ∑ q : Fin 16, Scalar.select (IntOp.cmpi CmpIPredicate.eq (BitVec.ofNat 32 e) (BitVec.ofNat 32 q.val))
        (∑ j : Fin 3, f ⟨j.val * 16 + q.val, by omega⟩) 0 := by
  have hl : ∀ l : Fin 128, Scalar.select
      (IntOp.andi (IntOp.cmpi CmpIPredicate.eq (IntOp.andi (BitVec.ofNat 32 l.val) 15#32) (BitVec.ofNat 32 e))
        (IntOp.cmpi CmpIPredicate.slt (BitVec.ofNat 32 l.val) 48#32)) (f l) 0
      = if l.val / 16 < 3 ∧ l.val % 16 = e then f l else 0 := by
    intro l; rw [lane_bit ⟨e, he⟩ l]; split <;> simp [Scalar.select]
  have hq : ∀ q : Fin 16, Scalar.select (IntOp.cmpi CmpIPredicate.eq (BitVec.ofNat 32 e) (BitVec.ofNat 32 q.val))
        (∑ j : Fin 3, f ⟨j.val * 16 + q.val, by omega⟩) 0
      = if q = ⟨e, he⟩ then ∑ j : Fin 3, f ⟨j.val * 16 + q.val, by omega⟩ else 0 := by
    intro q; rw [own_bit ⟨e, he⟩ q]; split <;> simp [Scalar.select]
  rw [Finset.sum_congr rfl fun l _ => hl l, Finset.sum_congr rfl fun q _ => hq q, Finset.sum_ite_eq' Finset.univ (⟨e, he⟩ : Fin 16),
    if_pos (Finset.mem_univ _), Fin.sum_univ_tiles 8 16 rfl]
  have hin : ∀ p : Fin 8, (∑ q : Fin 16, if (p.val * 16 + q.val) / 16 < 3 ∧ (p.val * 16 + q.val) % 16 = e
      then f ⟨p.val * 16 + q.val, by omega⟩ else 0)
      = if h : p.val < 3 then f ⟨p.val * 16 + e, by omega⟩ else 0 := by
    intro p
    by_cases h : p.val < 3
    · rw [dif_pos h, Finset.sum_eq_single ⟨e, he⟩]
      · exact if_pos ⟨by show _ < 3; simp; omega, by simp; omega⟩
      · intro b _ hb
        refine if_neg fun hc => hb (Fin.ext ?_)
        have h2 : (p.val * 16 + b.val) % 16 = e := hc.2
        show b.val = e
        omega
      · exact fun hn => absurd (Finset.mem_univ _) hn
    · rw [dif_neg h]
      exact Finset.sum_eq_zero fun q _ => if_neg fun hc => h (by have h1 : (p.val * 16 + q.val) / 16 < 3 := hc.1; omega)
  refine (Finset.sum_congr rfl fun p _ => hin p).trans ?_
  simp [Fin.sum_univ_eight, Fin.sum_univ_three]

/-- At a point of the grid, what the body stores in the output block is the reference's result at that block's place. -/
theorem point (c : Dev nD) (t : Fin cfg0.N) (y : S1x512x1024.Idx) :
    k0_pay1 (F := Ideal) (k0_pay2 (grid0.coords t) (View.ld (X0_0 m c t) (Rect.unit (s := S1x512x1152) ![0, 0, 1024] S1x512x128.size inb_S1x512x1152_S1x512x128_0_0_1024)))
      (k0_pay3 (View.ld (X0_0 m c t) (Rect.unit (s := S1x512x1152) ![0, 0, 0] S1x512x1024.size inb_S1x512x1152_S1x512x1024_0_0_0)) (iblk m c 1 t) (iblk m c 2 t)) (iblk m c 3 t) y
    = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have hy : (y 0 : ℕ) < 1 := (y 0).isLt
  have ht : t.val < 256 := lt_of_lt_of_eq t.isLt N_0
  have he : ((grid0.coords t) 0).val = (⟨t.val / 16, by omega⟩ : Fin 16).val := (idx t).2.2.2.2.2
  pointwise [k0_pay1, k0_pay2, k0_pay3, val_main_v0, val_main_v1, val_main_v2, val_main_v3, val_main_v4, val_main_v5, val_main_v6, val_main_v7, val_main_v8, val_main_v9, val_main_v10, val_main_v11, val_main_cst, val_main_v12, val_main_cst_0, val_main_call0_v0, val_main_call0_v1, val_main_call0_v2, id_eq, val_main_v13, val_main_cst_1, val_main_v14, val_main_v15, val_main_call1_v0, val_main_call1_v1, val_main_call1_cst, val_main_call1_v2, val_main_call1_v3, val_main_call1_cst_0, val_main_call1_v4, val_main_call1_v5, val_main_v16, val_main_v17, val_main_v18, val_main_v19, val_main_v20, val_main_v21, val_main_v22, val_main_v23]
  simp only [he, zero_sub]
  refine Ideal.mul_congr ?_ ((gate_sum _ (by omega) _).trans ?_)
  · blk_point [iblk, V, idx t]
    all_goals
      refine rows m c t _ _ ?_ ?_ ?_ <;> blk_simp [idx t] <;> (try omega)
  · blk_point [iblk, V, idx t]
    all_goals
      refine rows m c t _ _ ?_ ?_ ?_ <;> blk_simp [idx t] <;> (try omega)

/-- The output array after the run is the reference's result. -/
theorem final (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  unfold outsAt0
  frame_out
  exact point m c t y

end Cert.FfnIdeal.Value

end
-- ==== Proof.LbValue.lean ====
module

public import proofs.«01_k».proof.Proof.Gen.LbIdeal.Value
public import proofs.«01_k».proof.Proof.Gen.LbRefIdeal.Read
public import proofs.«01_k».proof.Pre_finite_logits
public import proofs.«01_k».proof.Proof.MixFinite
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.LbIdeal.Value

open Cert.LbIdeal Cert.LbIdeal.Gen
open Cert.LbRefIdeal.Read
open Cert.MixRefIdeal.Finite

/-- The four positions of a window that spans the layers. -/
theorem window_idx : ∀ n : Fin (⟨3, ![1, 4, 1]⟩ : Shape).numel,
    (((⟨3, ![1, 4, 1]⟩ : Shape).rowMajor.symm n 0).val = 0 ∧ ((⟨3, ![1, 4, 1]⟩ : Shape).rowMajor.symm n 1).val = n.val)
      ∧ ((⟨3, ![1, 4, 1]⟩ : Shape).rowMajor.symm n 2).val = 0 := by
  decide +kernel

/-- What one position of the window at layer `l` holds: a layer's share, or nothing before the first layer. -/
theorem position (x : S2x4x1024.Idx → EReal) (a : Fin 2) (l : Fin 4) (b : Fin 1024) (n : Fin (⟨3, ![1, 4, 1]⟩ : Shape).numel) (h) :
    (if hin : ∀ d : Fin 3, (![0, 3, 0] : Fin 3 → ℕ) d ≤ ((ix3 a l b : S2x4x1024.Idx) (d.cast h)).val * (![1, 1, 1] : Fin 3 → ℕ) d + ((⟨3, ![1, 4, 1]⟩ : Shape).rowMajor.symm n d).val
        ∧ ((ix3 a l b : S2x4x1024.Idx) (d.cast h)).val * (![1, 1, 1] : Fin 3 → ℕ) d + ((⟨3, ![1, 4, 1]⟩ : Shape).rowMajor.symm n d).val - (![0, 3, 0] : Fin 3 → ℕ) d < S2x4x1024.size d
      then x (fun d => ⟨((ix3 a l b : S2x4x1024.Idx) (d.cast h)).val * (![1, 1, 1] : Fin 3 → ℕ) d + ((⟨3, ![1, 4, 1]⟩ : Shape).rowMajor.symm n d).val - (![0, 3, 0] : Fin 3 → ℕ) d, (hin d).2⟩)
      else (0 : EReal))
    = if hk : 3 ≤ l.val + n.val ∧ l.val + n.val - 3 < 4 then x (ix3 a ⟨l.val + n.val - 3, hk.2⟩ b) else 0 := by
  obtain ⟨⟨w0, w1⟩, w2⟩ := window_idx n
  have ha := a.isLt
  have hb := b.isLt
  by_cases hk : 3 ≤ l.val + n.val ∧ l.val + n.val - 3 < 4
  · rw [dif_pos hk, dif_pos]
    · refine congrArg x (funext fun d => Fin.ext ?_)
      match d with
      | ⟨0, _⟩ => show a.val * 1 + ((⟨3, ![1, 4, 1]⟩ : Shape).rowMajor.symm n 0).val - 0 = a.val; omega
      | ⟨1, _⟩ => show l.val * 1 + ((⟨3, ![1, 4, 1]⟩ : Shape).rowMajor.symm n 1).val - 3 = l.val + n.val - 3; omega
      | ⟨2, _⟩ => show b.val * 1 + ((⟨3, ![1, 4, 1]⟩ : Shape).rowMajor.symm n 2).val - 0 = b.val; omega
    · intro d
      match d with
      | ⟨0, _⟩ => show 0 ≤ a.val * 1 + ((⟨3, ![1, 4, 1]⟩ : Shape).rowMajor.symm n 0).val ∧ a.val * 1 + ((⟨3, ![1, 4, 1]⟩ : Shape).rowMajor.symm n 0).val - 0 < 2; omega
      | ⟨1, _⟩ => show 3 ≤ l.val * 1 + ((⟨3, ![1, 4, 1]⟩ : Shape).rowMajor.symm n 1).val ∧ l.val * 1 + ((⟨3, ![1, 4, 1]⟩ : Shape).rowMajor.symm n 1).val - 3 < 4; omega
      | ⟨2, _⟩ => show 0 ≤ b.val * 1 + ((⟨3, ![1, 4, 1]⟩ : Shape).rowMajor.symm n 2).val ∧ b.val * 1 + ((⟨3, ![1, 4, 1]⟩ : Shape).rowMajor.symm n 2).val - 0 < 1024; omega
  · rw [dif_neg hk, dif_neg]
    intro hin
    have h1 := hin 1
    change 3 ≤ l.val * 1 + ((⟨3, ![1, 4, 1]⟩ : Shape).rowMajor.symm n 1).val ∧ l.val * 1 + ((⟨3, ![1, 4, 1]⟩ : Shape).rowMajor.symm n 1).val - 3 < 4 at h1
    omega

/-- A sum over four positions, one after the other. -/
theorem four_steps (f : Fin 4 → EReal) : List.foldl (fun r n => r + f n) 0 (List.finRange 4) = f 0 + f 1 + f 2 + f 3 := by
  rw [show List.finRange 4 = [0, 1, 2, 3] from rfl]
  simp only [List.foldl_cons, List.foldl_nil, zero_add]

/-- The running sum over the layers, from the window that it is printed as: at layer `l` the shares of the layers up to `l`. -/
theorem running (x : S2x4x1024.Idx → EReal) {u : Shape} (init : u.Idx → EReal) (h0 : ∀ i, init i = 0) (h) (hu) (a : Fin 2) (l : Fin 4) (b : Fin 1024) :
    Host.reduceWindow (t := S2x4x1024) (u := u) (· + ·) ![1, 4, 1] ![1, 1, 1] ![0, 3, 0] ![0, 0, 0] x init h hu (ix3 a l b)
    = ∑ k : Fin 4, if k ≤ l then x (ix3 a k b) else 0 := by
  unfold Host.reduceWindow
  simp only [h0]
  refine (congrArg (fun g => List.foldl g 0 (List.finRange (⟨3, ![1, 4, 1]⟩ : Shape).numel)) (funext fun r => funext fun n =>
    congrArg (r + ·) (position x a l b n _))).trans ?_
  refine (four_steps (fun n => if hk : 3 ≤ l.val + n.val ∧ l.val + n.val - 3 < 4 then x (ix3 a ⟨l.val + n.val - 3, hk.2⟩ b) else 0)).trans ?_
  rw [Fin.sum_univ_four]
  match l with
  | 0 => simp
  | 1 => simp
  | 2 => simp
  | 3 => simp

/-- The share of each layer: the kernel's softmax is the reference's. -/
theorem share (x : Vec Ideal S2x4x1024 .f32) (i : S2x4x1024.Idx) : k0_pay1 (F := Ideal) x i = val_main_v10 (F := Ideal) x i := by
  pointwise [k0_pay1, val_main_v0, val_main_cst, val_main_v1, val_main_cst_0, val_main_v2, val_main_v3, val_main_v4, val_main_v5, val_main_v6, val_main_cst_1, val_main_v7, val_main_v8, val_main_v9, val_main_v10]
  rw [ofBits_bot]
  simp only [max_eq_right bot_le]

/-- The share of each layer is a real number where the logits are. -/
theorem share_real (x : Vec Ideal S2x4x1024 .f32) (hx : ∀ i, IsReal (x i)) (i : S2x4x1024.Idx) : IsReal (val_main_v10 (F := Ideal) x i) := by
  rw [← share]
  pointwise [k0_pay1]
  rw [ofBits_bot]
  have hm : ∀ a b, IsReal (Finset.fold max ⊥ (fun k : Fin 4 => x (ix3 a k b)) Finset.univ) := fun a b => .fold_max fun k => hx _
  have he := fun (a : Fin 2) (b : Fin 1024) (k : Fin 4) => ((hx (ix3 a k b)).sub (hm a b)).exp
  have hs := IsPos.sum_pos (he (i 0) (i 2))
  rw [Ideal.ofBits_zero_f32, zero_add] at hs
  exact ((hx i).sub (hm _ _)).exp.real.div hs

/-- The reference at a layer: the shares of the layers up to it less the first layer's. -/
theorem ref_at (x : Vec Ideal S2x4x1024 .f32) (a : Fin 2) (l : Fin 4) (b : Fin 1024) :
    val_main_v14 (F := Ideal) x (ix3 a l b) = (∑ k : Fin 4, if k ≤ l then val_main_v10 (F := Ideal) x (ix3 a k b) else 0)
      - ∑ k : Fin 4, if k ≤ 0 then val_main_v10 (F := Ideal) x (ix3 a k b) else 0 := by
  have h11 : ∀ l : Fin 4, val_main_v11 (F := Ideal) x (ix3 a l b) = ∑ k : Fin 4, if k ≤ l then val_main_v10 (F := Ideal) x (ix3 a k b) else 0 := fun l => by
    refine running (val_main_v10 (F := Ideal) x) _ (fun i => ?_) Cert.LbRefIdeal.Facts₀.reduceWindows_S2x4x1024_S2x4x1024_w1s1p0_0_w4s1p3_0_w1s1p0_0 (by decide) a l b
    show val_main_call0_call0_v0 (F := Ideal) _ = 0
    rw [val_main_call0_call0_v0_apply, val_main_call0_call0_cst_apply]
    exact Ideal.ofBits_zero_f32
  rw [val_main_v14_apply, val_main_v13_apply, val_main_v12_apply, h11]
  refine congrArg (_ - ·) ((congrArg (val_main_v11 (F := Ideal) x) ?_).trans (h11 0))
  funext d
  match d with
  | ⟨0, _⟩ => rfl
  | ⟨1, _⟩ => rfl
  | ⟨2, _⟩ => rfl

/-- What the kernel writes at each layer: the running sum of the shares, the first layer's left out. -/
theorem written0 (z : S2x1x1024.Idx) : k0_pay2 (F := Ideal) z = 0 := by
  pointwise [k0_pay2]

theorem written1 (x : Vec Ideal S2x4x1024 .f32) (z : S2x1x1024.Idx) :
    k0_pay3 (F := Ideal) x z = val_main_v10 (F := Ideal) x (ix3 (z 0) 1 (z 2)) := by
  rw [← share]
  have hz : (z 1 : ℕ) < 1 := (z 1).isLt
  unfold k0_pay3
  generalize k0_pay1 (F := Ideal) x = p
  pointwise [written0]

theorem written2 (x : Vec Ideal S2x4x1024 .f32) (z : S2x1x1024.Idx) :
    k0_pay4 (F := Ideal) x z = val_main_v10 (F := Ideal) x (ix3 (z 0) 1 (z 2)) + val_main_v10 (F := Ideal) x (ix3 (z 0) 2 (z 2)) := by
  rw [← written1, ← share]
  unfold k0_pay4
  generalize k0_pay1 (F := Ideal) x = p
  pointwise

theorem written3 (x : Vec Ideal S2x4x1024 .f32) (z : S2x1x1024.Idx) :
    k0_pay5 (F := Ideal) x z = val_main_v10 (F := Ideal) x (ix3 (z 0) 1 (z 2)) + val_main_v10 (F := Ideal) x (ix3 (z 0) 2 (z 2)) + val_main_v10 (F := Ideal) x (ix3 (z 0) 3 (z 2)) := by
  rw [← written2, ← share]
  unfold k0_pay5
  generalize k0_pay1 (F := Ideal) x = p
  pointwise

/-- The block that the kernel writes is the reference's array, where the logits are real. -/
theorem block (x : Vec Ideal S2x4x1024 .f32) (hx : ∀ i, IsReal (x i)) (a : Fin 2) (l : Fin 4) (b : Fin 1024) :
    G1 (F := Ideal) x (ix3 a l b) = val_main_v14 (F := Ideal) x (ix3 a l b) := by
  obtain ⟨r0, e0⟩ := share_real x hx (ix3 a 0 b)
  obtain ⟨r1, e1⟩ := share_real x hx (ix3 a 1 b)
  obtain ⟨r2, e2⟩ := share_real x hx (ix3 a 2 b)
  obtain ⟨r3, e3⟩ := share_real x hx (ix3 a 3 b)
  rw [ref_at]
  simp only [Fin.sum_univ_four, e0, e1, e2, e3]
  unfold G1
  canon_tiles z h
  case piece0 =>
    have ha : z 0 = a := Fin.ext h0.symm
    have hb : z 2 = b := Fin.ext h2.symm
    have hl : l = 3 := Fin.ext (by have e : (l : ℕ) = 3 + (z 1).val := h1; show (l : ℕ) = 3; omega)
    rw [written3, ha, hb, e1, e2, e3, hl]
    simp only [Fin.isValue, Fin.reduceLE, le_refl, if_true, if_false, add_zero]
    simp only [← EReal.coe_add, ← EReal.coe_sub, ← EReal.coe_zero]
    exact congrArg _ (by ring)
  case piece1 =>
    have ha : z 0 = a := Fin.ext h0.symm
    have hb : z 2 = b := Fin.ext h2.symm
    have hl : l = 2 := Fin.ext (by have e : (l : ℕ) = 2 + (z 1).val := h1; show (l : ℕ) = 2; omega)
    rw [written2, ha, hb, e1, e2, hl]
    simp only [Fin.isValue, Fin.reduceLE, le_refl, if_true, if_false, add_zero]
    simp only [← EReal.coe_add, ← EReal.coe_sub, ← EReal.coe_zero]
    exact congrArg _ (by ring)
  case piece2 =>
    have ha : z 0 = a := Fin.ext h0.symm
    have hb : z 2 = b := Fin.ext h2.symm
    have hl : l = 1 := Fin.ext (by have e : (l : ℕ) = 1 + (z 1).val := h1; show (l : ℕ) = 1; omega)
    rw [written1, ha, hb, e1, hl]
    simp only [Fin.isValue, Fin.reduceLE, le_refl, if_true, if_false, add_zero]
    simp only [← EReal.coe_add, ← EReal.coe_sub, ← EReal.coe_zero]
    exact congrArg _ (by ring)
  case piece3 =>
    have hl : l = 0 := Fin.ext (by have e : (l : ℕ) = (z 1).val := h1; show (l : ℕ) = 0; omega)
    rw [written0, hl]
    simp only [Fin.isValue, Fin.reduceLE, le_refl, if_true, if_false, add_zero]
    simp only [← EReal.coe_add, ← EReal.coe_sub, ← EReal.coe_zero]
    exact congrArg _ (by ring)

/-- The lower bounds after the run are the reference's, where the logits are real. -/
theorem bounds (x : Vec Ideal S2x4x1024 .f32) (hx : ∀ i, IsReal (x i)) : G1 (F := Ideal) x = val_main_v14 (F := Ideal) x := by
  funext y
  have e : (ix3 (y 0) (y 1) (y 2) : S2x4x1024.Idx) = y := by
    funext d; match d with | ⟨0, _⟩ => rfl | ⟨1, _⟩ => rfl | ⟨2, _⟩ => rfl
  have h := block x hx (y 0) (y 1) (y 2)
  rwa [e] at h

end Cert.LbIdeal.Value

namespace Cert.Pre_finite_logits

open Cert.MixRefIdeal.Finite

/-- The shape relation of the precondition's operation. -/
instance facts : Facts where
  bcast_S_S2x4x1024 := by decide

/-- The precondition, read: every logit is a real number. -/
theorem real (x : FVec Ideal S2x4x1024 .f32) (h : fn (F := Ideal) x = fun _ => 1#1) : ∀ i, IsReal (x i) :=
  fun i => isReal_of_abs Cert.Pre_finite_args.top_f32 (congrFun h i)

end Cert.Pre_finite_logits

end
-- ==== Proof.lean ====
module

public import proofs.«01_k».proof.Defs
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Lb.Frame
public import proofs.«01_k».proof.Proof.Gen.LbIdeal.Frame
public import proofs.«01_k».proof.Proof.Gen.LbIdeal.Value
public import proofs.«01_k».proof.Proof.Gen.LbRefIdeal.Run
public import proofs.«01_k».proof.Proof.Gen.LbRefIdeal.Read
public import proofs.«01_k».proof.Proof.Gen.HgrnRefIdeal.Run
public import proofs.«01_k».proof.Proof.Gen.HgrnRefIdeal.Read
public import proofs.«01_k».proof.Proof.HgrnFrame
public import proofs.«01_k».proof.Proof.HgrnIdealFrame
public import proofs.«01_k».proof.Proof.Gen.SelectRefIdeal.Run
public import proofs.«01_k».proof.Proof.Gen.SelectRefIdeal.Read
public import proofs.«01_k».proof.Proof.SelFrame
public import proofs.«01_k».proof.Proof.SelIdealFrame
public import proofs.«01_k».proof.Proof.SelValue
public import proofs.«01_k».proof.Proof.SelRef
public import proofs.«01_k».proof.Proof.ScanValue
public import proofs.«01_k».proof.Proof.InprojValue
public import proofs.«01_k».proof.Proof.MixGates
public import proofs.«01_k».proof.Proof.FfnValue
public import proofs.«01_k».proof.Proof.LbValue
public import proofs.«01_k».proof.Proof.Gen.InprojIdeal.Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Mix

/-- The routing reference runs to the end and leaves its arguments alone. -/
theorem mixRef_frame : Cert.quiescent_MixRefIdeal := fun m g _ =>
  (θ_run _ _ _).mono (fun r h => ⟨fun c => (h c).2.2.2, sem_eq_zero_of_no_sems (by decide) _⟩) (Cert.MixRefIdeal.Value.run m g)

/-- The projection reference runs to the end and leaves its arguments alone. -/
theorem inprojRef_frame : Cert.quiescent_InprojRefIdeal := fun m g _ =>
  (θ_run _ _ _).mono (fun r h => ⟨fun c => (h c).2, sem_eq_zero_of_no_sems (by decide) _⟩) (Cert.InprojRefIdeal.Value.run m g)

/-- The feed-forward reference runs to the end and leaves its arguments alone. -/
theorem ffnRef_frame : Cert.quiescent_FfnRefIdeal := fun m g _ =>
  (θ_run _ _ _).mono (fun r h => ⟨fun c => (h c).2, sem_eq_zero_of_no_sems (by decide) _⟩) (Cert.FfnRefIdeal.Value.run m g)

/-- The mixing and routing call at the ideal reading: from memories with the same arguments, all of them finite, kernel and
reference both finish with the same three result arrays. -/
theorem mix_algebraic : Cert.algebraic_MixIdeal_MixRefIdeal_pre_finite_args := by
  pair_intro
  · run_from Cert.MixIdeal.Value.run_blocks m g
  · refine Idealize.ShloMosaic.θ_run_mono (Cert.MixRefIdeal.Value.run m' g') ?_
    intro r hr c
    obtain ⟨a0, a1, a2, a3, a4, a5, a6, a7, a8, a9⟩ := hagree c
    obtain ⟨v0, v1, v2, kept⟩ := hr c
    obtain ⟨h0, h1, h2, h3, h4, h5, h6, h7, h8, h9⟩ := Cert.Pre_finite_args.real _ _ _ _ _ _ _ _ _ _ (hpre c)
    refine ⟨v0.trans ?_, v1.trans ?_, v2.trans ?_, kept⟩
    · refine (Cert.MixRefIdeal.Read.val_main_v21_eq _ _ _ _ _ _ _ _).trans (Eq.trans ?_ (Cert.MixIdeal.Value.final13 m c).symm)
      rw [a0, a1, a2, a3, a4, a5, a6, a7]
    · refine (Cert.MixRefIdeal.Read.val_main_v49_eq m' c).trans (Eq.trans ?_ (Cert.MixIdeal.Value.final14 m c
        (Cert.MixRefIdeal.Finite.v46_real _ _ _ _ _ _ _ _ _ _ h0 h1 h2 h3 h4 h5 h6 h7 h8 h9)).symm)
      rw [a0, a1, a2, a3, a4, a5, a6, a7, a8, a9]
    · refine (Cert.MixRefIdeal.Read.val_main_v50_eq m' c).trans (Eq.trans ?_ (Cert.MixIdeal.Value.final15 m c).symm)
      rw [a0, a1, a2, a3, a4, a5, a6, a7, a8, a9]

/-- The projection at the ideal reading: kernel and reference, from memories with the same arguments, both finish with the same result array. -/
theorem inproj_algebraic : Cert.algebraic_InprojIdeal_InprojRefIdeal := by
  pair_intro
  · run_from Cert.InprojIdeal.Value.run_blocks m g
  · run_from Cert.InprojRefIdeal.Value.run m' g'
    obtain ⟨h0, h1, h2, h3⟩ := hagree c
    refine (Cert.InprojRefIdeal.Read.val_main_v66_eq m' c).trans (Eq.trans ?_ (Cert.InprojIdeal.Value.final m c).symm)
    rw [h0, h1, h2, h3]

/-- The expert feed-forward at the ideal reading: kernel and reference, from memories with the same arguments, both finish with the same result array. -/
theorem ffn_algebraic : Cert.algebraic_FfnIdeal_FfnRefIdeal := by
  pair_intro
  · run_from Cert.FfnIdeal.Value.run_blocks m g
  · run_from Cert.FfnRefIdeal.Value.run m' g'
    exact (Cert.FfnIdeal.Value.final m c).symm

/-- The lower bounds' reference runs to the end and leaves its argument alone. -/
theorem lbRef_frame : Cert.quiescent_LbRefIdeal := fun m g _ =>
  (θ_run _ _ _).mono (fun r h => ⟨fun c => (h c).2, sem_eq_zero_of_no_sems (by decide) _⟩) (Cert.LbRefIdeal.Value.run m g)

/-- The lower bounds at the ideal reading: from memories with the same logits, all of them finite, kernel and reference both
finish with the same array. -/
theorem lb_algebraic : Cert.algebraic_LbIdeal_LbRefIdeal_pre_finite_logits := by
  intro m g m' g' hpre hagree
  refine ⟨fun c => Cert.LbIdeal.Value.G1 (F := Ideal) (m ((c.tc : Thread Cert.LbIdeal.nD Cert.LbIdeal.τ).loc Cert.LbIdeal.main_arg0)), Cert.LbIdeal.Value.run m g, ?_⟩
  refine Idealize.ShloMosaic.θ_run_mono (Cert.LbRefIdeal.Value.run m' g') ?_
  intro r hr c
  obtain ⟨v0, kept⟩ := hr c
  refine ⟨v0.trans ?_, kept⟩
  refine (Cert.LbRefIdeal.Read.val_main_v14_eq _).trans ?_
  rw [hagree c]
  exact (Cert.LbIdeal.Value.bounds _ (Cert.Pre_finite_logits.real _ (hpre c))).symm

/-- The recurrence's reference runs to the end and leaves its arguments alone. -/
theorem hgrnRef_frame : Cert.quiescent_HgrnRefIdeal := fun m g _ =>
  (θ_run _ _ _).mono (fun r h => ⟨fun c => (h c).2, sem_eq_zero_of_no_sems (by decide) _⟩) (Cert.HgrnRefIdeal.Value.run m g)

/-- The recurrence at the ideal reading: from memories with the same arguments, the queries, values and gates finite and the lower bounds from
0 to 1, kernel and reference both finish with the same array. -/
theorem hgrn_algebraic : Cert.algebraic_HgrnIdeal_HgrnRefIdeal_pre_bounds_in_unit := by
  intro m g m' g' hpre hagree
  have hg : ∀ c, Cert.HgrnIdeal.ScanValue.Good m c := fun c => by
    obtain ⟨hz, hl⟩ := Cert.Pre_bounds_in_unit.real _ _ _ (hpre c)
    exact ⟨hz, fun i => (hl i).1, fun i => (hl i).2⟩
  refine ⟨fun c => Cert.HgrnIdeal.ScanValue.res m c, Cert.HgrnIdeal.ScanValue.run m g hg, ?_⟩
  refine Idealize.ShloMosaic.θ_run_mono (Cert.HgrnRefIdeal.Value.run m' g') ?_
  intro r hr c
  obtain ⟨v0, kept⟩ := hr c
  obtain ⟨a0, a1, a2⟩ := hagree c
  refine ⟨v0.trans ?_, kept⟩
  exact (Cert.HgrnRefIdeal.Read.val_main_v137_eq _).trans (Cert.HgrnIdeal.ScanValue.res_of m c a0 a1 a2)

/-- The selection's reference runs to the end and leaves its argument alone. -/
theorem selectRef_frame : Cert.quiescent_SelectRefIdeal := fun m g _ =>
  (θ_run _ _ _).mono (fun r h => ⟨fun c => (h c).2.2, sem_eq_zero_of_no_sems (by decide) _⟩) (Cert.SelectRefIdeal.Value.run m g)

/-- The selection at the ideal reading: from memories with the same words, none negative and none the largest, kernel and
reference both finish with the same positions and the same chunk counts. -/
theorem select_algebraic : Cert.algebraic_SelectIdeal_SelectRefIdeal_pre_words_in_range := by
  intro m g m' g' hpre hagree
  have hx : ∀ c, Cert.SelectIdeal.Pick.Below (Cert.SelectIdeal.PickValue.words m c) := fun c => Cert.Pre_words_in_range.real _ (hpre c)
  refine ⟨fun c => Cert.SelectIdeal.PickValue.posArr m c, fun c => Cert.SelectIdeal.PickValue.offArr m c, Cert.SelectIdeal.PickValue.run m g hx, ?_⟩
  refine Idealize.ShloMosaic.θ_run_mono (Cert.SelectRefIdeal.Value.run m' g') ?_
  intro r hr c
  obtain ⟨v0, v1, kept⟩ := hr c
  have hw : m' ((c.tc : Thread Cert.SelectRefIdeal.nD Cert.SelectRefIdeal.τ).loc Cert.SelectRefIdeal.main_arg0) = Cert.SelectIdeal.PickValue.words m c := hagree c
  refine ⟨v0.trans ?_, v1.trans ?_, kept⟩
  · refine (Cert.SelectRefIdeal.Read.val_main_v28_eq _).trans ?_
    rw [hw]
    exact Cert.SelectRefIdeal.Count.pos_all _ (hx c)
  · refine (Cert.SelectRefIdeal.Read.val_main_v47_eq _).trans ?_
    rw [hw]
    exact Cert.SelectRefIdeal.Count.off_all _ (hx c)

/-- Every claim: the frames of the programs and references, and the values. -/
theorem claim : Cert.Claim := ⟨Cert.Mix.Gen.facts, Cert.MixIdeal.Gen.facts, Cert.MixRefIdeal.Gen.facts, Cert.Inproj.Gen.facts, Cert.InprojIdeal.Gen.facts, Cert.InprojRefIdeal.Gen.facts, Cert.Ffn.Gen.facts, Cert.FfnIdeal.Gen.facts, Cert.FfnRefIdeal.Gen.facts,
  Cert.Lb.Gen.facts, Cert.LbIdeal.Gen.facts, Cert.LbRefIdeal.Gen.facts, Cert.Hgrn.Gen.facts, Cert.HgrnIdeal.Gen.facts, Cert.HgrnRefIdeal.Gen.facts, Cert.Select.Gen.facts, Cert.SelectIdeal.Gen.facts, Cert.SelectRefIdeal.Gen.facts, Cert.Pre_finite_args.facts, Cert.Pre_finite_logits.facts, Cert.Pre_bounds_in_unit.facts, Cert.Pre_words_in_range.facts,
  fun m ρ _ => Cert.Mix.Gen.frame m ρ, fun m ρ _ => Cert.MixIdeal.Gen.frame m ρ, fun m ρ _ => Cert.MixIdeal.Gen.frame m ρ, mixRef_frame, fun m g _ => mixRef_frame m g trivial,
  fun m ρ _ => Cert.Inproj.Gen.frame m ρ, fun m ρ _ => Cert.InprojIdeal.Gen.frame m ρ, inprojRef_frame,
  fun m ρ _ => Cert.Ffn.Gen.frame m ρ, fun m ρ _ => Cert.FfnIdeal.Gen.frame m ρ, ffnRef_frame,
  fun m ρ _ => Cert.Lb.Gen.frame m ρ, fun m ρ _ => Cert.LbIdeal.Gen.frame m ρ, fun m ρ _ => Cert.LbIdeal.Gen.frame m ρ, lbRef_frame, fun m g _ => lbRef_frame m g trivial,
  fun m ρ _ => Cert.Hgrn.Foot.frame m ρ, fun m ρ _ => Cert.HgrnIdeal.Foot.frame m ρ, fun m ρ _ => Cert.HgrnIdeal.Foot.frame m ρ, hgrnRef_frame, fun m g _ => hgrnRef_frame m g trivial,
  fun m ρ _ => Cert.Select.Foot.frame m ρ, fun m ρ _ => Cert.SelectIdeal.Foot.frame m ρ, fun m ρ _ => Cert.SelectIdeal.Foot.frame m ρ, selectRef_frame, fun m g _ => selectRef_frame m g trivial,
  trivial, mix_algebraic, trivial, inproj_algebraic, trivial, ffn_algebraic, trivial, lb_algebraic, trivial, hgrn_algebraic, trivial, select_algebraic⟩

end Cert.Proof

end
